-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_norms [hPre_regular_norms : Cert.Pre_regular_norms.Facts] (m : (ℓ : Loc Cert.KernelIdeal.nD Cert.KernelIdeal.τ Cert.KernelIdeal.sig) → Buf (Elt Ideal) ℓ) : Prop :=
  ∀ c : Dev Cert.KernelIdeal.nD,
    (Cert.Pre_regular_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_norms [hPre_regular_norms : Cert.Pre_regular_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_regular_norms [hKernelIdeal : Cert.KernelIdeal.Facts] [hPre_regular_norms : Cert.Pre_regular_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_regular_norms [hReferenceIdeal : Cert.ReferenceIdeal.Facts] [hPre_regular_norms : Cert.Pre_regular_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_hw" .f32 0x39A72F05#32 ((1 / 3136 : ℝ) : EReal)

def algebraic_KernelIdeal_ReferenceIdeal_pre_regular_norms [hKernelIdeal : Cert.KernelIdeal.Facts] [hReferenceIdeal : Cert.ReferenceIdeal.Facts] [hPre_regular_norms : Cert.Pre_regular_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v682) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_regular_norms : Cert.Pre_regular_norms.Facts),
    quiescent_Kernel (hKernel := hKernel)
    ∧ quiescent_KernelIdeal (hKernelIdeal := hKernelIdeal)
    ∧ quiescent_KernelIdeal_pre_regular_norms (hKernelIdeal := hKernelIdeal) (hPre_regular_norms := hPre_regular_norms)
    ∧ quiescent_ReferenceIdeal (hReferenceIdeal := hReferenceIdeal)
    ∧ quiescent_ReferenceIdeal_pre_regular_norms (hReferenceIdeal := hReferenceIdeal) (hPre_regular_norms := hPre_regular_norms)
    ∧ preserves_Kernel_KernelIdeal
    ∧ algebraic_KernelIdeal_ReferenceIdeal_pre_regular_norms (hKernelIdeal := hKernelIdeal) (hReferenceIdeal := hReferenceIdeal) (hPre_regular_norms := hPre_regular_norms)
-- ==== Pre_regular_norms.lean ====
abbrev S32x3x224x224 : Shape := ⟨4, ![32, 3, 224, 224]⟩
abbrev S64x3x7x7 : Shape := ⟨4, ![64, 3, 7, 7]⟩
abbrev S4x64 : Shape := ⟨2, ![4, 64]⟩
abbrev S64x64x3x3 : Shape := ⟨4, ![64, 64, 3, 3]⟩
abbrev S16x64 : Shape := ⟨2, ![16, 64]⟩
abbrev S16 : Shape := ⟨1, ![16]⟩
abbrev S16x1024x64 : Shape := ⟨3, ![16, 1024, 64]⟩
abbrev S16x1024 : Shape := ⟨2, ![16, 1024]⟩
abbrev S1x64 : Shape := ⟨2, ![1, 64]⟩
abbrev S_ : Shape := ⟨0, ![]⟩

class Facts : Prop where
  slices_S4x64_S1x64_0_0 : S4x64.Slices ![0, 0] S1x64
  bcast_S_S1x64 : S_.BroadcastsInDim S1x64 (![] : Fin 0 → Fin S1x64.rank)
  slices_S4x64_S1x64_2_0 : S4x64.Slices ![2, 0] S1x64
  slices_S4x64_S1x64_3_0 : S4x64.Slices ![3, 0] S1x64

variable [Facts]

def fn_part4 {F : FTy → Type} [FloatOps F] (main_v55 : IVec S1x64 1) (main_v59 : IVec S1x64 1) (main_v64 : IVec S1x64 1) (main_v75 : IVec S1x64 1) : IVec S1x64 1 :=
  let main_v76 : IVec S1x64 1 := andi main_v75 main_v55
  let main_v77 : IVec S1x64 1 := andi main_v76 main_v59
  let main_v78 : IVec S1x64 1 := andi main_v77 main_v64
  main_v78

def fn_part3 {F : FTy → Type} [FloatOps F] (main_arg10 : FVec F S4x64 .f32) (main_v3 : IVec S1x64 1) (main_v7 : IVec S1x64 1) (main_v12 : IVec S1x64 1) (main_v16 : IVec S1x64 1) (main_v20 : IVec S1x64 1) (main_v25 : IVec S1x64 1) (main_v29 : IVec S1x64 1) (main_v33 : IVec S1x64 1) (main_v38 : IVec S1x64 1) (main_v42 : IVec S1x64 1) (main_v46 : IVec S1x64 1) (main_v51 : IVec S1x64 1) (main_v53 : FVec F S1x64 .f32) (main_v54 : FVec F S1x64 .f32) : IVec S1x64 1 :=
  let main_v55 : IVec S1x64 1 := cmpf .olt main_v53 main_v54
  let main_v56 : FVec F S1x64 .f32 := (extractStridedSlice S1x64 ![2, 0] · slices_S4x64_S1x64_2_0) main_arg10
  let main_v57 : FVec F S1x64 .f32 := Host.absf main_v56
  let main_cst_16 : FVec F S_ .f32 := constant S_ .f32 0x7F800000#32
  let main_v58 : FVec F S1x64 .f32 := broadcastInDim S1x64 ![] bcast_S_S1x64 main_cst_16
  let main_v59 : IVec S1x64 1 := cmpf .olt main_v57 main_v58
  let main_v60 : FVec F S1x64 .f32 := (extractStridedSlice S1x64 ![3, 0] · slices_S4x64_S1x64_3_0) main_arg10
  let main_cst_17 : FVec F S_ .f32 := constant S_ .f32 0x3727C5AC#32
  let main_v61 : FVec F S1x64 .f32 := broadcastInDim S1x64 ![] bcast_S_S1x64 main_cst_17
  let main_v62 : FVec F S1x64 .f32 := addf main_v60 main_v61
  let main_cst_18 : FVec F S_ .f32 := constant S_ .f32 0x00000000#32
  let main_v63 : FVec F S1x64 .f32 := broadcastInDim S1x64 ![] bcast_S_S1x64 main_cst_18
  let main_v64 : IVec S1x64 1 := cmpf .ogt main_v62 main_v63
  let main_v65 : IVec S1x64 1 := andi main_v3 main_v7
  let main_v66 : IVec S1x64 1 := andi main_v65 main_v12
  let main_v67 : IVec S1x64 1 := andi main_v66 main_v16
  let main_v68 : IVec S1x64 1 := andi main_v67 main_v20
  let main_v69 : IVec S1x64 1 := andi main_v68 main_v25
  let main_v70 : IVec S1x64 1 := andi main_v69 main_v29
  let main_v71 : IVec S1x64 1 := andi main_v70 main_v33
  let main_v72 : IVec S1x64 1 := andi main_v71 main_v38
  let main_v73 : IVec S1x64 1 := andi main_v72 main_v42
  let main_v74 : IVec S1x64 1 := andi main_v73 main_v46
  let main_v75 : IVec S1x64 1 := andi main_v74 main_v51
  fn_part4 (F := F) main_v55 main_v59 main_v64 main_v75

def fn_part2 {F : FTy → Type} [FloatOps F] (main_arg8 : FVec F S4x64 .f32) (main_arg10 : FVec F S4x64 .f32) (main_v3 : IVec S1x64 1) (main_v7 : IVec S1x64 1) (main_v12 : IVec S1x64 1) (main_v16 : IVec S1x64 1) (main_v20 : IVec S1x64 1) (main_v25 : IVec S1x64 1) (main_v29 : IVec S1x64 1) (main_v33 : IVec S1x64 1) (main_v36 : FVec F S1x64 .f32) : IVec S1x64 1 :=
  let main_cst_10 : FVec F S_ .f32 := constant S_ .f32 0x00000000#32
  let main_v37 : FVec F S1x64 .f32 := broadcastInDim S1x64 ![] bcast_S_S1x64 main_cst_10
  let main_v38 : IVec S1x64 1 := cmpf .ogt main_v36 main_v37
  let main_v39 : FVec F S1x64 .f32 := (extractStridedSlice S1x64 ![0, 0] · slices_S4x64_S1x64_0_0) main_arg8
  let main_v40 : FVec F S1x64 .f32 := Host.absf main_v39
  let main_cst_11 : FVec F S_ .f32 := constant S_ .f32 0x7F800000#32
  let main_v41 : FVec F S1x64 .f32 := broadcastInDim S1x64 ![] bcast_S_S1x64 main_cst_11
  let main_v42 : IVec S1x64 1 := cmpf .olt main_v40 main_v41
  let main_v43 : FVec F S1x64 .f32 := (extractStridedSlice S1x64 ![2, 0] · slices_S4x64_S1x64_2_0) main_arg8
  let main_v44 : FVec F S1x64 .f32 := Host.absf main_v43
  let main_cst_12 : FVec F S_ .f32 := constant S_ .f32 0x7F800000#32
  let main_v45 : FVec F S1x64 .f32 := broadcastInDim S1x64 ![] bcast_S_S1x64 main_cst_12
  let main_v46 : IVec S1x64 1 := cmpf .olt main_v44 main_v45
  let main_v47 : FVec F S1x64 .f32 := (extractStridedSlice S1x64 ![3, 0] · slices_S4x64_S1x64_3_0) main_arg8
  let main_cst_13 : FVec F S_ .f32 := constant S_ .f32 0x3727C5AC#32
  let main_v48 : FVec F S1x64 .f32 := broadcastInDim S1x64 ![] bcast_S_S1x64 main_cst_13
  let main_v49 : FVec F S1x64 .f32 := addf main_v47 main_v48
  let main_cst_14 : FVec F S_ .f32 := constant S_ .f32 0x00000000#32
  let main_v50 : FVec F S1x64 .f32 := broadcastInDim S1x64 ![] bcast_S_S1x64 main_cst_14
  let main_v51 : IVec S1x64 1 := cmpf .ogt main_v49 main_v50
  let main_v52 : FVec F S1x64 .f32 := (extractStridedSlice S1x64 ![0, 0] · slices_S4x64_S1x64_0_0) main_arg10
  let main_v53 : FVec F S1x64 .f32 := Host.absf main_v52
  let main_cst_15 : FVec F S_ .f32 := constant S_ .f32 0x7F800000#32
  let main_v54 : FVec F S1x64 .f32 := broadcastInDim S1x64 ![] bcast_S_S1x64 main_cst_15
  fn_part3 (F := F) main_arg10 main_v3 main_v7 main_v12 main_v16 main_v20 main_v25 main_v29 main_v33 main_v38 main_v42 main_v46 main_v51 main_v53 main_v54

def fn_part1 {F : FTy → Type} [FloatOps F] (main_arg4 : FVec F S4x64 .f32) (main_arg6 : FVec F S4x64 .f32) (main_arg8 : FVec F S4x64 .f32) (main_arg10 : FVec F S4x64 .f32) (main_v3 : IVec S1x64 1) (main_v7 : IVec S1x64 1) (main_v12 : IVec S1x64 1) (main_v16 : IVec S1x64 1) (main_v18 : FVec F S1x64 .f32) : IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := (extractStridedSlice S1x64 ![3, 0] · slices_S4x64_S1x64_3_0) main_arg4
  let main_cst_5 : FVec F S_ .f32 := constant S_ .f32 0x3727C5AC#32
  let main_v22 : FVec F S1x64 .f32 := broadcastInDim S1x64 ![] bcast_S_S1x64 main_cst_5
  let main_v23 : FVec F S1x64 .f32 := addf main_v21 main_v22
  let main_cst_6 : FVec F S_ .f32 := constant S_ .f32 0x00000000#32
  let main_v24 : FVec F S1x64 .f32 := broadcastInDim S1x64 ![] bcast_S_S1x64 main_cst_6
  let main_v25 : IVec S1x64 1 := cmpf .ogt main_v23 main_v24
  let main_v26 : FVec F S1x64 .f32 := (extractStridedSlice S1x64 ![0, 0] · slices_S4x64_S1x64_0_0) main_arg6
  let main_v27 : FVec F S1x64 .f32 := Host.absf main_v26
  let main_cst_7 : FVec F S_ .f32 := constant S_ .f32 0x7F800000#32
  let main_v28 : FVec F S1x64 .f32 := broadcastInDim S1x64 ![] bcast_S_S1x64 main_cst_7
  let main_v29 : IVec S1x64 1 := cmpf .olt main_v27 main_v28
  let main_v30 : FVec F S1x64 .f32 := (extractStridedSlice S1x64 ![2, 0] · slices_S4x64_S1x64_2_0) main_arg6
  let main_v31 : FVec F S1x64 .f32 := Host.absf main_v30
  let main_cst_8 : FVec F S_ .f32 := constant S_ .f32 0x7F800000#32
  let main_v32 : FVec F S1x64 .f32 := broadcastInDim S1x64 ![] bcast_S_S1x64 main_cst_8
  let main_v33 : IVec S1x64 1 := cmpf .olt main_v31 main_v32
  let main_v34 : FVec F S1x64 .f32 := (extractStridedSlice S1x64 ![3, 0] · slices_S4x64_S1x64_3_0) main_arg6
  let main_cst_9 : FVec F S_ .f32 := constant S_ .f32 0x3727C5AC#32
  let main_v35 : FVec F S1x64 .f32 := broadcastInDim S1x64 ![] bcast_S_S1x64 main_cst_9
  let main_v36 : FVec F S1x64 .f32 := addf main_v34 main_v35
  fn_part2 (F := F) main_arg8 main_arg10 main_v3 main_v7 main_v12 main_v16 main_v20 main_v25 main_v29 main_v33 main_v36

def fn {F : FTy → Type} [FloatOps F] (main_arg0 : FVec F S32x3x224x224 .f32) (main_arg1 : FVec F S64x3x7x7 .f32) (main_arg2 : FVec F S4x64 .f32) (main_arg3 : FVec F S64x64x3x3 .f32) (main_arg4 : FVec F S4x64 .f32) (main_arg5 : FVec F S64x64x3x3 .f32) (main_arg6 : FVec F S4x64 .f32) (main_arg7 : FVec F S64x64x3x3 .f32) (main_arg8 : FVec F S4x64 .f32) (main_arg9 : FVec F S64x64x3x3 .f32) (main_arg10 : FVec F S4x64 .f32) (main_arg11 : FVec F S16x64 .f32) (main_arg12 : FVec F S16 .f32) (main_arg13 : FVec F S16x1024x64 .f32) (main_arg14 : FVec F S16x1024 .f32) : IVec S1x64 1 :=
  let main_v0 : FVec F S1x64 .f32 := (extractStridedSlice S1x64 ![0, 0] · slices_S4x64_S1x64_0_0) main_arg2
  let main_v1 : FVec F S1x64 .f32 := Host.absf main_v0
  let main_cst : FVec F S_ .f32 := constant S_ .f32 0x7F800000#32
  let main_v2 : FVec F S1x64 .f32 := broadcastInDim S1x64 ![] bcast_S_S1x64 main_cst
  let main_v3 : IVec S1x64 1 := cmpf .olt main_v1 main_v2
  let main_v4 : FVec F S1x64 .f32 := (extractStridedSlice S1x64 ![2, 0] · slices_S4x64_S1x64_2_0) main_arg2
  let main_v5 : FVec F S1x64 .f32 := Host.absf main_v4
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_v8 : FVec F S1x64 .f32 := (extractStridedSlice S1x64 ![3, 0] · slices_S4x64_S1x64_3_0) main_arg2
  let main_cst_1 : FVec F S_ .f32 := constant S_ .f32 0x3727C5AC#32
  let main_v9 : FVec F S1x64 .f32 := broadcastInDim S1x64 ![] bcast_S_S1x64 main_cst_1
  let main_v10 : FVec F S1x64 .f32 := addf main_v8 main_v9
  let main_cst_2 : FVec F S_ .f32 := constant S_ .f32 0x00000000#32
  let main_v11 : FVec F S1x64 .f32 := broadcastInDim S1x64 ![] bcast_S_S1x64 main_cst_2
  let main_v12 : IVec S1x64 1 := cmpf .ogt main_v10 main_v11
  let main_v13 : FVec F S1x64 .f32 := (extractStridedSlice S1x64 ![0, 0] · slices_S4x64_S1x64_0_0) main_arg4
  let main_v14 : FVec F S1x64 .f32 := Host.absf main_v13
  let main_cst_3 : FVec F S_ .f32 := constant S_ .f32 0x7F800000#32
  let main_v15 : FVec F S1x64 .f32 := broadcastInDim S1x64 ![] bcast_S_S1x64 main_cst_3
  let main_v16 : IVec S1x64 1 := cmpf .olt main_v14 main_v15
  let main_v17 : FVec F S1x64 .f32 := (extractStridedSlice S1x64 ![2, 0] · slices_S4x64_S1x64_2_0) main_arg4
  let main_v18 : FVec F S1x64 .f32 := Host.absf main_v17
  fn_part1 (F := F) main_arg4 main_arg6 main_arg8 main_arg10 main_v3 main_v7 main_v12 main_v16 main_v18
-- ==== Kernel.lean ====
abbrev S32x3x224x224 : Shape := ⟨4, ![32, 3, 224, 224]⟩
abbrev S64x3x7x7 : Shape := ⟨4, ![64, 3, 7, 7]⟩
abbrev S4x64 : Shape := ⟨2, ![4, 64]⟩
abbrev S64x64x3x3 : Shape := ⟨4, ![64, 64, 3, 3]⟩
abbrev S16x64 : Shape := ⟨2, ![16, 64]⟩
abbrev S16 : Shape := ⟨1, ![16]⟩
abbrev S16x1024x64 : Shape := ⟨3, ![16, 1024, 64]⟩
abbrev S16x1024 : Shape := ⟨2, ![16, 1024]⟩
abbrev S32x3x56x4x56x4 : Shape := ⟨6, ![32, 3, 56, 4, 56, 4]⟩
abbrev S32x56x56x3x4x4 : Shape := ⟨6, ![32, 56, 56, 3, 4, 4]⟩
abbrev S32x3136x48 : Shape := ⟨3, ![32, 3136, 48]⟩
abbrev S_ : Shape := ⟨0, ![]⟩
abbrev S32x3136x64 : Shape := ⟨3, ![32, 3136, 64]⟩
abbrev S1x64 : Shape := ⟨2, ![1, 64]⟩
abbrev S64 : Shape := ⟨1, ![64]⟩
abbrev S256 : Shape := ⟨1, ![256]⟩
abbrev S1x256 : Shape := ⟨2, ![1, 256]⟩
abbrev S2x256 : Shape := ⟨2, ![2, 256]⟩
abbrev S8x64 : Shape := ⟨2, ![8, 64]⟩
abbrev S64x4x12x12 : Shape := ⟨4, ![64, 4, 12, 12]⟩
abbrev S64x4x3x4x3x4 : Shape := ⟨6, ![64, 4, 3, 4, 3, 4]⟩
abbrev S3x3x4x4x4x64 : Shape := ⟨6, ![3, 3, 4, 4, 4, 64]⟩
abbrev S9x64x64 : Shape := ⟨3, ![9, 64, 64]⟩
abbrev S9x64x1x64 : Shape := ⟨4, ![9, 64, 1, 64]⟩
abbrev S9x64x4x64 : Shape := ⟨4, ![9, 64, 4, 64]⟩
abbrev S576x256 : Shape := ⟨2, ![576, 256]⟩
abbrev S3x3x64x64 : Shape := ⟨4, ![3, 3, 64, 64]⟩
abbrev S576x64 : Shape := ⟨2, ![576, 64]⟩
abbrev S32x1x64 : Shape := ⟨3, ![32, 1, 64]⟩
abbrev S1x3136x64 : Shape := ⟨3, ![1, 3136, 64]⟩
abbrev S1x1x64 : Shape := ⟨3, ![1, 1, 64]⟩
abbrev S3264x64 : Shape := ⟨2, ![3264, 64]⟩
abbrev S3136x576 : Shape := ⟨2, ![3136, 576]⟩
abbrev S4x3264x64 : Shape := ⟨3, ![4, 3264, 64]⟩
abbrev S3136x64 : Shape := ⟨2, ![3136, 64]⟩
abbrev S64x64 : Shape := ⟨2, ![64, 64]⟩
abbrev S1x64x64 : Shape := ⟨3, ![1, 64, 64]⟩
abbrev S3136x256 : Shape := ⟨2, ![3136, 256]⟩
abbrev S32x64 : Shape := ⟨2, ![32, 64]⟩
abbrev S64x16x1024 : Shape := ⟨3, ![64, 16, 1024]⟩
abbrev S64x16384 : Shape := ⟨2, ![64, 16384]⟩
abbrev S1x16384 : Shape := ⟨2, ![1, 16384]⟩
abbrev S1x16 : Shape := ⟨2, ![1, 16]⟩
abbrev S32x1024 : Shape := ⟨2, ![32, 1024]⟩
abbrev S32x16 : Shape := ⟨2, ![32, 16]⟩
abbrev S32 : Shape := ⟨1, ![32]⟩
abbrev S32x1 : Shape := ⟨2, ![32, 1]⟩
abbrev S32x16384 : Shape := ⟨2, ![32, 16384]⟩

abbrev nBuf : Space → Nat
  | .hbm => 164
  | .vmem => 20
  | .smem => 0
  | _ => 0

abbrev hbmTy0_0 (i : Nat) : BufTy := match i % 128 with
  | 0 => ⟨S32x3x224x224, .f32⟩
  | 1 => ⟨S64x3x7x7, .f32⟩
  | 2 => ⟨S4x64, .f32⟩
  | 3 => ⟨S64x64x3x3, .f32⟩
  | 4 => ⟨S4x64, .f32⟩
  | 5 => ⟨S64x64x3x3, .f32⟩
  | 6 => ⟨S4x64, .f32⟩
  | 7 => ⟨S64x64x3x3, .f32⟩
  | 8 => ⟨S4x64, .f32⟩
  | 9 => ⟨S64x64x3x3, .f32⟩
  | 10 => ⟨S4x64, .f32⟩
  | 11 => ⟨S16x64, .f32⟩
  | 12 => ⟨S16, .f32⟩
  | 13 => ⟨S16x1024x64, .f32⟩
  | 14 => ⟨S16x1024, .f32⟩
  | 15 => ⟨S32x3x56x4x56x4, .f32⟩
  | 16 => ⟨S32x56x56x3x4x4, .f32⟩
  | 17 => ⟨S32x3136x48, .f32⟩
  | 18 => ⟨S_, .i32⟩
  | 19 => ⟨S_, .f32⟩
  | 20 => ⟨S32x3136x64, .f32⟩
  | 21 => ⟨S1x64, .f32⟩
  | 22 => ⟨S64, .f32⟩
  | 23 => ⟨S1x64, .f32⟩
  | 24 => ⟨S64, .f32⟩
  | 25 => ⟨S_, .f32⟩
  | 26 => ⟨S64, .f32⟩
  | 27 => ⟨S64, .f32⟩
  | 28 => ⟨S64, .f32⟩
  | 29 => ⟨S64, .f32⟩
  | 30 => ⟨S1x64, .f32⟩
  | 31 => ⟨S64, .f32⟩
  | 32 => ⟨S1x64, .f32⟩
  | 33 => ⟨S64, .f32⟩
  | 34 => ⟨S64, .f32⟩
  | 35 => ⟨S64, .f32⟩
  | 36 => ⟨S1x64, .f32⟩
  | 37 => ⟨S4x64, .f32⟩
  | 38 => ⟨S256, .f32⟩
  | 39 => ⟨S1x256, .f32⟩
  | 40 => ⟨S1x64, .f32⟩
  | 41 => ⟨S4x64, .f32⟩
  | 42 => ⟨S256, .f32⟩
  | 43 => ⟨S1x256, .f32⟩
  | 44 => ⟨S2x256, .f32⟩
  | 45 => ⟨S1x64, .f32⟩
  | 46 => ⟨S64, .f32⟩
  | 47 => ⟨S1x64, .f32⟩
  | 48 => ⟨S64, .f32⟩
  | 49 => ⟨S_, .f32⟩
  | 50 => ⟨S64, .f32⟩
  | 51 => ⟨S64, .f32⟩
  | 52 => ⟨S64, .f32⟩
  | 53 => ⟨S64, .f32⟩
  | 54 => ⟨S1x64, .f32⟩
  | 55 => ⟨S64, .f32⟩
  | 56 => ⟨S1x64, .f32⟩
  | 57 => ⟨S64, .f32⟩
  | 58 => ⟨S64, .f32⟩
  | 59 => ⟨S64, .f32⟩
  | 60 => ⟨S1x64, .f32⟩
  | 61 => ⟨S64, .f32⟩
  | 62 => ⟨S1x64, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S1x64, .f32⟩
  | 70 => ⟨S64, .f32⟩
  | 71 => ⟨S1x64, .f32⟩
  | 72 => ⟨S64, .f32⟩
  | 73 => ⟨S64, .f32⟩
  | 74 => ⟨S64, .f32⟩
  | 75 => ⟨S1x64, .f32⟩
  | 76 => ⟨S64, .f32⟩
  | 77 => ⟨S1x64, .f32⟩
  | 78 => ⟨S64, .f32⟩
  | 79 => ⟨S_, .f32⟩
  | 80 => ⟨S64, .f32⟩
  | 81 => ⟨S64, .f32⟩
  | 82 => ⟨S64, .f32⟩
  | 83 => ⟨S64, .f32⟩
  | 84 => ⟨S1x64, .f32⟩
  | 85 => ⟨S64, .f32⟩
  | 86 => ⟨S1x64, .f32⟩
  | 87 => ⟨S64, .f32⟩
  | 88 => ⟨S64, .f32⟩
  | 89 => ⟨S64, .f32⟩
  | 90 => ⟨S1x64, .f32⟩
  | 91 => ⟨S64, .f32⟩
  | 92 => ⟨S1x64, .f32⟩
  | 93 => ⟨S64, .f32⟩
  | 94 => ⟨S_, .f32⟩
  | 95 => ⟨S64, .f32⟩
  | 96 => ⟨S64, .f32⟩
  | 97 => ⟨S64, .f32⟩
  | 98 => ⟨S64, .f32⟩
  | 99 => ⟨S1x64, .f32⟩
  | 100 => ⟨S64, .f32⟩
  | 101 => ⟨S1x64, .f32⟩
  | 102 => ⟨S64, .f32⟩
  | 103 => ⟨S64, .f32⟩
  | 104 => ⟨S64, .f32⟩
  | 105 => ⟨S1x64, .f32⟩
  | 106 => ⟨S1x64, .f32⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S8x64, .f32⟩
  | 114 => ⟨S_, .i32⟩
  | 115 => ⟨S_, .f32⟩
  | 116 => ⟨S64x4x12x12, .f32⟩
  | 117 => ⟨S64x4x3x4x3x4, .f32⟩
  | 118 => ⟨S3x3x4x4x4x64, .f32⟩
  | 119 => ⟨S9x64x64, .f32⟩
  | 120 => ⟨S_, .i32⟩
  | 121 => ⟨S_, .f32⟩
  | 122 => ⟨S64x4x12x12, .f32⟩
  | 123 => ⟨S64x4x3x4x3x4, .f32⟩
  | 124 => ⟨S3x3x4x4x4x64, .f32⟩
  | 125 => ⟨S9x64x64, .f32⟩
  | 126 => ⟨S_, .i32⟩
  | 127 => ⟨S_, .f32⟩
  | _ => ⟨S32x3x224x224, .f32⟩

abbrev hbmTy0_1 (i : Nat) : BufTy := match i % 128 with
  | 0 => ⟨S64x4x12x12, .f32⟩
  | 1 => ⟨S64x4x3x4x3x4, .f32⟩
  | 2 => ⟨S3x3x4x4x4x64, .f32⟩
  | 3 => ⟨S9x64x64, .f32⟩
  | 4 => ⟨S_, .i32⟩
  | 5 => ⟨S_, .f32⟩
  | 6 => ⟨S64x4x12x12, .f32⟩
  | 7 => ⟨S64x4x3x4x3x4, .f32⟩
  | 8 => ⟨S3x3x4x4x4x64, .f32⟩
  | 9 => ⟨S9x64x64, .f32⟩
  | 10 => ⟨S9x64x1x64, .f32⟩
  | 11 => ⟨S9x64x1x64, .f32⟩
  | 12 => ⟨S9x64x1x64, .f32⟩
  | 13 => ⟨S9x64x1x64, .f32⟩
  | 14 => ⟨S9x64x4x64, .f32⟩
  | 15 => ⟨S576x256, .f32⟩
  | 16 => ⟨S576x256, .bf16⟩
  | 17 => ⟨S3x3x64x64, .f32⟩
  | 18 => ⟨S576x64, .f32⟩
  | 19 => ⟨S576x64, .bf16⟩
  | 20 => ⟨S3x3x64x64, .f32⟩
  | 21 => ⟨S576x64, .f32⟩
  | 22 => ⟨S576x64, .bf16⟩
  | 23 => ⟨S3x3x64x64, .f32⟩
  | 24 => ⟨S576x64, .f32⟩
  | 25 => ⟨S576x64, .bf16⟩
  | 26 => ⟨S3x3x64x64, .f32⟩
  | 27 => ⟨S576x64, .f32⟩
  | 28 => ⟨S576x64, .bf16⟩
  | 29 => ⟨S32x1x64, .f32⟩
  | 30 => ⟨S32x64, .f32⟩
  | 31 => ⟨S64x16x1024, .f32⟩
  | 32 => ⟨S64x16384, .f32⟩
  | 33 => ⟨S1x16384, .f32⟩
  | 34 => ⟨S1x16, .f32⟩
  | 35 => ⟨S32x1024, .f32⟩
  | _ => ⟨S32x3x224x224, .f32⟩

abbrev hbmTy (i : Nat) : BufTy := match i / 128 with
  | 0 => hbmTy0_0 i
  | 1 => hbmTy0_1 i
  | _ => ⟨S32x3x224x224, .f32⟩

abbrev bufTy : (tb : Table) → Fin (tcTables nBuf tb) → BufTy
  | .hbm, ⟨i, _⟩ => hbmTy i
  | .local _ .vmem, ⟨0, _⟩ => ⟨S1x3136x64, .f32⟩
  | .local _ .vmem, ⟨1, _⟩ => ⟨S1x3136x64, .f32⟩
  | .local _ .vmem, ⟨2, _⟩ => ⟨S576x256, .bf16⟩
  | .local _ .vmem, ⟨3, _⟩ => ⟨S576x64, .bf16⟩
  | .local _ .vmem, ⟨4, _⟩ => ⟨S576x64, .bf16⟩
  | .local _ .vmem, ⟨5, _⟩ => ⟨S576x64, .bf16⟩
  | .local _ .vmem, ⟨6, _⟩ => ⟨S576x64, .bf16⟩
  | .local _ .vmem, ⟨7, _⟩ => ⟨S2x256, .f32⟩
  | .local _ .vmem, ⟨8, _⟩ => ⟨S8x64, .f32⟩
  | .local _ .vmem, ⟨9, _⟩ => ⟨S1x1x64, .f32⟩
  | .local _ .vmem, ⟨10, _⟩ => ⟨S1x1x64, .f32⟩
  | .local _ .vmem, ⟨11, _⟩ => ⟨S3264x64, .f32⟩
  | .local _ .vmem, ⟨12, _⟩ => ⟨S3136x576, .bf16⟩
  | .local _ .vmem, ⟨13, _⟩ => ⟨S4x3264x64, .f32⟩
  | .local _ .vmem, ⟨14, _⟩ => ⟨S32x64, .f32⟩
  | .local _ .vmem, ⟨15, _⟩ => ⟨S16x64, .f32⟩
  | .local _ .vmem, ⟨16, _⟩ => ⟨S1x16, .f32⟩
  | .local _ .vmem, ⟨17, _⟩ => ⟨S64x16384, .f32⟩
  | .local _ .vmem, ⟨18, _⟩ => ⟨S1x16384, .f32⟩
  | .local _ .vmem, ⟨19, _⟩ => ⟨S32x1024, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_2 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_3 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_4 : Ref sig .tc := ⟨.hbm, 114, rfl⟩
abbrev main_call1_v0 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_5 : Ref sig .tc := ⟨.hbm, 120, rfl⟩
abbrev main_call2_v0 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_c_6 : Ref sig .tc := ⟨.hbm, 126, rfl⟩
abbrev main_call3_v0 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_7 : Ref sig .tc := ⟨.hbm, 132, rfl⟩
abbrev main_call4_v0 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S32x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x16384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x16384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "inv_hw" => some ((1 / 3136 : ℝ) : EReal)
  | _ => none
-- ==== ReferenceIdeal.lean ====
abbrev S32x3x224x224 : Shape := ⟨4, ![32, 3, 224, 224]⟩
abbrev S64x3x7x7 : Shape := ⟨4, ![64, 3, 7, 7]⟩
abbrev S4x64 : Shape := ⟨2, ![4, 64]⟩
abbrev S64x64x3x3 : Shape := ⟨4, ![64, 64, 3, 3]⟩
abbrev S16x64 : Shape := ⟨2, ![16, 64]⟩
abbrev S16 : Shape := ⟨1, ![16]⟩
abbrev S16x1024x64 : Shape := ⟨3, ![16, 1024, 64]⟩
abbrev S16x1024 : Shape := ⟨2, ![16, 1024]⟩
abbrev S_ : Shape := ⟨0, ![]⟩
abbrev S32x3x230x230 : Shape := ⟨4, ![32, 3, 230, 230]⟩
abbrev S32x3x112x112 : Shape := ⟨4, ![32, 3, 112, 112]⟩
abbrev S64x3x1x1 : Shape := ⟨4, ![64, 3, 1, 1]⟩
abbrev S64x3 : Shape := ⟨2, ![64, 3]⟩
abbrev S32x112x112x64 : Shape := ⟨4, ![32, 112, 112, 64]⟩
abbrev S32x64x112x112 : Shape := ⟨4, ![32, 64, 112, 112]⟩
abbrev S1x64 : Shape := ⟨2, ![1, 64]⟩
abbrev S64 : Shape := ⟨1, ![64]⟩
abbrev S1x64x1x1 : Shape := ⟨4, ![1, 64, 1, 1]⟩
abbrev S32x64x56x56 : Shape := ⟨4, ![32, 64, 56, 56]⟩
abbrev S32x64x58x58 : Shape := ⟨4, ![32, 64, 58, 58]⟩
abbrev S64x64x1x1 : Shape := ⟨4, ![64, 64, 1, 1]⟩
abbrev S64x64 : Shape := ⟨2, ![64, 64]⟩
abbrev S32x56x56x64 : Shape := ⟨4, ![32, 56, 56, 64]⟩
abbrev S32x64 : Shape := ⟨2, ![32, 64]⟩
abbrev S64x16 : Shape := ⟨2, ![64, 16]⟩
abbrev S32x16 : Shape := ⟨2, ![32, 16]⟩
abbrev S1x16 : Shape := ⟨2, ![1, 16]⟩
abbrev S32 : Shape := ⟨1, ![32]⟩
abbrev S32x1 : Shape := ⟨2, ![32, 1]⟩
abbrev S32x2 : Shape := ⟨2, ![32, 2]⟩
abbrev S32x2x1 : Shape := ⟨3, ![32, 2, 1]⟩
abbrev S32x2x2 : Shape := ⟨3, ![32, 2, 2]⟩
abbrev S16x1024x32 : Shape := ⟨3, ![16, 1024, 32]⟩
abbrev S16x32x1024 : Shape := ⟨3, ![16, 32, 1024]⟩
abbrev S16x1x1024 : Shape := ⟨3, ![16, 1, 1024]⟩
abbrev S32x1024 : Shape := ⟨2, ![32, 1024]⟩

abbrev nBuf : Space → Nat
  | .hbm => 738
  | .vmem => 0
  | .smem => 0
  | _ => 0

abbrev hbmTy0_0 (i : Nat) : BufTy := match i % 128 with
  | 0 => ⟨S32x3x224x224, .f32⟩
  | 1 => ⟨S64x3x7x7, .f32⟩
  | 2 => ⟨S4x64, .f32⟩
  | 3 => ⟨S64x64x3x3, .f32⟩
  | 4 => ⟨S4x64, .f32⟩
  | 5 => ⟨S64x64x3x3, .f32⟩
  | 6 => ⟨S4x64, .f32⟩
  | 7 => ⟨S64x64x3x3, .f32⟩
  | 8 => ⟨S4x64, .f32⟩
  | 9 => ⟨S64x64x3x3, .f32⟩
  | 10 => ⟨S4x64, .f32⟩
  | 11 => ⟨S16x64, .f32⟩
  | 12 => ⟨S16, .f32⟩
  | 13 => ⟨S16x1024x64, .f32⟩
  | 14 => ⟨S16x1024, .f32⟩
  | 15 => ⟨S_, .i32⟩
  | 16 => ⟨S_, .f32⟩
  | 17 => ⟨S32x3x230x230, .f32⟩
  | 18 => ⟨S32x3x112x112, .f32⟩
  | 19 => ⟨S64x3x1x1, .f32⟩
  | 20 => ⟨S64x3, .f32⟩
  | 21 => ⟨S32x112x112x64, .f32⟩
  | 22 => ⟨S32x64x112x112, .f32⟩
  | 23 => ⟨S32x3x112x112, .f32⟩
  | 24 => ⟨S64x3x1x1, .f32⟩
  | 25 => ⟨S64x3, .f32⟩
  | 26 => ⟨S32x112x112x64, .f32⟩
  | 27 => ⟨S32x64x112x112, .f32⟩
  | 28 => ⟨S32x64x112x112, .f32⟩
  | 29 => ⟨S32x3x112x112, .f32⟩
  | 30 => ⟨S64x3x1x1, .f32⟩
  | 31 => ⟨S64x3, .f32⟩
  | 32 => ⟨S32x112x112x64, .f32⟩
  | 33 => ⟨S32x64x112x112, .f32⟩
  | 34 => ⟨S32x64x112x112, .f32⟩
  | 35 => ⟨S32x3x112x112, .f32⟩
  | 36 => ⟨S64x3x1x1, .f32⟩
  | 37 => ⟨S64x3, .f32⟩
  | 38 => ⟨S32x112x112x64, .f32⟩
  | 39 => ⟨S32x64x112x112, .f32⟩
  | 40 => ⟨S32x64x112x112, .f32⟩
  | 41 => ⟨S32x3x112x112, .f32⟩
  | 42 => ⟨S64x3x1x1, .f32⟩
  | 43 => ⟨S64x3, .f32⟩
  | 44 => ⟨S32x112x112x64, .f32⟩
  | 45 => ⟨S32x64x112x112, .f32⟩
  | 46 => ⟨S32x64x112x112, .f32⟩
  | 47 => ⟨S32x3x112x112, .f32⟩
  | 48 => ⟨S64x3x1x1, .f32⟩
  | 49 => ⟨S64x3, .f32⟩
  | 50 => ⟨S32x112x112x64, .f32⟩
  | 51 => ⟨S32x64x112x112, .f32⟩
  | 52 => ⟨S32x64x112x112, .f32⟩
  | 53 => ⟨S32x3x112x112, .f32⟩
  | 54 => ⟨S64x3x1x1, .f32⟩
  | 55 => ⟨S64x3, .f32⟩
  | 56 => ⟨S32x112x112x64, .f32⟩
  | 57 => ⟨S32x64x112x112, .f32⟩
  | 58 => ⟨S32x64x112x112, .f32⟩
  | 59 => ⟨S32x3x112x112, .f32⟩
  | 60 => ⟨S64x3x1x1, .f32⟩
  | 61 => ⟨S64x3, .f32⟩
  | 62 => ⟨S32x112x112x64, .f32⟩
  | 63 => ⟨S32x64x112x112, .f32⟩
  | 64 => ⟨S32x64x112x112, .f32⟩
  | 65 => ⟨S32x3x112x112, .f32⟩
  | 66 => ⟨S64x3x1x1, .f32⟩
  | 67 => ⟨S64x3, .f32⟩
  | 68 => ⟨S32x112x112x64, .f32⟩
  | 69 => ⟨S32x64x112x112, .f32⟩
  | 70 => ⟨S32x64x112x112, .f32⟩
  | 71 => ⟨S32x3x112x112, .f32⟩
  | 72 => ⟨S64x3x1x1, .f32⟩
  | 73 => ⟨S64x3, .f32⟩
  | 74 => ⟨S32x112x112x64, .f32⟩
  | 75 => ⟨S32x64x112x112, .f32⟩
  | 76 => ⟨S32x64x112x112, .f32⟩
  | 77 => ⟨S32x3x112x112, .f32⟩
  | 78 => ⟨S64x3x1x1, .f32⟩
  | 79 => ⟨S64x3, .f32⟩
  | 80 => ⟨S32x112x112x64, .f32⟩
  | 81 => ⟨S32x64x112x112, .f32⟩
  | 82 => ⟨S32x64x112x112, .f32⟩
  | 83 => ⟨S32x3x112x112, .f32⟩
  | 84 => ⟨S64x3x1x1, .f32⟩
  | 85 => ⟨S64x3, .f32⟩
  | 86 => ⟨S32x112x112x64, .f32⟩
  | 87 => ⟨S32x64x112x112, .f32⟩
  | 88 => ⟨S32x64x112x112, .f32⟩
  | 89 => ⟨S32x3x112x112, .f32⟩
  | 90 => ⟨S64x3x1x1, .f32⟩
  | 91 => ⟨S64x3, .f32⟩
  | 92 => ⟨S32x112x112x64, .f32⟩
  | 93 => ⟨S32x64x112x112, .f32⟩
  | 94 => ⟨S32x64x112x112, .f32⟩
  | 95 => ⟨S32x3x112x112, .f32⟩
  | 96 => ⟨S64x3x1x1, .f32⟩
  | 97 => ⟨S64x3, .f32⟩
  | 98 => ⟨S32x112x112x64, .f32⟩
  | 99 => ⟨S32x64x112x112, .f32⟩
  | 100 => ⟨S32x64x112x112, .f32⟩
  | 101 => ⟨S32x3x112x112, .f32⟩
  | 102 => ⟨S64x3x1x1, .f32⟩
  | 103 => ⟨S64x3, .f32⟩
  | 104 => ⟨S32x112x112x64, .f32⟩
  | 105 => ⟨S32x64x112x112, .f32⟩
  | 106 => ⟨S32x64x112x112, .f32⟩
  | 107 => ⟨S32x3x112x112, .f32⟩
  | 108 => ⟨S64x3x1x1, .f32⟩
  | 109 => ⟨S64x3, .f32⟩
  | 110 => ⟨S32x112x112x64, .f32⟩
  | 111 => ⟨S32x64x112x112, .f32⟩
  | 112 => ⟨S32x64x112x112, .f32⟩
  | 113 => ⟨S32x3x112x112, .f32⟩
  | 114 => ⟨S64x3x1x1, .f32⟩
  | 115 => ⟨S64x3, .f32⟩
  | 116 => ⟨S32x112x112x64, .f32⟩
  | 117 => ⟨S32x64x112x112, .f32⟩
  | 118 => ⟨S32x64x112x112, .f32⟩
  | 119 => ⟨S32x3x112x112, .f32⟩
  | 120 => ⟨S64x3x1x1, .f32⟩
  | 121 => ⟨S64x3, .f32⟩
  | 122 => ⟨S32x112x112x64, .f32⟩
  | 123 => ⟨S32x64x112x112, .f32⟩
  | 124 => ⟨S32x64x112x112, .f32⟩
  | 125 => ⟨S32x3x112x112, .f32⟩
  | 126 => ⟨S64x3x1x1, .f32⟩
  | 127 => ⟨S64x3, .f32⟩
  | _ => ⟨S32x3x224x224, .f32⟩

abbrev hbmTy0_1 (i : Nat) : BufTy := match i % 128 with
  | 0 => ⟨S32x112x112x64, .f32⟩
  | 1 => ⟨S32x64x112x112, .f32⟩
  | 2 => ⟨S32x64x112x112, .f32⟩
  | 3 => ⟨S32x3x112x112, .f32⟩
  | 4 => ⟨S64x3x1x1, .f32⟩
  | 5 => ⟨S64x3, .f32⟩
  | 6 => ⟨S32x112x112x64, .f32⟩
  | 7 => ⟨S32x64x112x112, .f32⟩
  | 8 => ⟨S32x64x112x112, .f32⟩
  | 9 => ⟨S32x3x112x112, .f32⟩
  | 10 => ⟨S64x3x1x1, .f32⟩
  | 11 => ⟨S64x3, .f32⟩
  | 12 => ⟨S32x112x112x64, .f32⟩
  | 13 => ⟨S32x64x112x112, .f32⟩
  | 14 => ⟨S32x64x112x112, .f32⟩
  | 15 => ⟨S32x3x112x112, .f32⟩
  | 16 => ⟨S64x3x1x1, .f32⟩
  | 17 => ⟨S64x3, .f32⟩
  | 18 => ⟨S32x112x112x64, .f32⟩
  | 19 => ⟨S32x64x112x112, .f32⟩
  | 20 => ⟨S32x64x112x112, .f32⟩
  | 21 => ⟨S32x3x112x112, .f32⟩
  | 22 => ⟨S64x3x1x1, .f32⟩
  | 23 => ⟨S64x3, .f32⟩
  | 24 => ⟨S32x112x112x64, .f32⟩
  | 25 => ⟨S32x64x112x112, .f32⟩
  | 26 => ⟨S32x64x112x112, .f32⟩
  | 27 => ⟨S32x3x112x112, .f32⟩
  | 28 => ⟨S64x3x1x1, .f32⟩
  | 29 => ⟨S64x3, .f32⟩
  | 30 => ⟨S32x112x112x64, .f32⟩
  | 31 => ⟨S32x64x112x112, .f32⟩
  | 32 => ⟨S32x64x112x112, .f32⟩
  | 33 => ⟨S32x3x112x112, .f32⟩
  | 34 => ⟨S64x3x1x1, .f32⟩
  | 35 => ⟨S64x3, .f32⟩
  | 36 => ⟨S32x112x112x64, .f32⟩
  | 37 => ⟨S32x64x112x112, .f32⟩
  | 38 => ⟨S32x64x112x112, .f32⟩
  | 39 => ⟨S32x3x112x112, .f32⟩
  | 40 => ⟨S64x3x1x1, .f32⟩
  | 41 => ⟨S64x3, .f32⟩
  | 42 => ⟨S32x112x112x64, .f32⟩
  | 43 => ⟨S32x64x112x112, .f32⟩
  | 44 => ⟨S32x64x112x112, .f32⟩
  | 45 => ⟨S32x3x112x112, .f32⟩
  | 46 => ⟨S64x3x1x1, .f32⟩
  | 47 => ⟨S64x3, .f32⟩
  | 48 => ⟨S32x112x112x64, .f32⟩
  | 49 => ⟨S32x64x112x112, .f32⟩
  | 50 => ⟨S32x64x112x112, .f32⟩
  | 51 => ⟨S32x3x112x112, .f32⟩
  | 52 => ⟨S64x3x1x1, .f32⟩
  | 53 => ⟨S64x3, .f32⟩
  | 54 => ⟨S32x112x112x64, .f32⟩
  | 55 => ⟨S32x64x112x112, .f32⟩
  | 56 => ⟨S32x64x112x112, .f32⟩
  | 57 => ⟨S32x3x112x112, .f32⟩
  | 58 => ⟨S64x3x1x1, .f32⟩
  | 59 => ⟨S64x3, .f32⟩
  | 60 => ⟨S32x112x112x64, .f32⟩
  | 61 => ⟨S32x64x112x112, .f32⟩
  | 62 => ⟨S32x64x112x112, .f32⟩
  | 63 => ⟨S32x3x112x112, .f32⟩
  | 64 => ⟨S64x3x1x1, .f32⟩
  | 65 => ⟨S64x3, .f32⟩
  | 66 => ⟨S32x112x112x64, .f32⟩
  | 67 => ⟨S32x64x112x112, .f32⟩
  | 68 => ⟨S32x64x112x112, .f32⟩
  | 69 => ⟨S32x3x112x112, .f32⟩
  | 70 => ⟨S64x3x1x1, .f32⟩
  | 71 => ⟨S64x3, .f32⟩
  | 72 => ⟨S32x112x112x64, .f32⟩
  | 73 => ⟨S32x64x112x112, .f32⟩
  | 74 => ⟨S32x64x112x112, .f32⟩
  | 75 => ⟨S32x3x112x112, .f32⟩
  | 76 => ⟨S64x3x1x1, .f32⟩
  | 77 => ⟨S64x3, .f32⟩
  | 78 => ⟨S32x112x112x64, .f32⟩
  | 79 => ⟨S32x64x112x112, .f32⟩
  | 80 => ⟨S32x64x112x112, .f32⟩
  | 81 => ⟨S32x3x112x112, .f32⟩
  | 82 => ⟨S64x3x1x1, .f32⟩
  | 83 => ⟨S64x3, .f32⟩
  | 84 => ⟨S32x112x112x64, .f32⟩
  | 85 => ⟨S32x64x112x112, .f32⟩
  | 86 => ⟨S32x64x112x112, .f32⟩
  | 87 => ⟨S32x3x112x112, .f32⟩
  | 88 => ⟨S64x3x1x1, .f32⟩
  | 89 => ⟨S64x3, .f32⟩
  | 90 => ⟨S32x112x112x64, .f32⟩
  | 91 => ⟨S32x64x112x112, .f32⟩
  | 92 => ⟨S32x64x112x112, .f32⟩
  | 93 => ⟨S32x3x112x112, .f32⟩
  | 94 => ⟨S64x3x1x1, .f32⟩
  | 95 => ⟨S64x3, .f32⟩
  | 96 => ⟨S32x112x112x64, .f32⟩
  | 97 => ⟨S32x64x112x112, .f32⟩
  | 98 => ⟨S32x64x112x112, .f32⟩
  | 99 => ⟨S32x3x112x112, .f32⟩
  | 100 => ⟨S64x3x1x1, .f32⟩
  | 101 => ⟨S64x3, .f32⟩
  | 102 => ⟨S32x112x112x64, .f32⟩
  | 103 => ⟨S32x64x112x112, .f32⟩
  | 104 => ⟨S32x64x112x112, .f32⟩
  | 105 => ⟨S32x3x112x112, .f32⟩
  | 106 => ⟨S64x3x1x1, .f32⟩
  | 107 => ⟨S64x3, .f32⟩
  | 108 => ⟨S32x112x112x64, .f32⟩
  | 109 => ⟨S32x64x112x112, .f32⟩
  | 110 => ⟨S32x64x112x112, .f32⟩
  | 111 => ⟨S32x3x112x112, .f32⟩
  | 112 => ⟨S64x3x1x1, .f32⟩
  | 113 => ⟨S64x3, .f32⟩
  | 114 => ⟨S32x112x112x64, .f32⟩
  | 115 => ⟨S32x64x112x112, .f32⟩
  | 116 => ⟨S32x64x112x112, .f32⟩
  | 117 => ⟨S32x3x112x112, .f32⟩
  | 118 => ⟨S64x3x1x1, .f32⟩
  | 119 => ⟨S64x3, .f32⟩
  | 120 => ⟨S32x112x112x64, .f32⟩
  | 121 => ⟨S32x64x112x112, .f32⟩
  | 122 => ⟨S32x64x112x112, .f32⟩
  | 123 => ⟨S32x3x112x112, .f32⟩
  | 124 => ⟨S64x3x1x1, .f32⟩
  | 125 => ⟨S64x3, .f32⟩
  | 126 => ⟨S32x112x112x64, .f32⟩
  | 127 => ⟨S32x64x112x112, .f32⟩
  | _ => ⟨S32x3x224x224, .f32⟩

abbrev hbmTy0_2 (i : Nat) : BufTy := match i % 128 with
  | 0 => ⟨S32x64x112x112, .f32⟩
  | 1 => ⟨S32x3x112x112, .f32⟩
  | 2 => ⟨S64x3x1x1, .f32⟩
  | 3 => ⟨S64x3, .f32⟩
  | 4 => ⟨S32x112x112x64, .f32⟩
  | 5 => ⟨S32x64x112x112, .f32⟩
  | 6 => ⟨S32x64x112x112, .f32⟩
  | 7 => ⟨S32x3x112x112, .f32⟩
  | 8 => ⟨S64x3x1x1, .f32⟩
  | 9 => ⟨S64x3, .f32⟩
  | 10 => ⟨S32x112x112x64, .f32⟩
  | 11 => ⟨S32x64x112x112, .f32⟩
  | 12 => ⟨S32x64x112x112, .f32⟩
  | 13 => ⟨S32x3x112x112, .f32⟩
  | 14 => ⟨S64x3x1x1, .f32⟩
  | 15 => ⟨S64x3, .f32⟩
  | 16 => ⟨S32x112x112x64, .f32⟩
  | 17 => ⟨S32x64x112x112, .f32⟩
  | 18 => ⟨S32x64x112x112, .f32⟩
  | 19 => ⟨S32x3x112x112, .f32⟩
  | 20 => ⟨S64x3x1x1, .f32⟩
  | 21 => ⟨S64x3, .f32⟩
  | 22 => ⟨S32x112x112x64, .f32⟩
  | 23 => ⟨S32x64x112x112, .f32⟩
  | 24 => ⟨S32x64x112x112, .f32⟩
  | 25 => ⟨S32x3x112x112, .f32⟩
  | 26 => ⟨S64x3x1x1, .f32⟩
  | 27 => ⟨S64x3, .f32⟩
  | 28 => ⟨S32x112x112x64, .f32⟩
  | 29 => ⟨S32x64x112x112, .f32⟩
  | 30 => ⟨S32x64x112x112, .f32⟩
  | 31 => ⟨S32x3x112x112, .f32⟩
  | 32 => ⟨S64x3x1x1, .f32⟩
  | 33 => ⟨S64x3, .f32⟩
  | 34 => ⟨S32x112x112x64, .f32⟩
  | 35 => ⟨S32x64x112x112, .f32⟩
  | 36 => ⟨S32x64x112x112, .f32⟩
  | 37 => ⟨S32x3x112x112, .f32⟩
  | 38 => ⟨S64x3x1x1, .f32⟩
  | 39 => ⟨S64x3, .f32⟩
  | 40 => ⟨S32x112x112x64, .f32⟩
  | 41 => ⟨S32x64x112x112, .f32⟩
  | 42 => ⟨S32x64x112x112, .f32⟩
  | 43 => ⟨S32x3x112x112, .f32⟩
  | 44 => ⟨S64x3x1x1, .f32⟩
  | 45 => ⟨S64x3, .f32⟩
  | 46 => ⟨S32x112x112x64, .f32⟩
  | 47 => ⟨S32x64x112x112, .f32⟩
  | 48 => ⟨S32x64x112x112, .f32⟩
  | 49 => ⟨S32x3x112x112, .f32⟩
  | 50 => ⟨S64x3x1x1, .f32⟩
  | 51 => ⟨S64x3, .f32⟩
  | 52 => ⟨S32x112x112x64, .f32⟩
  | 53 => ⟨S32x64x112x112, .f32⟩
  | 54 => ⟨S32x64x112x112, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64x1x1, .f32⟩
  | 64 => ⟨S32x64x112x112, .f32⟩
  | 65 => ⟨S32x64x112x112, .f32⟩
  | 66 => ⟨S1x64x1x1, .f32⟩
  | 67 => ⟨S_, .f32⟩
  | 68 => ⟨S1x64x1x1, .f32⟩
  | 69 => ⟨S1x64x1x1, .f32⟩
  | 70 => ⟨S1x64x1x1, .f32⟩
  | 71 => ⟨S32x64x112x112, .f32⟩
  | 72 => ⟨S32x64x112x112, .f32⟩
  | 73 => ⟨S1x64x1x1, .f32⟩
  | 74 => ⟨S32x64x112x112, .f32⟩
  | 75 => ⟨S32x64x112x112, .f32⟩
  | 76 => ⟨S1x64x1x1, .f32⟩
  | 77 => ⟨S32x64x112x112, .f32⟩
  | 78 => ⟨S32x64x112x112, .f32⟩
  | 79 => ⟨S_, .f32⟩
  | 80 => ⟨S32x64x112x112, .f32⟩
  | 81 => ⟨S32x64x112x112, .f32⟩
  | 82 => ⟨S_, .f32⟩
  | 83 => ⟨S_, .f32⟩
  | 84 => ⟨S32x64x56x56, .f32⟩
  | 85 => ⟨S_, .i32⟩
  | 86 => ⟨S_, .f32⟩
  | 87 => ⟨S32x64x58x58, .f32⟩
  | 88 => ⟨S32x64x56x56, .f32⟩
  | 89 => ⟨S64x64x1x1, .f32⟩
  | 90 => ⟨S64x64, .f32⟩
  | 91 => ⟨S32x56x56x64, .f32⟩
  | 92 => ⟨S32x64x56x56, .f32⟩
  | 93 => ⟨S32x64x56x56, .f32⟩
  | 94 => ⟨S64x64x1x1, .f32⟩
  | 95 => ⟨S64x64, .f32⟩
  | 96 => ⟨S32x56x56x64, .f32⟩
  | 97 => ⟨S32x64x56x56, .f32⟩
  | 98 => ⟨S32x64x56x56, .f32⟩
  | 99 => ⟨S32x64x56x56, .f32⟩
  | 100 => ⟨S64x64x1x1, .f32⟩
  | 101 => ⟨S64x64, .f32⟩
  | 102 => ⟨S32x56x56x64, .f32⟩
  | 103 => ⟨S32x64x56x56, .f32⟩
  | 104 => ⟨S32x64x56x56, .f32⟩
  | 105 => ⟨S32x64x56x56, .f32⟩
  | 106 => ⟨S64x64x1x1, .f32⟩
  | 107 => ⟨S64x64, .f32⟩
  | 108 => ⟨S32x56x56x64, .f32⟩
  | 109 => ⟨S32x64x56x56, .f32⟩
  | 110 => ⟨S32x64x56x56, .f32⟩
  | 111 => ⟨S32x64x56x56, .f32⟩
  | 112 => ⟨S64x64x1x1, .f32⟩
  | 113 => ⟨S64x64, .f32⟩
  | 114 => ⟨S32x56x56x64, .f32⟩
  | 115 => ⟨S32x64x56x56, .f32⟩
  | 116 => ⟨S32x64x56x56, .f32⟩
  | 117 => ⟨S32x64x56x56, .f32⟩
  | 118 => ⟨S64x64x1x1, .f32⟩
  | 119 => ⟨S64x64, .f32⟩
  | 120 => ⟨S32x56x56x64, .f32⟩
  | 121 => ⟨S32x64x56x56, .f32⟩
  | 122 => ⟨S32x64x56x56, .f32⟩
  | 123 => ⟨S32x64x56x56, .f32⟩
  | 124 => ⟨S64x64x1x1, .f32⟩
  | 125 => ⟨S64x64, .f32⟩
  | 126 => ⟨S32x56x56x64, .f32⟩
  | 127 => ⟨S32x64x56x56, .f32⟩
  | _ => ⟨S32x3x224x224, .f32⟩

abbrev hbmTy0_3 (i : Nat) : BufTy := match i % 128 with
  | 0 => ⟨S32x64x56x56, .f32⟩
  | 1 => ⟨S32x64x56x56, .f32⟩
  | 2 => ⟨S64x64x1x1, .f32⟩
  | 3 => ⟨S64x64, .f32⟩
  | 4 => ⟨S32x56x56x64, .f32⟩
  | 5 => ⟨S32x64x56x56, .f32⟩
  | 6 => ⟨S32x64x56x56, .f32⟩
  | 7 => ⟨S32x64x56x56, .f32⟩
  | 8 => ⟨S64x64x1x1, .f32⟩
  | 9 => ⟨S64x64, .f32⟩
  | 10 => ⟨S32x56x56x64, .f32⟩
  | 11 => ⟨S32x64x56x56, .f32⟩
  | 12 => ⟨S32x64x56x56, .f32⟩
  | 13 => ⟨S1x64, .f32⟩
  | 14 => ⟨S64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64x1x1, .f32⟩
  | 22 => ⟨S32x64x56x56, .f32⟩
  | 23 => ⟨S32x64x56x56, .f32⟩
  | 24 => ⟨S1x64x1x1, .f32⟩
  | 25 => ⟨S_, .f32⟩
  | 26 => ⟨S1x64x1x1, .f32⟩
  | 27 => ⟨S1x64x1x1, .f32⟩
  | 28 => ⟨S1x64x1x1, .f32⟩
  | 29 => ⟨S32x64x56x56, .f32⟩
  | 30 => ⟨S32x64x56x56, .f32⟩
  | 31 => ⟨S1x64x1x1, .f32⟩
  | 32 => ⟨S32x64x56x56, .f32⟩
  | 33 => ⟨S32x64x56x56, .f32⟩
  | 34 => ⟨S1x64x1x1, .f32⟩
  | 35 => ⟨S32x64x56x56, .f32⟩
  | 36 => ⟨S32x64x56x56, .f32⟩
  | 37 => ⟨S_, .f32⟩
  | 38 => ⟨S32x64x56x56, .f32⟩
  | 39 => ⟨S32x64x56x56, .f32⟩
  | 40 => ⟨S_, .i32⟩
  | 41 => ⟨S_, .f32⟩
  | 42 => ⟨S32x64x58x58, .f32⟩
  | 43 => ⟨S32x64x56x56, .f32⟩
  | 44 => ⟨S64x64x1x1, .f32⟩
  | 45 => ⟨S64x64, .f32⟩
  | 46 => ⟨S32x56x56x64, .f32⟩
  | 47 => ⟨S32x64x56x56, .f32⟩
  | 48 => ⟨S32x64x56x56, .f32⟩
  | 49 => ⟨S64x64x1x1, .f32⟩
  | 50 => ⟨S64x64, .f32⟩
  | 51 => ⟨S32x56x56x64, .f32⟩
  | 52 => ⟨S32x64x56x56, .f32⟩
  | 53 => ⟨S32x64x56x56, .f32⟩
  | 54 => ⟨S32x64x56x56, .f32⟩
  | 55 => ⟨S64x64x1x1, .f32⟩
  | 56 => ⟨S64x64, .f32⟩
  | 57 => ⟨S32x56x56x64, .f32⟩
  | 58 => ⟨S32x64x56x56, .f32⟩
  | 59 => ⟨S32x64x56x56, .f32⟩
  | 60 => ⟨S32x64x56x56, .f32⟩
  | 61 => ⟨S64x64x1x1, .f32⟩
  | 62 => ⟨S64x64, .f32⟩
  | 63 => ⟨S32x56x56x64, .f32⟩
  | 64 => ⟨S32x64x56x56, .f32⟩
  | 65 => ⟨S32x64x56x56, .f32⟩
  | 66 => ⟨S32x64x56x56, .f32⟩
  | 67 => ⟨S64x64x1x1, .f32⟩
  | 68 => ⟨S64x64, .f32⟩
  | 69 => ⟨S32x56x56x64, .f32⟩
  | 70 => ⟨S32x64x56x56, .f32⟩
  | 71 => ⟨S32x64x56x56, .f32⟩
  | 72 => ⟨S32x64x56x56, .f32⟩
  | 73 => ⟨S64x64x1x1, .f32⟩
  | 74 => ⟨S64x64, .f32⟩
  | 75 => ⟨S32x56x56x64, .f32⟩
  | 76 => ⟨S32x64x56x56, .f32⟩
  | 77 => ⟨S32x64x56x56, .f32⟩
  | 78 => ⟨S32x64x56x56, .f32⟩
  | 79 => ⟨S64x64x1x1, .f32⟩
  | 80 => ⟨S64x64, .f32⟩
  | 81 => ⟨S32x56x56x64, .f32⟩
  | 82 => ⟨S32x64x56x56, .f32⟩
  | 83 => ⟨S32x64x56x56, .f32⟩
  | 84 => ⟨S32x64x56x56, .f32⟩
  | 85 => ⟨S64x64x1x1, .f32⟩
  | 86 => ⟨S64x64, .f32⟩
  | 87 => ⟨S32x56x56x64, .f32⟩
  | 88 => ⟨S32x64x56x56, .f32⟩
  | 89 => ⟨S32x64x56x56, .f32⟩
  | 90 => ⟨S32x64x56x56, .f32⟩
  | 91 => ⟨S64x64x1x1, .f32⟩
  | 92 => ⟨S64x64, .f32⟩
  | 93 => ⟨S32x56x56x64, .f32⟩
  | 94 => ⟨S32x64x56x56, .f32⟩
  | 95 => ⟨S32x64x56x56, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64x1x1, .f32⟩
  | 105 => ⟨S32x64x56x56, .f32⟩
  | 106 => ⟨S32x64x56x56, .f32⟩
  | 107 => ⟨S1x64x1x1, .f32⟩
  | 108 => ⟨S_, .f32⟩
  | 109 => ⟨S1x64x1x1, .f32⟩
  | 110 => ⟨S1x64x1x1, .f32⟩
  | 111 => ⟨S1x64x1x1, .f32⟩
  | 112 => ⟨S32x64x56x56, .f32⟩
  | 113 => ⟨S32x64x56x56, .f32⟩
  | 114 => ⟨S1x64x1x1, .f32⟩
  | 115 => ⟨S32x64x56x56, .f32⟩
  | 116 => ⟨S32x64x56x56, .f32⟩
  | 117 => ⟨S1x64x1x1, .f32⟩
  | 118 => ⟨S32x64x56x56, .f32⟩
  | 119 => ⟨S32x64x56x56, .f32⟩
  | 120 => ⟨S32x64x56x56, .f32⟩
  | 121 => ⟨S_, .f32⟩
  | 122 => ⟨S32x64x56x56, .f32⟩
  | 123 => ⟨S32x64x56x56, .f32⟩
  | 124 => ⟨S_, .i32⟩
  | 125 => ⟨S_, .f32⟩
  | 126 => ⟨S32x64x58x58, .f32⟩
  | 127 => ⟨S32x64x56x56, .f32⟩
  | _ => ⟨S32x3x224x224, .f32⟩

abbrev hbmTy0_4 (i : Nat) : BufTy := match i % 128 with
  | 0 => ⟨S64x64x1x1, .f32⟩
  | 1 => ⟨S64x64, .f32⟩
  | 2 => ⟨S32x56x56x64, .f32⟩
  | 3 => ⟨S32x64x56x56, .f32⟩
  | 4 => ⟨S32x64x56x56, .f32⟩
  | 5 => ⟨S64x64x1x1, .f32⟩
  | 6 => ⟨S64x64, .f32⟩
  | 7 => ⟨S32x56x56x64, .f32⟩
  | 8 => ⟨S32x64x56x56, .f32⟩
  | 9 => ⟨S32x64x56x56, .f32⟩
  | 10 => ⟨S32x64x56x56, .f32⟩
  | 11 => ⟨S64x64x1x1, .f32⟩
  | 12 => ⟨S64x64, .f32⟩
  | 13 => ⟨S32x56x56x64, .f32⟩
  | 14 => ⟨S32x64x56x56, .f32⟩
  | 15 => ⟨S32x64x56x56, .f32⟩
  | 16 => ⟨S32x64x56x56, .f32⟩
  | 17 => ⟨S64x64x1x1, .f32⟩
  | 18 => ⟨S64x64, .f32⟩
  | 19 => ⟨S32x56x56x64, .f32⟩
  | 20 => ⟨S32x64x56x56, .f32⟩
  | 21 => ⟨S32x64x56x56, .f32⟩
  | 22 => ⟨S32x64x56x56, .f32⟩
  | 23 => ⟨S64x64x1x1, .f32⟩
  | 24 => ⟨S64x64, .f32⟩
  | 25 => ⟨S32x56x56x64, .f32⟩
  | 26 => ⟨S32x64x56x56, .f32⟩
  | 27 => ⟨S32x64x56x56, .f32⟩
  | 28 => ⟨S32x64x56x56, .f32⟩
  | 29 => ⟨S64x64x1x1, .f32⟩
  | 30 => ⟨S64x64, .f32⟩
  | 31 => ⟨S32x56x56x64, .f32⟩
  | 32 => ⟨S32x64x56x56, .f32⟩
  | 33 => ⟨S32x64x56x56, .f32⟩
  | 34 => ⟨S32x64x56x56, .f32⟩
  | 35 => ⟨S64x64x1x1, .f32⟩
  | 36 => ⟨S64x64, .f32⟩
  | 37 => ⟨S32x56x56x64, .f32⟩
  | 38 => ⟨S32x64x56x56, .f32⟩
  | 39 => ⟨S32x64x56x56, .f32⟩
  | 40 => ⟨S32x64x56x56, .f32⟩
  | 41 => ⟨S64x64x1x1, .f32⟩
  | 42 => ⟨S64x64, .f32⟩
  | 43 => ⟨S32x56x56x64, .f32⟩
  | 44 => ⟨S32x64x56x56, .f32⟩
  | 45 => ⟨S32x64x56x56, .f32⟩
  | 46 => ⟨S32x64x56x56, .f32⟩
  | 47 => ⟨S64x64x1x1, .f32⟩
  | 48 => ⟨S64x64, .f32⟩
  | 49 => ⟨S32x56x56x64, .f32⟩
  | 50 => ⟨S32x64x56x56, .f32⟩
  | 51 => ⟨S32x64x56x56, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S64, .f32⟩
  | 60 => ⟨S1x64x1x1, .f32⟩
  | 61 => ⟨S32x64x56x56, .f32⟩
  | 62 => ⟨S32x64x56x56, .f32⟩
  | 63 => ⟨S1x64x1x1, .f32⟩
  | 64 => ⟨S_, .f32⟩
  | 65 => ⟨S1x64x1x1, .f32⟩
  | 66 => ⟨S1x64x1x1, .f32⟩
  | 67 => ⟨S1x64x1x1, .f32⟩
  | 68 => ⟨S32x64x56x56, .f32⟩
  | 69 => ⟨S32x64x56x56, .f32⟩
  | 70 => ⟨S1x64x1x1, .f32⟩
  | 71 => ⟨S32x64x56x56, .f32⟩
  | 72 => ⟨S32x64x56x56, .f32⟩
  | 73 => ⟨S1x64x1x1, .f32⟩
  | 74 => ⟨S32x64x56x56, .f32⟩
  | 75 => ⟨S32x64x56x56, .f32⟩
  | 76 => ⟨S_, .f32⟩
  | 77 => ⟨S32x64x56x56, .f32⟩
  | 78 => ⟨S32x64x56x56, .f32⟩
  | 79 => ⟨S_, .i32⟩
  | 80 => ⟨S_, .f32⟩
  | 81 => ⟨S32x64x58x58, .f32⟩
  | 82 => ⟨S32x64x56x56, .f32⟩
  | 83 => ⟨S64x64x1x1, .f32⟩
  | 84 => ⟨S64x64, .f32⟩
  | 85 => ⟨S32x56x56x64, .f32⟩
  | 86 => ⟨S32x64x56x56, .f32⟩
  | 87 => ⟨S32x64x56x56, .f32⟩
  | 88 => ⟨S64x64x1x1, .f32⟩
  | 89 => ⟨S64x64, .f32⟩
  | 90 => ⟨S32x56x56x64, .f32⟩
  | 91 => ⟨S32x64x56x56, .f32⟩
  | 92 => ⟨S32x64x56x56, .f32⟩
  | 93 => ⟨S32x64x56x56, .f32⟩
  | 94 => ⟨S64x64x1x1, .f32⟩
  | 95 => ⟨S64x64, .f32⟩
  | 96 => ⟨S32x56x56x64, .f32⟩
  | 97 => ⟨S32x64x56x56, .f32⟩
  | 98 => ⟨S32x64x56x56, .f32⟩
  | 99 => ⟨S32x64x56x56, .f32⟩
  | 100 => ⟨S64x64x1x1, .f32⟩
  | 101 => ⟨S64x64, .f32⟩
  | 102 => ⟨S32x56x56x64, .f32⟩
  | 103 => ⟨S32x64x56x56, .f32⟩
  | 104 => ⟨S32x64x56x56, .f32⟩
  | 105 => ⟨S32x64x56x56, .f32⟩
  | 106 => ⟨S64x64x1x1, .f32⟩
  | 107 => ⟨S64x64, .f32⟩
  | 108 => ⟨S32x56x56x64, .f32⟩
  | 109 => ⟨S32x64x56x56, .f32⟩
  | 110 => ⟨S32x64x56x56, .f32⟩
  | 111 => ⟨S32x64x56x56, .f32⟩
  | 112 => ⟨S64x64x1x1, .f32⟩
  | 113 => ⟨S64x64, .f32⟩
  | 114 => ⟨S32x56x56x64, .f32⟩
  | 115 => ⟨S32x64x56x56, .f32⟩
  | 116 => ⟨S32x64x56x56, .f32⟩
  | 117 => ⟨S32x64x56x56, .f32⟩
  | 118 => ⟨S64x64x1x1, .f32⟩
  | 119 => ⟨S64x64, .f32⟩
  | 120 => ⟨S32x56x56x64, .f32⟩
  | 121 => ⟨S32x64x56x56, .f32⟩
  | 122 => ⟨S32x64x56x56, .f32⟩
  | 123 => ⟨S32x64x56x56, .f32⟩
  | 124 => ⟨S64x64x1x1, .f32⟩
  | 125 => ⟨S64x64, .f32⟩
  | 126 => ⟨S32x56x56x64, .f32⟩
  | 127 => ⟨S32x64x56x56, .f32⟩
  | _ => ⟨S32x3x224x224, .f32⟩

abbrev hbmTy0_5 (i : Nat) : BufTy := match i % 128 with
  | 0 => ⟨S32x64x56x56, .f32⟩
  | 1 => ⟨S32x64x56x56, .f32⟩
  | 2 => ⟨S64x64x1x1, .f32⟩
  | 3 => ⟨S64x64, .f32⟩
  | 4 => ⟨S32x56x56x64, .f32⟩
  | 5 => ⟨S32x64x56x56, .f32⟩
  | 6 => ⟨S32x64x56x56, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S1x64x1x1, .f32⟩
  | 16 => ⟨S32x64x56x56, .f32⟩
  | 17 => ⟨S32x64x56x56, .f32⟩
  | 18 => ⟨S1x64x1x1, .f32⟩
  | 19 => ⟨S_, .f32⟩
  | 20 => ⟨S1x64x1x1, .f32⟩
  | 21 => ⟨S1x64x1x1, .f32⟩
  | 22 => ⟨S1x64x1x1, .f32⟩
  | 23 => ⟨S32x64x56x56, .f32⟩
  | 24 => ⟨S32x64x56x56, .f32⟩
  | 25 => ⟨S1x64x1x1, .f32⟩
  | 26 => ⟨S32x64x56x56, .f32⟩
  | 27 => ⟨S32x64x56x56, .f32⟩
  | 28 => ⟨S1x64x1x1, .f32⟩
  | 29 => ⟨S32x64x56x56, .f32⟩
  | 30 => ⟨S32x64x56x56, .f32⟩
  | 31 => ⟨S32x64x56x56, .f32⟩
  | 32 => ⟨S_, .f32⟩
  | 33 => ⟨S32x64x56x56, .f32⟩
  | 34 => ⟨S32x64x56x56, .f32⟩
  | 35 => ⟨S_, .f32⟩
  | 36 => ⟨S32x64, .f32⟩
  | 37 => ⟨S_, .f32⟩
  | 38 => ⟨S32x64, .f32⟩
  | 39 => ⟨S32x64, .f32⟩
  | 40 => ⟨S64x16, .f32⟩
  | 41 => ⟨S32x16, .f32⟩
  | 42 => ⟨S1x16, .f32⟩
  | 43 => ⟨S32x16, .f32⟩
  | 44 => ⟨S32x16, .f32⟩
  | 45 => ⟨S_, .f32⟩
  | 46 => ⟨S32, .f32⟩
  | 47 => ⟨S_, .f32⟩
  | 48 => ⟨S32, .f32⟩
  | 49 => ⟨S32, .f32⟩
  | 50 => ⟨S32x1, .f32⟩
  | 51 => ⟨S32x16, .f32⟩
  | 52 => ⟨S32x16, .f32⟩
  | 53 => ⟨S32x16, .f32⟩
  | 54 => ⟨S_, .f32⟩
  | 55 => ⟨S32, .f32⟩
  | 56 => ⟨S32x1, .f32⟩
  | 57 => ⟨S32x16, .f32⟩
  | 58 => ⟨S32x16, .f32⟩
  | 59 => ⟨S32x2, .f32⟩
  | 60 => ⟨S32x2, .i32⟩
  | 61 => ⟨S_, .f32⟩
  | 62 => ⟨S32, .f32⟩
  | 63 => ⟨S32x1, .f32⟩
  | 64 => ⟨S_, .f32⟩
  | 65 => ⟨S32x1, .f32⟩
  | 66 => ⟨S32x1, .f32⟩
  | 67 => ⟨S32x2, .f32⟩
  | 68 => ⟨S32x2, .f32⟩
  | 69 => ⟨S_, .f32⟩
  | 70 => ⟨S32x16, .f32⟩
  | 71 => ⟨S32, .i32⟩
  | 72 => ⟨S32x1, .i32⟩
  | 73 => ⟨S_, .i32⟩
  | 74 => ⟨S32x1, .i32⟩
  | 75 => ⟨S32x1, .i1⟩
  | 76 => ⟨S_, .i32⟩
  | 77 => ⟨S32x1, .i32⟩
  | 78 => ⟨S32x1, .i32⟩
  | 79 => ⟨S32x1, .i32⟩
  | 80 => ⟨S_, .i32⟩
  | 81 => ⟨S32x2, .i32⟩
  | 82 => ⟨S32x2, .i1⟩
  | 83 => ⟨S_, .i32⟩
  | 84 => ⟨S32x2, .i32⟩
  | 85 => ⟨S32x2, .i32⟩
  | 86 => ⟨S32x2, .i32⟩
  | 87 => ⟨S32x2, .i32⟩
  | 88 => ⟨S32x2x1, .i32⟩
  | 89 => ⟨S32x2x1, .i32⟩
  | 90 => ⟨S32x2x2, .i32⟩
  | 91 => ⟨S32x16, .f32⟩
  | 92 => ⟨S16x1024x32, .f32⟩
  | 93 => ⟨S16x32x1024, .f32⟩
  | 94 => ⟨S16x1x1024, .f32⟩
  | 95 => ⟨S16x32x1024, .f32⟩
  | 96 => ⟨S16x32x1024, .f32⟩
  | 97 => ⟨S32x1024, .f32⟩
  | _ => ⟨S32x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x3x224x224, .f32⟩

abbrev bufTy : (tb : Table) → Fin (tcTables nBuf tb) → BufTy
  | .hbm, ⟨i, _⟩ => hbmTy i
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_v300 : Ref sig .tc := ⟨.hbm, 317, rfl⟩
abbrev main_v301 : Ref sig .tc := ⟨.hbm, 318, rfl⟩
abbrev main_v302 : Ref sig .tc := ⟨.hbm, 319, rfl⟩
abbrev main_v303 : Ref sig .tc := ⟨.hbm, 320, rfl⟩
abbrev main_v304 : Ref sig .tc := ⟨.hbm, 321, rfl⟩
abbrev main_v305 : Ref sig .tc := ⟨.hbm, 322, rfl⟩
abbrev main_cst : Ref sig .tc := ⟨.hbm, 323, rfl⟩
abbrev main_v306 : Ref sig .tc := ⟨.hbm, 324, rfl⟩
abbrev main_v307 : Ref sig .tc := ⟨.hbm, 325, rfl⟩
abbrev main_v308 : Ref sig .tc := ⟨.hbm, 326, rfl⟩
abbrev main_v309 : Ref sig .tc := ⟨.hbm, 327, rfl⟩
abbrev main_v310 : Ref sig .tc := ⟨.hbm, 328, rfl⟩
abbrev main_v311 : Ref sig .tc := ⟨.hbm, 329, rfl⟩
abbrev main_v312 : Ref sig .tc := ⟨.hbm, 330, rfl⟩
abbrev main_v313 : Ref sig .tc := ⟨.hbm, 331, rfl⟩
abbrev main_v314 : Ref sig .tc := ⟨.hbm, 332, rfl⟩
abbrev main_v315 : Ref sig .tc := ⟨.hbm, 333, rfl⟩
abbrev main_v316 : Ref sig .tc := ⟨.hbm, 334, rfl⟩
abbrev main_call1_cst : Ref sig .tc := ⟨.hbm, 335, rfl⟩
abbrev main_call1_v0 : Ref sig .tc := ⟨.hbm, 336, rfl⟩
abbrev main_v317 : Ref sig .tc := ⟨.hbm, 337, rfl⟩
abbrev main_cst_0 : Ref sig .tc := ⟨.hbm, 338, rfl⟩
abbrev main_v318 : Ref sig .tc := ⟨.hbm, 339, rfl⟩
abbrev main_v319 : Ref sig .tc := ⟨.hbm, 340, rfl⟩
abbrev main_c_1 : Ref sig .tc := ⟨.hbm, 341, rfl⟩
abbrev main_call2_v0 : Ref sig .tc := ⟨.hbm, 342, rfl⟩
abbrev main_v320 : Ref sig .tc := ⟨.hbm, 343, rfl⟩
abbrev main_v321 : Ref sig .tc := ⟨.hbm, 344, rfl⟩
abbrev main_v322 : Ref sig .tc := ⟨.hbm, 345, rfl⟩
abbrev main_v323 : Ref sig .tc := ⟨.hbm, 346, rfl⟩
abbrev main_v324 : Ref sig .tc := ⟨.hbm, 347, rfl⟩
abbrev main_v325 : Ref sig .tc := ⟨.hbm, 348, rfl⟩
abbrev main_v326 : Ref sig .tc := ⟨.hbm, 349, rfl⟩
abbrev main_v327 : Ref sig .tc := ⟨.hbm, 350, rfl⟩
abbrev main_v328 : Ref sig .tc := ⟨.hbm, 351, rfl⟩
abbrev main_v329 : Ref sig .tc := ⟨.hbm, 352, rfl⟩
abbrev main_v330 : Ref sig .tc := ⟨.hbm, 353, rfl⟩
abbrev main_v331 : Ref sig .tc := ⟨.hbm, 354, rfl⟩
abbrev main_v332 : Ref sig .tc := ⟨.hbm, 355, rfl⟩
abbrev main_v333 : Ref sig .tc := ⟨.hbm, 356, rfl⟩
abbrev main_v334 : Ref sig .tc := ⟨.hbm, 357, rfl⟩
abbrev main_v335 : Ref sig .tc := ⟨.hbm, 358, rfl⟩
abbrev main_v336 : Ref sig .tc := ⟨.hbm, 359, rfl⟩
abbrev main_v337 : Ref sig .tc := ⟨.hbm, 360, rfl⟩
abbrev main_v338 : Ref sig .tc := ⟨.hbm, 361, rfl⟩
abbrev main_v339 : Ref sig .tc := ⟨.hbm, 362, rfl⟩
abbrev main_v340 : Ref sig .tc := ⟨.hbm, 363, rfl⟩
abbrev main_v341 : Ref sig .tc := ⟨.hbm, 364, rfl⟩
abbrev main_v342 : Ref sig .tc := ⟨.hbm, 365, rfl⟩
abbrev main_v343 : Ref sig .tc := ⟨.hbm, 366, rfl⟩
abbrev main_v344 : Ref sig .tc := ⟨.hbm, 367, rfl⟩
abbrev main_v345 : Ref sig .tc := ⟨.hbm, 368, rfl⟩
abbrev main_v346 : Ref sig .tc := ⟨.hbm, 369, rfl⟩
abbrev main_v347 : Ref sig .tc := ⟨.hbm, 370, rfl⟩
abbrev main_v348 : Ref sig .tc := ⟨.hbm, 371, rfl⟩
abbrev main_v349 : Ref sig .tc := ⟨.hbm, 372, rfl⟩
abbrev main_v350 : Ref sig .tc := ⟨.hbm, 373, rfl⟩
abbrev main_v351 : Ref sig .tc := ⟨.hbm, 374, rfl⟩
abbrev main_v352 : Ref sig .tc := ⟨.hbm, 375, rfl⟩
abbrev main_v353 : Ref sig .tc := ⟨.hbm, 376, rfl⟩
abbrev main_v354 : Ref sig .tc := ⟨.hbm, 377, rfl⟩
abbrev main_v355 : Ref sig .tc := ⟨.hbm, 378, rfl⟩
abbrev main_v356 : Ref sig .tc := ⟨.hbm, 379, rfl⟩
abbrev main_v357 : Ref sig .tc := ⟨.hbm, 380, rfl⟩
abbrev main_v358 : Ref sig .tc := ⟨.hbm, 381, rfl⟩
abbrev main_v359 : Ref sig .tc := ⟨.hbm, 382, rfl⟩
abbrev main_v360 : Ref sig .tc := ⟨.hbm, 383, rfl⟩
abbrev main_v361 : Ref sig .tc := ⟨.hbm, 384, rfl⟩
abbrev main_v362 : Ref sig .tc := ⟨.hbm, 385, rfl⟩
abbrev main_v363 : Ref sig .tc := ⟨.hbm, 386, rfl⟩
abbrev main_v364 : Ref sig .tc := ⟨.hbm, 387, rfl⟩
abbrev main_v365 : Ref sig .tc := ⟨.hbm, 388, rfl⟩
abbrev main_v366 : Ref sig .tc := ⟨.hbm, 389, rfl⟩
abbrev main_v367 : Ref sig .tc := ⟨.hbm, 390, rfl⟩
abbrev main_v368 : Ref sig .tc := ⟨.hbm, 391, rfl⟩
abbrev main_v369 : Ref sig .tc := ⟨.hbm, 392, rfl⟩
abbrev main_v370 : Ref sig .tc := ⟨.hbm, 393, rfl⟩
abbrev main_v371 : Ref sig .tc := ⟨.hbm, 394, rfl⟩
abbrev main_v372 : Ref sig .tc := ⟨.hbm, 395, rfl⟩
abbrev main_v373 : Ref sig .tc := ⟨.hbm, 396, rfl⟩
abbrev main_v374 : Ref sig .tc := ⟨.hbm, 397, rfl⟩
abbrev main_v375 : Ref sig .tc := ⟨.hbm, 398, rfl⟩
abbrev main_v376 : Ref sig .tc := ⟨.hbm, 399, rfl⟩
abbrev main_v377 : Ref sig .tc := ⟨.hbm, 400, rfl⟩
abbrev main_v378 : Ref sig .tc := ⟨.hbm, 401, rfl⟩
abbrev main_v379 : Ref sig .tc := ⟨.hbm, 402, rfl⟩
abbrev main_v380 : Ref sig .tc := ⟨.hbm, 403, rfl⟩
abbrev main_v381 : Ref sig .tc := ⟨.hbm, 404, rfl⟩
abbrev main_v382 : Ref sig .tc := ⟨.hbm, 405, rfl⟩
abbrev main_v383 : Ref sig .tc := ⟨.hbm, 406, rfl⟩
abbrev main_v384 : Ref sig .tc := ⟨.hbm, 407, rfl⟩
abbrev main_v385 : Ref sig .tc := ⟨.hbm, 408, rfl⟩
abbrev main_cst_2 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_call3_cst : Ref sig .tc := ⟨.hbm, 421, rfl⟩
abbrev main_call3_v0 : Ref sig .tc := ⟨.hbm, 422, rfl⟩
abbrev main_v397 : Ref sig .tc := ⟨.hbm, 423, rfl⟩
abbrev main_c_3 : Ref sig .tc := ⟨.hbm, 424, rfl⟩
abbrev main_call4_v0 : Ref sig .tc := ⟨.hbm, 425, rfl⟩
abbrev main_v398 : Ref sig .tc := ⟨.hbm, 426, rfl⟩
abbrev main_v399 : Ref sig .tc := ⟨.hbm, 427, rfl⟩
abbrev main_v400 : Ref sig .tc := ⟨.hbm, 428, rfl⟩
abbrev main_v401 : Ref sig .tc := ⟨.hbm, 429, rfl⟩
abbrev main_v402 : Ref sig .tc := ⟨.hbm, 430, rfl⟩
abbrev main_v403 : Ref sig .tc := ⟨.hbm, 431, rfl⟩
abbrev main_v404 : Ref sig .tc := ⟨.hbm, 432, rfl⟩
abbrev main_v405 : Ref sig .tc := ⟨.hbm, 433, rfl⟩
abbrev main_v406 : Ref sig .tc := ⟨.hbm, 434, rfl⟩
abbrev main_v407 : Ref sig .tc := ⟨.hbm, 435, rfl⟩
abbrev main_v408 : Ref sig .tc := ⟨.hbm, 436, rfl⟩
abbrev main_v409 : Ref sig .tc := ⟨.hbm, 437, rfl⟩
abbrev main_v410 : Ref sig .tc := ⟨.hbm, 438, rfl⟩
abbrev main_v411 : Ref sig .tc := ⟨.hbm, 439, rfl⟩
abbrev main_v412 : Ref sig .tc := ⟨.hbm, 440, rfl⟩
abbrev main_v413 : Ref sig .tc := ⟨.hbm, 441, rfl⟩
abbrev main_v414 : Ref sig .tc := ⟨.hbm, 442, rfl⟩
abbrev main_v415 : Ref sig .tc := ⟨.hbm, 443, rfl⟩
abbrev main_v416 : Ref sig .tc := ⟨.hbm, 444, rfl⟩
abbrev main_v417 : Ref sig .tc := ⟨.hbm, 445, rfl⟩
abbrev main_v418 : Ref sig .tc := ⟨.hbm, 446, rfl⟩
abbrev main_v419 : Ref sig .tc := ⟨.hbm, 447, rfl⟩
abbrev main_v420 : Ref sig .tc := ⟨.hbm, 448, rfl⟩
abbrev main_v421 : Ref sig .tc := ⟨.hbm, 449, rfl⟩
abbrev main_v422 : Ref sig .tc := ⟨.hbm, 450, rfl⟩
abbrev main_v423 : Ref sig .tc := ⟨.hbm, 451, rfl⟩
abbrev main_v424 : Ref sig .tc := ⟨.hbm, 452, rfl⟩
abbrev main_v425 : Ref sig .tc := ⟨.hbm, 453, rfl⟩
abbrev main_v426 : Ref sig .tc := ⟨.hbm, 454, rfl⟩
abbrev main_v427 : Ref sig .tc := ⟨.hbm, 455, rfl⟩
abbrev main_v428 : Ref sig .tc := ⟨.hbm, 456, rfl⟩
abbrev main_v429 : Ref sig .tc := ⟨.hbm, 457, rfl⟩
abbrev main_v430 : Ref sig .tc := ⟨.hbm, 458, rfl⟩
abbrev main_v431 : Ref sig .tc := ⟨.hbm, 459, rfl⟩
abbrev main_v432 : Ref sig .tc := ⟨.hbm, 460, rfl⟩
abbrev main_v433 : Ref sig .tc := ⟨.hbm, 461, rfl⟩
abbrev main_v434 : Ref sig .tc := ⟨.hbm, 462, rfl⟩
abbrev main_v435 : Ref sig .tc := ⟨.hbm, 463, rfl⟩
abbrev main_v436 : Ref sig .tc := ⟨.hbm, 464, rfl⟩
abbrev main_v437 : Ref sig .tc := ⟨.hbm, 465, rfl⟩
abbrev main_v438 : Ref sig .tc := ⟨.hbm, 466, rfl⟩
abbrev main_v439 : Ref sig .tc := ⟨.hbm, 467, rfl⟩
abbrev main_v440 : Ref sig .tc := ⟨.hbm, 468, rfl⟩
abbrev main_v441 : Ref sig .tc := ⟨.hbm, 469, rfl⟩
abbrev main_v442 : Ref sig .tc := ⟨.hbm, 470, rfl⟩
abbrev main_v443 : Ref sig .tc := ⟨.hbm, 471, rfl⟩
abbrev main_v444 : Ref sig .tc := ⟨.hbm, 472, rfl⟩
abbrev main_v445 : Ref sig .tc := ⟨.hbm, 473, rfl⟩
abbrev main_v446 : Ref sig .tc := ⟨.hbm, 474, rfl⟩
abbrev main_v447 : Ref sig .tc := ⟨.hbm, 475, rfl⟩
abbrev main_v448 : Ref sig .tc := ⟨.hbm, 476, rfl⟩
abbrev main_v449 : Ref sig .tc := ⟨.hbm, 477, rfl⟩
abbrev main_v450 : Ref sig .tc := ⟨.hbm, 478, rfl⟩
abbrev main_v451 : Ref sig .tc := ⟨.hbm, 479, rfl⟩
abbrev main_v452 : Ref sig .tc := ⟨.hbm, 480, rfl⟩
abbrev main_v453 : Ref sig .tc := ⟨.hbm, 481, rfl⟩
abbrev main_v454 : Ref sig .tc := ⟨.hbm, 482, rfl⟩
abbrev main_v455 : Ref sig .tc := ⟨.hbm, 483, rfl⟩
abbrev main_v456 : Ref sig .tc := ⟨.hbm, 484, rfl⟩
abbrev main_v457 : Ref sig .tc := ⟨.hbm, 485, rfl⟩
abbrev main_v458 : Ref sig .tc := ⟨.hbm, 486, rfl⟩
abbrev main_v459 : Ref sig .tc := ⟨.hbm, 487, rfl⟩
abbrev main_v460 : Ref sig .tc := ⟨.hbm, 488, rfl⟩
abbrev main_v461 : Ref sig .tc := ⟨.hbm, 489, rfl⟩
abbrev main_v462 : Ref sig .tc := ⟨.hbm, 490, rfl⟩
abbrev main_v463 : Ref sig .tc := ⟨.hbm, 491, rfl⟩
abbrev main_cst_4 : Ref sig .tc := ⟨.hbm, 492, rfl⟩
abbrev main_v464 : Ref sig .tc := ⟨.hbm, 493, rfl⟩
abbrev main_v465 : Ref sig .tc := ⟨.hbm, 494, rfl⟩
abbrev main_v466 : Ref sig .tc := ⟨.hbm, 495, rfl⟩
abbrev main_v467 : Ref sig .tc := ⟨.hbm, 496, rfl⟩
abbrev main_v468 : Ref sig .tc := ⟨.hbm, 497, rfl⟩
abbrev main_v469 : Ref sig .tc := ⟨.hbm, 498, rfl⟩
abbrev main_v470 : Ref sig .tc := ⟨.hbm, 499, rfl⟩
abbrev main_v471 : Ref sig .tc := ⟨.hbm, 500, rfl⟩
abbrev main_v472 : Ref sig .tc := ⟨.hbm, 501, rfl⟩
abbrev main_v473 : Ref sig .tc := ⟨.hbm, 502, rfl⟩
abbrev main_v474 : Ref sig .tc := ⟨.hbm, 503, rfl⟩
abbrev main_v475 : Ref sig .tc := ⟨.hbm, 504, rfl⟩
abbrev main_call5_cst : Ref sig .tc := ⟨.hbm, 505, rfl⟩
abbrev main_call5_v0 : Ref sig .tc := ⟨.hbm, 506, rfl⟩
abbrev main_v476 : Ref sig .tc := ⟨.hbm, 507, rfl⟩
abbrev main_c_5 : Ref sig .tc := ⟨.hbm, 508, rfl⟩
abbrev main_call6_v0 : Ref sig .tc := ⟨.hbm, 509, rfl⟩
abbrev main_v477 : Ref sig .tc := ⟨.hbm, 510, rfl⟩
abbrev main_v478 : Ref sig .tc := ⟨.hbm, 511, rfl⟩
abbrev main_v479 : Ref sig .tc := ⟨.hbm, 512, rfl⟩
abbrev main_v480 : Ref sig .tc := ⟨.hbm, 513, rfl⟩
abbrev main_v481 : Ref sig .tc := ⟨.hbm, 514, rfl⟩
abbrev main_v482 : Ref sig .tc := ⟨.hbm, 515, rfl⟩
abbrev main_v483 : Ref sig .tc := ⟨.hbm, 516, rfl⟩
abbrev main_v484 : Ref sig .tc := ⟨.hbm, 517, rfl⟩
abbrev main_v485 : Ref sig .tc := ⟨.hbm, 518, rfl⟩
abbrev main_v486 : Ref sig .tc := ⟨.hbm, 519, rfl⟩
abbrev main_v487 : Ref sig .tc := ⟨.hbm, 520, rfl⟩
abbrev main_v488 : Ref sig .tc := ⟨.hbm, 521, rfl⟩
abbrev main_v489 : Ref sig .tc := ⟨.hbm, 522, rfl⟩
abbrev main_v490 : Ref sig .tc := ⟨.hbm, 523, rfl⟩
abbrev main_v491 : Ref sig .tc := ⟨.hbm, 524, rfl⟩
abbrev main_v492 : Ref sig .tc := ⟨.hbm, 525, rfl⟩
abbrev main_v493 : Ref sig .tc := ⟨.hbm, 526, rfl⟩
abbrev main_v494 : Ref sig .tc := ⟨.hbm, 527, rfl⟩
abbrev main_v495 : Ref sig .tc := ⟨.hbm, 528, rfl⟩
abbrev main_v496 : Ref sig .tc := ⟨.hbm, 529, rfl⟩
abbrev main_v497 : Ref sig .tc := ⟨.hbm, 530, rfl⟩
abbrev main_v498 : Ref sig .tc := ⟨.hbm, 531, rfl⟩
abbrev main_v499 : Ref sig .tc := ⟨.hbm, 532, rfl⟩
abbrev main_v500 : Ref sig .tc := ⟨.hbm, 533, rfl⟩
abbrev main_v501 : Ref sig .tc := ⟨.hbm, 534, rfl⟩
abbrev main_v502 : Ref sig .tc := ⟨.hbm, 535, rfl⟩
abbrev main_v503 : Ref sig .tc := ⟨.hbm, 536, rfl⟩
abbrev main_v504 : Ref sig .tc := ⟨.hbm, 537, rfl⟩
abbrev main_v505 : Ref sig .tc := ⟨.hbm, 538, rfl⟩
abbrev main_v506 : Ref sig .tc := ⟨.hbm, 539, rfl⟩
abbrev main_v507 : Ref sig .tc := ⟨.hbm, 540, rfl⟩
abbrev main_v508 : Ref sig .tc := ⟨.hbm, 541, rfl⟩
abbrev main_v509 : Ref sig .tc := ⟨.hbm, 542, rfl⟩
abbrev main_v510 : Ref sig .tc := ⟨.hbm, 543, rfl⟩
abbrev main_v511 : Ref sig .tc := ⟨.hbm, 544, rfl⟩
abbrev main_v512 : Ref sig .tc := ⟨.hbm, 545, rfl⟩
abbrev main_v513 : Ref sig .tc := ⟨.hbm, 546, rfl⟩
abbrev main_v514 : Ref sig .tc := ⟨.hbm, 547, rfl⟩
abbrev main_v515 : Ref sig .tc := ⟨.hbm, 548, rfl⟩
abbrev main_v516 : Ref sig .tc := ⟨.hbm, 549, rfl⟩
abbrev main_v517 : Ref sig .tc := ⟨.hbm, 550, rfl⟩
abbrev main_v518 : Ref sig .tc := ⟨.hbm, 551, rfl⟩
abbrev main_v519 : Ref sig .tc := ⟨.hbm, 552, rfl⟩
abbrev main_v520 : Ref sig .tc := ⟨.hbm, 553, rfl⟩
abbrev main_v521 : Ref sig .tc := ⟨.hbm, 554, rfl⟩
abbrev main_v522 : Ref sig .tc := ⟨.hbm, 555, rfl⟩
abbrev main_v523 : Ref sig .tc := ⟨.hbm, 556, rfl⟩
abbrev main_v524 : Ref sig .tc := ⟨.hbm, 557, rfl⟩
abbrev main_v525 : Ref sig .tc := ⟨.hbm, 558, rfl⟩
abbrev main_v526 : Ref sig .tc := ⟨.hbm, 559, rfl⟩
abbrev main_v527 : Ref sig .tc := ⟨.hbm, 560, rfl⟩
abbrev main_v528 : Ref sig .tc := ⟨.hbm, 561, rfl⟩
abbrev main_v529 : Ref sig .tc := ⟨.hbm, 562, rfl⟩
abbrev main_v530 : Ref sig .tc := ⟨.hbm, 563, rfl⟩
abbrev main_v531 : Ref sig .tc := ⟨.hbm, 564, rfl⟩
abbrev main_v532 : Ref sig .tc := ⟨.hbm, 565, rfl⟩
abbrev main_v533 : Ref sig .tc := ⟨.hbm, 566, rfl⟩
abbrev main_v534 : Ref sig .tc := ⟨.hbm, 567, rfl⟩
abbrev main_v535 : Ref sig .tc := ⟨.hbm, 568, rfl⟩
abbrev main_v536 : Ref sig .tc := ⟨.hbm, 569, rfl⟩
abbrev main_v537 : Ref sig .tc := ⟨.hbm, 570, rfl⟩
abbrev main_v538 : Ref sig .tc := ⟨.hbm, 571, rfl⟩
abbrev main_v539 : Ref sig .tc := ⟨.hbm, 572, rfl⟩
abbrev main_v540 : Ref sig .tc := ⟨.hbm, 573, rfl⟩
abbrev main_v541 : Ref sig .tc := ⟨.hbm, 574, rfl⟩
abbrev main_v542 : Ref sig .tc := ⟨.hbm, 575, rfl⟩
abbrev main_cst_6 : Ref sig .tc := ⟨.hbm, 576, rfl⟩
abbrev main_v543 : Ref sig .tc := ⟨.hbm, 577, rfl⟩
abbrev main_v544 : Ref sig .tc := ⟨.hbm, 578, rfl⟩
abbrev main_v545 : Ref sig .tc := ⟨.hbm, 579, rfl⟩
abbrev main_v546 : Ref sig .tc := ⟨.hbm, 580, rfl⟩
abbrev main_v547 : Ref sig .tc := ⟨.hbm, 581, rfl⟩
abbrev main_v548 : Ref sig .tc := ⟨.hbm, 582, rfl⟩
abbrev main_v549 : Ref sig .tc := ⟨.hbm, 583, rfl⟩
abbrev main_v550 : Ref sig .tc := ⟨.hbm, 584, rfl⟩
abbrev main_v551 : Ref sig .tc := ⟨.hbm, 585, rfl⟩
abbrev main_v552 : Ref sig .tc := ⟨.hbm, 586, rfl⟩
abbrev main_v553 : Ref sig .tc := ⟨.hbm, 587, rfl⟩
abbrev main_call7_cst : Ref sig .tc := ⟨.hbm, 588, rfl⟩
abbrev main_call7_v0 : Ref sig .tc := ⟨.hbm, 589, rfl⟩
abbrev main_v554 : Ref sig .tc := ⟨.hbm, 590, rfl⟩
abbrev main_c_7 : Ref sig .tc := ⟨.hbm, 591, rfl⟩
abbrev main_call8_v0 : Ref sig .tc := ⟨.hbm, 592, rfl⟩
abbrev main_v555 : Ref sig .tc := ⟨.hbm, 593, rfl⟩
abbrev main_v556 : Ref sig .tc := ⟨.hbm, 594, rfl⟩
abbrev main_v557 : Ref sig .tc := ⟨.hbm, 595, rfl⟩
abbrev main_v558 : Ref sig .tc := ⟨.hbm, 596, rfl⟩
abbrev main_v559 : Ref sig .tc := ⟨.hbm, 597, rfl⟩
abbrev main_v560 : Ref sig .tc := ⟨.hbm, 598, rfl⟩
abbrev main_v561 : Ref sig .tc := ⟨.hbm, 599, rfl⟩
abbrev main_v562 : Ref sig .tc := ⟨.hbm, 600, rfl⟩
abbrev main_v563 : Ref sig .tc := ⟨.hbm, 601, rfl⟩
abbrev main_v564 : Ref sig .tc := ⟨.hbm, 602, rfl⟩
abbrev main_v565 : Ref sig .tc := ⟨.hbm, 603, rfl⟩
abbrev main_v566 : Ref sig .tc := ⟨.hbm, 604, rfl⟩
abbrev main_v567 : Ref sig .tc := ⟨.hbm, 605, rfl⟩
abbrev main_v568 : Ref sig .tc := ⟨.hbm, 606, rfl⟩
abbrev main_v569 : Ref sig .tc := ⟨.hbm, 607, rfl⟩
abbrev main_v570 : Ref sig .tc := ⟨.hbm, 608, rfl⟩
abbrev main_v571 : Ref sig .tc := ⟨.hbm, 609, rfl⟩
abbrev main_v572 : Ref sig .tc := ⟨.hbm, 610, rfl⟩
abbrev main_v573 : Ref sig .tc := ⟨.hbm, 611, rfl⟩
abbrev main_v574 : Ref sig .tc := ⟨.hbm, 612, rfl⟩
abbrev main_v575 : Ref sig .tc := ⟨.hbm, 613, rfl⟩
abbrev main_v576 : Ref sig .tc := ⟨.hbm, 614, rfl⟩
abbrev main_v577 : Ref sig .tc := ⟨.hbm, 615, rfl⟩
abbrev main_v578 : Ref sig .tc := ⟨.hbm, 616, rfl⟩
abbrev main_v579 : Ref sig .tc := ⟨.hbm, 617, rfl⟩
abbrev main_v580 : Ref sig .tc := ⟨.hbm, 618, rfl⟩
abbrev main_v581 : Ref sig .tc := ⟨.hbm, 619, rfl⟩
abbrev main_v582 : Ref sig .tc := ⟨.hbm, 620, rfl⟩
abbrev main_v583 : Ref sig .tc := ⟨.hbm, 621, rfl⟩
abbrev main_v584 : Ref sig .tc := ⟨.hbm, 622, rfl⟩
abbrev main_v585 : Ref sig .tc := ⟨.hbm, 623, rfl⟩
abbrev main_v586 : Ref sig .tc := ⟨.hbm, 624, rfl⟩
abbrev main_v587 : Ref sig .tc := ⟨.hbm, 625, rfl⟩
abbrev main_v588 : Ref sig .tc := ⟨.hbm, 626, rfl⟩
abbrev main_v589 : Ref sig .tc := ⟨.hbm, 627, rfl⟩
abbrev main_v590 : Ref sig .tc := ⟨.hbm, 628, rfl⟩
abbrev main_v591 : Ref sig .tc := ⟨.hbm, 629, rfl⟩
abbrev main_v592 : Ref sig .tc := ⟨.hbm, 630, rfl⟩
abbrev main_v593 : Ref sig .tc := ⟨.hbm, 631, rfl⟩
abbrev main_v594 : Ref sig .tc := ⟨.hbm, 632, rfl⟩
abbrev main_v595 : Ref sig .tc := ⟨.hbm, 633, rfl⟩
abbrev main_v596 : Ref sig .tc := ⟨.hbm, 634, rfl⟩
abbrev main_v597 : Ref sig .tc := ⟨.hbm, 635, rfl⟩
abbrev main_v598 : Ref sig .tc := ⟨.hbm, 636, rfl⟩
abbrev main_v599 : Ref sig .tc := ⟨.hbm, 637, rfl⟩
abbrev main_v600 : Ref sig .tc := ⟨.hbm, 638, rfl⟩
abbrev main_v601 : Ref sig .tc := ⟨.hbm, 639, rfl⟩
abbrev main_v602 : Ref sig .tc := ⟨.hbm, 640, rfl⟩
abbrev main_v603 : Ref sig .tc := ⟨.hbm, 641, rfl⟩
abbrev main_v604 : Ref sig .tc := ⟨.hbm, 642, rfl⟩
abbrev main_v605 : Ref sig .tc := ⟨.hbm, 643, rfl⟩
abbrev main_v606 : Ref sig .tc := ⟨.hbm, 644, rfl⟩
abbrev main_v607 : Ref sig .tc := ⟨.hbm, 645, rfl⟩
abbrev main_v608 : Ref sig .tc := ⟨.hbm, 646, rfl⟩
abbrev main_v609 : Ref sig .tc := ⟨.hbm, 647, rfl⟩
abbrev main_v610 : Ref sig .tc := ⟨.hbm, 648, rfl⟩
abbrev main_v611 : Ref sig .tc := ⟨.hbm, 649, rfl⟩
abbrev main_v612 : Ref sig .tc := ⟨.hbm, 650, rfl⟩
abbrev main_v613 : Ref sig .tc := ⟨.hbm, 651, rfl⟩
abbrev main_v614 : Ref sig .tc := ⟨.hbm, 652, rfl⟩
abbrev main_v615 : Ref sig .tc := ⟨.hbm, 653, rfl⟩
abbrev main_v616 : Ref sig .tc := ⟨.hbm, 654, rfl⟩
abbrev main_v617 : Ref sig .tc := ⟨.hbm, 655, rfl⟩
abbrev main_v618 : Ref sig .tc := ⟨.hbm, 656, rfl⟩
abbrev main_v619 : Ref sig .tc := ⟨.hbm, 657, rfl⟩
abbrev main_v620 : Ref sig .tc := ⟨.hbm, 658, rfl⟩
abbrev main_cst_8 : Ref sig .tc := ⟨.hbm, 659, rfl⟩
abbrev main_v621 : Ref sig .tc := ⟨.hbm, 660, rfl⟩
abbrev main_v622 : Ref sig .tc := ⟨.hbm, 661, rfl⟩
abbrev main_v623 : Ref sig .tc := ⟨.hbm, 662, rfl⟩
abbrev main_v624 : Ref sig .tc := ⟨.hbm, 663, rfl⟩
abbrev main_v625 : Ref sig .tc := ⟨.hbm, 664, rfl⟩
abbrev main_v626 : Ref sig .tc := ⟨.hbm, 665, rfl⟩
abbrev main_v627 : Ref sig .tc := ⟨.hbm, 666, rfl⟩
abbrev main_v628 : Ref sig .tc := ⟨.hbm, 667, rfl⟩
abbrev main_v629 : Ref sig .tc := ⟨.hbm, 668, rfl⟩
abbrev main_v630 : Ref sig .tc := ⟨.hbm, 669, rfl⟩
abbrev main_v631 : Ref sig .tc := ⟨.hbm, 670, rfl⟩
abbrev main_v632 : Ref sig .tc := ⟨.hbm, 671, rfl⟩
abbrev main_call9_cst : Ref sig .tc := ⟨.hbm, 672, rfl⟩
abbrev main_call9_v0 : Ref sig .tc := ⟨.hbm, 673, rfl⟩
abbrev main_v633 : Ref sig .tc := ⟨.hbm, 674, rfl⟩
abbrev main_cst_9 : Ref sig .tc := ⟨.hbm, 675, rfl⟩
abbrev main_v634 : Ref sig .tc := ⟨.hbm, 676, rfl⟩
abbrev main_cst_10 : Ref sig .tc := ⟨.hbm, 677, rfl⟩
abbrev main_v635 : Ref sig .tc := ⟨.hbm, 678, rfl⟩
abbrev main_v636 : Ref sig .tc := ⟨.hbm, 679, rfl⟩
abbrev main_v637 : Ref sig .tc := ⟨.hbm, 680, rfl⟩
abbrev main_v638 : Ref sig .tc := ⟨.hbm, 681, rfl⟩
abbrev main_v639 : Ref sig .tc := ⟨.hbm, 682, rfl⟩
abbrev main_v640 : Ref sig .tc := ⟨.hbm, 683, rfl⟩
abbrev main_v641 : Ref sig .tc := ⟨.hbm, 684, rfl⟩
abbrev main_cst_11 : Ref sig .tc := ⟨.hbm, 685, rfl⟩
abbrev main_v642 : Ref sig .tc := ⟨.hbm, 686, rfl⟩
abbrev main_cst_12 : Ref sig .tc := ⟨.hbm, 687, rfl⟩
abbrev main_v643 : Ref sig .tc := ⟨.hbm, 688, rfl⟩
abbrev main_v644 : Ref sig .tc := ⟨.hbm, 689, rfl⟩
abbrev main_v645 : Ref sig .tc := ⟨.hbm, 690, rfl⟩
abbrev main_v646 : Ref sig .tc := ⟨.hbm, 691, rfl⟩
abbrev main_v647 : Ref sig .tc := ⟨.hbm, 692, rfl⟩
abbrev main_v648 : Ref sig .tc := ⟨.hbm, 693, rfl⟩
abbrev main_cst_13 : Ref sig .tc := ⟨.hbm, 694, rfl⟩
abbrev main_v649 : Ref sig .tc := ⟨.hbm, 695, rfl⟩
abbrev main_v650 : Ref sig .tc := ⟨.hbm, 696, rfl⟩
abbrev main_v651 : Ref sig .tc := ⟨.hbm, 697, rfl⟩
abbrev main_v652 : Ref sig .tc := ⟨.hbm, 698, rfl⟩
abbrev main_values : Ref sig .tc := ⟨.hbm, 699, rfl⟩
abbrev main_indices : Ref sig .tc := ⟨.hbm, 700, rfl⟩
abbrev main_cst_14 : Ref sig .tc := ⟨.hbm, 701, rfl⟩
abbrev main_v653 : Ref sig .tc := ⟨.hbm, 702, rfl⟩
abbrev main_v654 : Ref sig .tc := ⟨.hbm, 703, rfl⟩
abbrev main_cst_15 : Ref sig .tc := ⟨.hbm, 704, rfl⟩
abbrev main_v655 : Ref sig .tc := ⟨.hbm, 705, rfl⟩
abbrev main_v656 : Ref sig .tc := ⟨.hbm, 706, rfl⟩
abbrev main_v657 : Ref sig .tc := ⟨.hbm, 707, rfl⟩
abbrev main_v658 : Ref sig .tc := ⟨.hbm, 708, rfl⟩
abbrev main_cst_16 : Ref sig .tc := ⟨.hbm, 709, rfl⟩
abbrev main_v659 : Ref sig .tc := ⟨.hbm, 710, rfl⟩
abbrev main_v660 : Ref sig .tc := ⟨.hbm, 711, rfl⟩
abbrev main_v661 : Ref sig .tc := ⟨.hbm, 712, rfl⟩
abbrev main_c_17 : Ref sig .tc := ⟨.hbm, 713, rfl⟩
abbrev main_v662 : Ref sig .tc := ⟨.hbm, 714, rfl⟩
abbrev main_v663 : Ref sig .tc := ⟨.hbm, 715, rfl⟩
abbrev main_c_18 : Ref sig .tc := ⟨.hbm, 716, rfl⟩
abbrev main_v664 : Ref sig .tc := ⟨.hbm, 717, rfl⟩
abbrev main_v665 : Ref sig .tc := ⟨.hbm, 718, rfl⟩
abbrev main_v666 : Ref sig .tc := ⟨.hbm, 719, rfl⟩
abbrev main_c_19 : Ref sig .tc := ⟨.hbm, 720, rfl⟩
abbrev main_v667 : Ref sig .tc := ⟨.hbm, 721, rfl⟩
abbrev main_v668 : Ref sig .tc := ⟨.hbm, 722, rfl⟩
abbrev main_c_20 : Ref sig .tc := ⟨.hbm, 723, rfl⟩
abbrev main_v669 : Ref sig .tc := ⟨.hbm, 724, rfl⟩
abbrev main_v670 : Ref sig .tc := ⟨.hbm, 725, rfl⟩
abbrev main_v671 : Ref sig .tc := ⟨.hbm, 726, rfl⟩
abbrev main_v672 : Ref sig .tc := ⟨.hbm, 727, rfl⟩
abbrev main_v673 : Ref sig .tc := ⟨.hbm, 728, rfl⟩
abbrev main_v674 : Ref sig .tc := ⟨.hbm, 729, rfl⟩
abbrev main_v675 : Ref sig .tc := ⟨.hbm, 730, rfl⟩
abbrev main_v676 : Ref sig .tc := ⟨.hbm, 731, rfl⟩
abbrev main_v677 : Ref sig .tc := ⟨.hbm, 732, rfl⟩
abbrev main_v678 : Ref sig .tc := ⟨.hbm, 733, rfl⟩
abbrev main_v679 : Ref sig .tc := ⟨.hbm, 734, rfl⟩
abbrev main_v680 : Ref sig .tc := ⟨.hbm, 735, rfl⟩
abbrev main_v681 : Ref sig .tc := ⟨.hbm, 736, rfl⟩
abbrev main_v682 : Ref sig .tc := ⟨.hbm, 737, rfl⟩

abbrev nD : Nat := 1
abbrev τ : Topo := Topo.v7x

variable {F : FTy → Type} [FloatOps F]
-- ==== Proof.Kernel.Run.lean ====
module

public import proofs.«01_k».proof.Proof.Gen.KernelIdeal.Frame

@[expose] public section

/-!
# The run of the kernel with its result

The launch set-up is the generated one of `frame`; the post also keeps the result, the second region's output array.
-/

set_option maxRecDepth 16384

noncomputable section
namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's run: the result is the second region's output array, and the arguments end unchanged. -/
theorem run : θ_run defs (onTc (τ := τ) (main (F := F))) ⟨m, fun _ => 0, ρ⟩ (fun r => ∀ c : Dev nD,
      r.2.mem ((c.tc : Thread nD τ).loc main_v133) = (dat1 (V13 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c =>
      ⟨(h c _ (mem_uc main_v133 (by decide))).trans (W14_arr m ρ c 5),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Result

end
-- ==== Proof.Maths.Spec.lean ====
/- What the network computes, written as plain functions over the extended reals: no program, no layout, no buffer. Both the kernel's run and the
   reference's run are read as these functions, and the two meet here. -/
module

public import Idealize.ShloMosaic.Init
public import Idealize.ShloMosaic.Lib.Pointwise

@[expose] public section

noncomputable section

namespace Cert.Maths

open Idealize.ShloMosaic

/-- A plane with a border of zeros `p` wide, read at the bordered coordinates `(y, x)`. -/
def at0 {h w : ℕ} (X : Fin h → Fin w → EReal) (p y x : ℕ) : EReal :=
  if hh : (p ≤ y ∧ y < h + p) ∧ (p ≤ x ∧ x < w + p) then X ⟨y - p, by omega⟩ ⟨x - p, by omega⟩ else 0

/-- A feature map of one image after the pooling: 64 channels of 56 by 56. -/
abbrev Img := Fin 64 → Fin 56 → Fin 56 → EReal

/-- The 3 by 3 convolution of stride one with a border of one zero. -/
def conv3 (w : Fin 64 → Fin 64 → Fin 3 → Fin 3 → EReal) (X : Img) : Img := fun o h v =>
  ∑ dy : Fin 3, ∑ dx : Fin 3, ∑ c : Fin 64, at0 (X c) 1 (h.val + dy.val) (v.val + dx.val) * w o c dy dx

/-- The 7 by 7 convolution of stride two with a border of three zeros. -/
def conv7 (w : Fin 64 → Fin 3 → Fin 7 → Fin 7 → EReal) (x : Fin 3 → Fin 224 → Fin 224 → EReal) : Fin 64 → Fin 112 → Fin 112 → EReal := fun o y z =>
  ∑ ky : Fin 7, ∑ kx : Fin 7, ∑ c : Fin 3, at0 (x c) 3 (2 * y.val + ky.val) (2 * z.val + kx.val) * w o c ky kx

/-- The element at the bordered coordinates, minus infinity on a border one wide. -/
def atBot {h w : ℕ} (X : Fin h → Fin w → EReal) (y x : ℕ) : EReal :=
  if hh : (1 ≤ y ∧ y < h + 1) ∧ (1 ≤ x ∧ x < w + 1) then X ⟨y - 1, by omega⟩ ⟨x - 1, by omega⟩ else ⊥

/-- The maximum over 3 by 3 windows of stride two, the border not counting. -/
def pool (Y : Fin 64 → Fin 112 → Fin 112 → EReal) : Img := fun c h v =>
  Finset.univ.sup fun d : Fin 3 × Fin 3 => atBot (Y c) (2 * h.val + d.1.val) (2 * v.val + d.2.val)

/-- Negative values replaced by zero. -/
def relu (x : EReal) : EReal := max x 0

/-- A normalisation of one channel: what it does to an element of channel `o`. -/
abbrev Norm := Fin 64 → EReal → EReal

/-- A residual block's first half: convolution, normalisation, relu. -/
def half (w : Fin 64 → Fin 64 → Fin 3 → Fin 3 → EReal) (N : Norm) (X : Img) : Img := fun o h v => relu (N o (conv3 w X o h v))

/-- A residual block's second half: convolution, normalisation, the block's input added, relu. -/
def half' (w : Fin 64 → Fin 64 → Fin 3 → Fin 3 → EReal) (N : Norm) (X R : Img) : Img := fun o h v => relu (N o (conv3 w X o h v) + R o h v)

/-- The first layer: convolution, normalisation, relu, pooling. -/
def stem (w : Fin 64 → Fin 3 → Fin 7 → Fin 7 → EReal) (N : Norm) (x : Fin 3 → Fin 224 → Fin 224 → EReal) : Img :=
  pool fun o y z => relu (N o (conv7 w x o y z))

/-- Both residual blocks on the pooled map. -/
def blocks (w1 w2 w3 w4 : Fin 64 → Fin 64 → Fin 3 → Fin 3 → EReal) (N1 N2 N3 N4 : Norm) (X : Img) : Img :=
  let Y := half' w2 N2 (half w1 N1 X) X
  half' w4 N4 (half w3 N3 Y) Y

/-- The mean of each channel over the plane. -/
def mean (X : Img) (o : Fin 64) : EReal := (∑ h : Fin 56, ∑ v : Fin 56, X o h v) * ((1 / 3136 : ℝ) : EReal)

/-- One batch normalisation as the reference writes it: gain `g`, offset `b`, mean `m`, variance `v`, the constant `eps` added to the variance. -/
def norm (eps g b m v x : EReal) : EReal := (x - m) * Ideal.rsqrt (v + eps) * g + b

/-- The same as a multiplication and an addition, the two factors worked out beforehand. -/
def affine (eps g b m v x : EReal) : EReal := x * (g * Ideal.rsqrt (v + eps)) + (b - m * (g * Ideal.rsqrt (v + eps)))

end Cert.Maths

end
-- ==== Proof.Maths.Sums.lean ====
/- The convolutions as one sum over the 576 columns of a patch matrix, and the pooling as a chain of maxima over a border of zeros. -/
module

public import proofs.«01_k».proof.Proof.Maths.Spec

@[expose] public section

noncomputable section

namespace Cert.Maths

open Idealize.ShloMosaic

/-- A sum over 576 columns is a sum over the three row shifts, the three column shifts and the 64 channels. -/
theorem sum576 (f : Fin 576 → EReal) : ∑ k, f k = ∑ dy : Fin 3, ∑ dx : Fin 3, ∑ c : Fin 64, f ⟨(dy.val * 3 + dx.val) * 64 + c.val, by omega⟩ := by
  have h : ∑ k, f k = ∑ p : (Fin 3 × Fin 3) × Fin 64, f ⟨(p.1.1.val * 3 + p.1.2.val) * 64 + p.2.val, by omega⟩ := by
    symm
    refine Finset.sum_bij' (fun p _ => ⟨(p.1.1.val * 3 + p.1.2.val) * 64 + p.2.val, by omega⟩)
      (fun k _ => ((⟨k.val / 64 / 3, by omega⟩, ⟨k.val / 64 % 3, by omega⟩), ⟨k.val % 64, by omega⟩)) ?_ ?_ ?_ ?_ ?_
    · intros; exact Finset.mem_univ _
    · intros; exact Finset.mem_univ _
    · rintro ⟨⟨a, b⟩, c⟩ -
      simp only [Prod.mk.injEq, Fin.ext_iff]
      omega
    · intro k _
      simp only [Fin.ext_iff]
      omega
    · intros; rfl
  rw [h, Fintype.sum_prod_type, Fintype.sum_prod_type]

/-- The 3 by 3 convolution as one sum over the columns. -/
theorem conv3_eq (w : Fin 64 → Fin 64 → Fin 3 → Fin 3 → EReal) (X : Img) (o : Fin 64) (h v : Fin 56) :
    conv3 w X o h v = ∑ k : Fin 576, at0 (X ⟨k.val % 64, by omega⟩) 1 (h.val + k.val / 64 / 3) (v.val + k.val / 64 % 3)
      * w o ⟨k.val % 64, by omega⟩ ⟨k.val / 64 / 3, by omega⟩ ⟨k.val / 64 % 3, by omega⟩ := by
  rw [sum576]
  unfold conv3
  refine Finset.sum_congr rfl fun dy _ => Finset.sum_congr rfl fun dx _ => Finset.sum_congr rfl fun c _ => ?_
  have e1 : ((dy.val * 3 + dx.val) * 64 + c.val) % 64 = c.val := by omega
  have e2 : ((dy.val * 3 + dx.val) * 64 + c.val) / 64 / 3 = dy.val := by omega
  have e3 : ((dy.val * 3 + dx.val) * 64 + c.val) / 64 % 3 = dx.val := by omega
  simp only [e1, e2, e3, Fin.eta]

/-- The pooling of a map with no negative value, as a chain of maxima that starts at the window's centre and reads zeros on the border. -/
theorem pool_eq (Y : Fin 64 → Fin 112 → Fin 112 → EReal) (hY : ∀ c y z, 0 ≤ Y c y z) (c : Fin 64) (h v : Fin 56) :
    pool Y c h v =
      max (max (max (max (max (max (max (max (at0 (Y c) 1 (2 * h.val + 1) (2 * v.val + 1)) (at0 (Y c) 1 (2 * h.val + 1) (2 * v.val + 2)))
        (at0 (Y c) 1 (2 * h.val + 1) (2 * v.val + 0))) (at0 (Y c) 1 (2 * h.val + 2) (2 * v.val + 1))) (at0 (Y c) 1 (2 * h.val + 0) (2 * v.val + 1)))
        (at0 (Y c) 1 (2 * h.val + 2) (2 * v.val + 2))) (at0 (Y c) 1 (2 * h.val + 2) (2 * v.val + 0))) (at0 (Y c) 1 (2 * h.val + 0) (2 * v.val + 2)))
        (at0 (Y c) 1 (2 * h.val + 0) (2 * v.val + 0)) := by
  have up : ∀ dy dx : Fin 3, at0 (Y c) 1 (2 * h.val + dy.val) (2 * v.val + dx.val) ≤ pool Y c h v := by
    intro dy dx
    have hle : ∀ d : Fin 3 × Fin 3, atBot (Y c) (2 * h.val + d.1.val) (2 * v.val + d.2.val) ≤ pool Y c h v := fun d =>
      Finset.le_sup (f := fun d : Fin 3 × Fin 3 => atBot (Y c) (2 * h.val + d.1.val) (2 * v.val + d.2.val)) (Finset.mem_univ d)
    by_cases hh : (1 ≤ 2 * h.val + dy.val ∧ 2 * h.val + dy.val < 112 + 1) ∧ (1 ≤ 2 * v.val + dx.val ∧ 2 * v.val + dx.val < 112 + 1)
    · refine le_trans (le_of_eq ?_) (hle (dy, dx))
      unfold at0 atBot
      rw [dif_pos hh, dif_pos hh]
    · refine le_trans ?_ (hle (1, 1))
      unfold at0 atBot
      rw [dif_neg hh, dif_pos (by simp; omega)]
      exact hY _ _ _
  have dn : ∀ dy dx : ℕ, atBot (Y c) (2 * h.val + dy) (2 * v.val + dx) ≤ at0 (Y c) 1 (2 * h.val + dy) (2 * v.val + dx) := by
    intro dy dx
    unfold at0 atBot
    split
    · exact le_rfl
    · exact bot_le
  apply le_antisymm
  · refine Finset.sup_le fun d _ => (dn d.1.val d.2.val).trans ?_
    obtain ⟨dy, dx⟩ := d
    fin_cases dy <;> fin_cases dx <;> simp only [le_max_iff, le_refl, true_or, or_true]
  · simp only [max_le_iff]
    exact ⟨⟨⟨⟨⟨⟨⟨⟨up 1 1, up 1 2⟩, up 1 0⟩, up 2 1⟩, up 0 1⟩, up 2 2⟩, up 2 0⟩, up 0 2⟩, up 0 0⟩

end Cert.Maths

end
-- ==== Proof.Kernel.Pad.lean ====
/- The backbone's two scratch buffers as functions: a feature map kept as 3136 rows between 64 rows of zeros on either side, and the patch matrix whose
   nine blocks of 64 columns are the nine shifts of that map. -/
module

public import proofs.«01_k».proof.Proof.Gen.KernelIdeal.Frame
public import proofs.«01_k».proof.Proof.Maths.Sums
public import Idealize.ShloMosaic.Lib.Pipeline.ReadBack
public import Idealize.ShloMosaic.Lib.Pipeline.ValueKit.Tiles

@[expose] public section

set_option maxRecDepth 16384

noncomputable section

namespace Cert.KernelIdeal.Backbone

open Idealize.ShloMosaic Idealize.SL.Sem Cert.Maths
open Cert.KernelIdeal Cert.KernelIdeal.Gen

/-- A feature map laid out as 3136 rows of 64 channels. -/
def vec (X : Img) : S3136x64.Idx → EReal := fun j => X (j 1) ⟨(j 0).val / 56, by have := (j 0).isLt; simp at this; omega⟩ ⟨(j 0).val % 56, by omega⟩

/-- The map between its zero rows, at row `n` and channel `c`. -/
def padAt (X : Img) (n : ℕ) (c : Fin 64) : EReal :=
  if h : 64 ≤ n ∧ n < 3200 then X c ⟨(n - 64) / 56, by omega⟩ ⟨(n - 64) % 56, by omega⟩ else 0

/-- The stores `L` leave the map `X` between zero rows. -/
def Pad (L : List (View.Piece (Elt Ideal) S3264x64 .f32)) (X : Img) : Prop :=
  ∀ j : S3264x64.Idx, View.canon L j = padAt X (j 0).val (j 1)

/-- Storing another map over the middle rows leaves that map between zero rows. -/
theorem pad_cons {L : List (View.Piece (Elt Ideal) S3264x64 .f32)} {X X' : Img} (hL : Pad L X) {inb} {p : Vec Ideal S3136x64 .f32} (hp : p = vec X') :
    Pad (⟨Rect.unit ![64, 0] S3136x64.size inb, p⟩ :: L) X' := by
  intro j
  by_cases h : 64 ≤ (j 0).val ∧ (j 0).val < 3200
  · have e : j = (Rect.unit ![64, 0] S3136x64.size inb : Rect S3264x64).emb (ix2 ⟨(j 0).val - 64, by omega⟩ (j 1)) := by
      funext a
      apply Fin.ext
      fin_cases a
      · show (j 0).val = 64 + 1 * ((j 0).val - 64); omega
      · show (j 1).val = 0 + 1 * (j 1).val; omega
    rw [e, View.canon_cons_emb, ← e, hp]
    unfold padAt vec
    rw [dif_pos h]
    rfl
  · rw [View.canon_cons_of_not_mem, hL j]
    · unfold padAt
      rw [dif_neg h, dif_neg h]
    · intro hm
      have hm : j ∈ (Rect.unit ![64, 0] S3136x64.size inb : Rect S3264x64).set := hm
      have h0 : 64 ≤ (j 0).val ∧ (j 0).val < 64 + 3136 := (Rect.mem_set_unit.mp hm) 0
      exact h ⟨h0.1, by omega⟩

/-- A row of the map between its zero rows is the map behind a border of one zero, on the columns that do not wrap. -/
theorem padAt_eq (X : Img) (c : Fin 64) (h v : Fin 56) (dy dx n : ℕ) (hn : n + 57 = 64 + 56 * (h.val + dy) + (v.val + dx)) (hv : 1 ≤ v.val + dx ∧ v.val + dx ≤ 56) :
    padAt X n c = at0 (X c) 1 (h.val + dy) (v.val + dx) := by
  unfold padAt at0
  by_cases hh : 1 ≤ h.val + dy ∧ h.val + dy < 57
  · have e1 : (n - 64) / 56 = h.val + dy - 1 := by omega
    have e2 : (n - 64) % 56 = v.val + dx - 1 := by omega
    rw [dif_pos (by omega), dif_pos (by omega)]
    simp only [e1, e2]
  · rw [dif_neg (by omega), dif_neg (by omega)]

/-- The shift `(dy, dx)` of the map, as rows. -/
def tap (X : Img) (dy dx : ℕ) : S3136x64.Idx → EReal := fun j => at0 (X (j 1)) 1 ((j 0).val / 56 + dy) ((j 0).val % 56 + dx)

/-- The patch matrix. -/
def patch (X : Img) : S3136x576.Idx → EReal := fun j =>
  at0 (X ⟨(j 1).val % 64, by omega⟩) 1 ((j 0).val / 56 + (j 1).val / 64 / 3) ((j 0).val % 56 + (j 1).val / 64 % 3)

end Cert.KernelIdeal.Backbone

end
-- ==== Proof.Kernel.Masks.lean ====
/- The kernel's column masks, decided row by row. -/
module

public import proofs.«01_k».proof.Proof.Kernel.Pad

@[expose] public section

set_option maxRecDepth 16384

noncomputable section

namespace Cert.KernelIdeal.Backbone

open Idealize.ShloMosaic Idealize.SL.Sem Cert.Maths
open Cert.KernelIdeal Cert.KernelIdeal.Gen

/-- The first mask admits every column but the first. -/
theorem mask_left (j : S3136x64.Idx) : (cmpi .sge kernelRun0_A.sl.v27 kernelRun0_A.sl.v15) j = if 1 ≤ (j 0).val % 56 then 1#1 else 0#1 := by
  have h : ∀ r : Fin 3136, (cmpi .sge kernelRun0_A.sl.v27 kernelRun0_A.sl.v15) (ix2 r (0 : Fin 64)) = if 1 ≤ r.val % 56 then 1#1 else 0#1 := by
    decide +kernel
  exact h (j 0)

/-- The second mask admits every column but the last. -/
theorem mask_right (j : S3136x64.Idx) : (cmpi .sle kernelRun0_A.sl.v27 kernelRun0_A.sl.v30) j = if (j 0).val % 56 ≤ 54 then 1#1 else 0#1 := by
  have h : ∀ r : Fin 3136, (cmpi .sle kernelRun0_A.sl.v27 kernelRun0_A.sl.v30) (ix2 r (0 : Fin 64)) = if r.val % 56 ≤ 54 then 1#1 else 0#1 := by
    decide +kernel
  exact h (j 0)

end Cert.KernelIdeal.Backbone

end
-- ==== Proof.Kernel.Taps.lean ====
/- The nine shifts it stores into the patch matrix. -/
module

public import proofs.«01_k».proof.Proof.Kernel.Masks

@[expose] public section

set_option maxRecDepth 16384

noncomputable section

namespace Cert.KernelIdeal.Backbone

open Idealize.ShloMosaic Idealize.SL.Sem Cert.Maths
open Cert.KernelIdeal Cert.KernelIdeal.Gen

/-- The zero the masked columns take. -/
theorem zeros (j : S3136x64.Idx) : (kernelRun0_A.sl.v69 (F := Ideal)) j = (0 : EReal) := by
  show Ideal.ofBits .f32 0x00000000#32 = 0
  simp [Ideal.ofBits, Ideal.ieee]

variable {κ : Kind} {sp : Space} (m : View sig κ sp S3264x64 .f32)

/-- The 3136 rows from row `o` on, as a load's rectangle. -/
abbrev rows (o : ℕ) (inb : ∀ a : Fin S3264x64.rank, (![o, 0] : Fin 2 → ℕ) a + S3136x64.size a ≤ S3264x64.size a) : LoadRect S3264x64 :=
  (Rect.unit (s := S3264x64) ![o, 0] S3136x64.size inb).toLoadRect

/-- A load of 3136 rows from row `o` on. -/
theorem load_rows {L : List (View.Piece (Elt Ideal) S3264x64 .f32)} {X : Img} (hL : Pad L X) {o : ℕ} {inb} (j : S3136x64.Idx) :
    m.readCov L (rows o inb) j = padAt X (o + (j 0).val) (j 1) := by
  rw [View.readCov_eq_canon']
  show View.canon L _ = _
  rw [hL]
  have e0 : ((rows o inb).idx j 0).val = o + (j 0).val := by
    show o + 1 * (j 0).val = _; omega
  have e1 : (rows o inb).idx j 1 = j 1 := by
    apply Fin.ext
    show 0 + 1 * (j 1).val = _; omega
  rw [e0, e1]

/-- The shifts whose columns do not wrap need no mask. -/
theorem tap_mid {L : List (View.Piece (Elt Ideal) S3264x64 .f32)} {X : Img} (hL : Pad L X) {o dy : ℕ} {inb} (ho : o = 8 + 56 * dy) :
    (m.readCov L (rows o inb) : S3136x64.Idx → EReal) = tap X dy 1 := by
  funext j
  have h0 : (j 0).val < 3136 := (j 0).isLt
  rw [load_rows m hL, ← show _ = tap X dy 1 j from
    padAt_eq X (j 1) ⟨(j 0).val / 56, by omega⟩ ⟨(j 0).val % 56, by omega⟩ dy 1 (o + (j 0).val) (by simp only []; omega) (by simp only []; omega)]

/-- The shifts one column to the left, the first column masked. -/
theorem tap_left {L : List (View.Piece (Elt Ideal) S3264x64 .f32)} {X : Img} (hL : Pad L X) {o dy : ℕ} {inb} (ho : o = 7 + 56 * dy) :
    (select (cmpi .sge kernelRun0_A.sl.v27 kernelRun0_A.sl.v15) (m.readCov L (rows o inb)) (kernelRun0_A.sl.v69 (F := Ideal)) : S3136x64.Idx → EReal)
      = tap X dy 0 := by
  funext j
  have h0 : (j 0).val < 3136 := (j 0).isLt
  show (if (cmpi .sge kernelRun0_A.sl.v27 kernelRun0_A.sl.v15) j = 1#1 then m.readCov L (rows o inb) j else (kernelRun0_A.sl.v69 (F := Ideal)) j) = _
  rw [mask_left]
  by_cases hv : 1 ≤ (j 0).val % 56
  · rw [if_pos hv, if_pos rfl, load_rows m hL, ← show _ = tap X dy 0 j from
      padAt_eq X (j 1) ⟨(j 0).val / 56, by omega⟩ ⟨(j 0).val % 56, by omega⟩ dy 0 (o + (j 0).val) (by simp only []; omega) (by simp only []; omega)]
  · rw [if_neg hv, if_neg (by decide), zeros]
    unfold tap at0
    rw [dif_neg (by omega)]

/-- The shifts one column to the right, the last column masked. -/
theorem tap_right {L : List (View.Piece (Elt Ideal) S3264x64 .f32)} {X : Img} (hL : Pad L X) {o dy : ℕ} {inb} (ho : o = 9 + 56 * dy) :
    (select (cmpi .sle kernelRun0_A.sl.v27 kernelRun0_A.sl.v30) (m.readCov L (rows o inb)) (kernelRun0_A.sl.v69 (F := Ideal)) : S3136x64.Idx → EReal)
      = tap X dy 2 := by
  funext j
  have h0 : (j 0).val < 3136 := (j 0).isLt
  show (if (cmpi .sle kernelRun0_A.sl.v27 kernelRun0_A.sl.v30) j = 1#1 then m.readCov L (rows o inb) j else (kernelRun0_A.sl.v69 (F := Ideal)) j) = _
  rw [mask_right]
  by_cases hv : (j 0).val % 56 ≤ 54
  · rw [if_pos hv, if_pos rfl, load_rows m hL, ← show _ = tap X dy 2 j from
      padAt_eq X (j 1) ⟨(j 0).val / 56, by omega⟩ ⟨(j 0).val % 56, by omega⟩ dy 2 (o + (j 0).val) (by simp only []; omega) (by simp only []; omega)]
  · rw [if_neg hv, if_neg (by decide), zeros]
    unfold tap at0
    rw [dif_neg (by omega)]

end Cert.KernelIdeal.Backbone

end
-- ==== Proof.Kernel.Patch.lean ====
/- The patch matrix after its nine stores, and its products with the weights. -/
module

public import proofs.«01_k».proof.Proof.Kernel.Pad
public import Idealize.ShloMosaic.Lib.Pointwise

@[expose] public section

set_option maxRecDepth 16384

noncomputable section

namespace Cert.KernelIdeal.Backbone

open Idealize.ShloMosaic Idealize.SL.Sem Cert.Maths
open Cert.KernelIdeal Cert.KernelIdeal.Gen

/-- The 64 columns from column `k` on. -/
abbrev cols (k : ℕ) (inb : ∀ a : Fin S3136x576.rank, (![0, k] : Fin 2 → ℕ) a + S3136x64.size a ≤ S3136x576.size a) : Rect S3136x576 :=
  Rect.unit (s := S3136x576) ![0, k] S3136x64.size inb

/-- A shift of the map is its block of 64 columns of the patch matrix. -/
theorem tap_block (X : Img) (n : ℕ) (hn : n < 9) {k : ℕ} (hk : k = n * 64) (inb) (x : (cols k inb).shape.Idx) :
    tap X (n / 3) (n % 3) x = patch X ((cols k inb).emb x) := by
  have x1 : (x 1).val < 64 := (x 1).isLt
  have e0 : ((cols k inb).emb x 0).val = (x 0).val := by show 0 + 1 * (x 0).val = _; omega
  have e1 : ((cols k inb).emb x 1).val = n * 64 + (x 1).val := by subst hk; show n * 64 + 1 * (x 1).val = _; omega
  have f1 : (n * 64 + (x 1).val) % 64 = (x 1).val := by omega
  have f2 : (n * 64 + (x 1).val) / 64 = n := by omega
  unfold tap patch
  simp only [e0, e1, f1, f2]
  rfl

/-- The nine stores leave the patch matrix, whatever was stored before. -/
theorem patch_stored {κ : Kind} {sp : Space} (m : View sig κ sp S3136x576 .bf16) (X : Img) (p0 p1 p2 p3 p4 p5 p6 p7 p8 : Vec Ideal S3136x64 .bf16)
    (h0 : p0 = tap X 0 0) (h1 : p1 = tap X 0 1) (h2 : p2 = tap X 0 2) (h3 : p3 = tap X 1 0) (h4 : p4 = tap X 1 1) (h5 : p5 = tap X 1 2)
    (h6 : p6 = tap X 2 0) (h7 : p7 = tap X 2 1) (h8 : p8 = tap X 2 2) {i0 i1 i2 i3 i4 i5 i6 i7 i8} (L : List (View.Piece (Elt Ideal) S3136x576 .bf16)) {inb} :
    (m.readCov (⟨cols 512 i8, p8⟩ :: ⟨cols 448 i7, p7⟩ :: ⟨cols 384 i6, p6⟩ :: ⟨cols 320 i5, p5⟩ :: ⟨cols 256 i4, p4⟩ :: ⟨cols 192 i3, p3⟩ :: ⟨cols 128 i2, p2⟩
      :: ⟨cols 64 i1, p1⟩ :: ⟨cols 0 i0, p0⟩ :: L) (Rect.unit (s := S3136x576) ![0, 0] S3136x576.size inb).toLoadRect : S3136x576.Idx → EReal) = patch X := by
  subst h0 h1 h2 h3 h4 h5 h6 h7 h8
  rw [View.readCov_eq_canon']
  funext j
  have hj : (Rect.unit (s := S3136x576) ![0, 0] S3136x576.size inb).toLoadRect.idx j = j := by
    funext a
    apply Fin.ext
    show (![0, 0] : Fin 2 → ℕ) a + 1 * (j a).val = (j a).val
    fin_cases a <;> simp
  show View.canon _ _ = _
  rw [hj]
  refine View.canon_append_of_piecesOf (Val := Elt Ideal) (e := .bf16) (patch X) L [⟨cols 512 i8, _⟩, ⟨cols 448 i7, _⟩, ⟨cols 384 i6, _⟩, ⟨cols 320 i5, _⟩, ⟨cols 256 i4, _⟩, ⟨cols 192 i3, _⟩,
    ⟨cols 128 i2, _⟩, ⟨cols 64 i1, _⟩, ⟨cols 0 i0, _⟩] ⟨tap_block X 8 (by decide) rfl i8, tap_block X 7 (by decide) rfl i7, tap_block X 6 (by decide) rfl i6,
    tap_block X 5 (by decide) rfl i5, tap_block X 4 (by decide) rfl i4, tap_block X 3 (by decide) rfl i3, tap_block X 2 (by decide) rfl i2,
    tap_block X 1 (by decide) rfl i1, tap_block X 0 (by decide) rfl i0, trivial⟩ j ?_
  have hm : ∀ (k : ℕ) (i : _), k ≤ (j 1).val → (j 1).val < k + 64 → j ∈ (cols k i).set := by
    intro k i h1 h2
    refine Rect.mem_set_unit.mpr fun a => ?_
    fin_cases a
    · exact ⟨Nat.zero_le _, by show (j 0).val < 0 + 3136; have : (j 0).val < 3136 := (j 0).isLt; omega⟩
    · exact ⟨h1, h2⟩
  have hlt : (j 1).val < 576 := (j 1).isLt
  have hc : (j 1).val / 64 = 0 ∨ (j 1).val / 64 = 1 ∨ (j 1).val / 64 = 2 ∨ (j 1).val / 64 = 3 ∨ (j 1).val / 64 = 4 ∨ (j 1).val / 64 = 5 ∨ (j 1).val / 64 = 6
      ∨ (j 1).val / 64 = 7 ∨ (j 1).val / 64 = 8 := by omega
  rcases hc with h | h | h | h | h | h | h | h | h
  · exact ⟨_, .tail _ (.tail _ (.tail _ (.tail _ (.tail _ (.tail _ (.tail _ (.tail _ (.head _)))))))), hm 0 i0 (by omega) (by omega)⟩
  · exact ⟨_, .tail _ (.tail _ (.tail _ (.tail _ (.tail _ (.tail _ (.tail _ (.head _))))))), hm 64 i1 (by omega) (by omega)⟩
  · exact ⟨_, .tail _ (.tail _ (.tail _ (.tail _ (.tail _ (.tail _ (.head _)))))), hm 128 i2 (by omega) (by omega)⟩
  · exact ⟨_, .tail _ (.tail _ (.tail _ (.tail _ (.tail _ (.head _))))), hm 192 i3 (by omega) (by omega)⟩
  · exact ⟨_, .tail _ (.tail _ (.tail _ (.tail _ (.head _)))), hm 256 i4 (by omega) (by omega)⟩
  · exact ⟨_, .tail _ (.tail _ (.tail _ (.head _))), hm 320 i5 (by omega) (by omega)⟩
  · exact ⟨_, .tail _ (.tail _ (.head _)), hm 384 i6 (by omega) (by omega)⟩
  · exact ⟨_, .tail _ (.head _), hm 448 i7 (by omega) (by omega)⟩
  · exact ⟨_, .head _, hm 512 i8 (by omega) (by omega)⟩

/-- The convolution by a column `g` of the 576 weights. -/
def kconv (g : Fin 576 → EReal) (X : Img) (h v : Fin 56) : EReal :=
  ∑ k : Fin 576, at0 (X ⟨k.val % 64, by omega⟩) 1 (h.val + k.val / 64 / 3) (v.val + k.val / 64 % 3) * g k

/-- The patch matrix times 576 by 64 weights. -/
theorem patch_mul (X : Img) (W : Vec Ideal S576x64 .bf16) :
    (matmul (F := Ideal) dot_S3136x576_S576x64_S3136x64_1_0_0_1_n_n none (φ₁ := .bf16) (φ₂ := .bf16) (patch X : Vec Ideal S3136x576 .bf16) W (constant (F := Ideal) S3136x64 .f32 0x00000000#32) : S3136x64.Idx → EReal)
      = vec fun o h v => kconv (fun k => W (ix2 k o)) X h v := by
  funext j
  pointwise []
  simp only [kconv, vec, patch, zero_add]
  rfl

/-- The patch matrix times 576 by 256 weights. -/
theorem patch_mul4 (X : Img) (W : Vec Ideal S576x256 .bf16) (j : S3136x256.Idx) :
    (matmul (F := Ideal) dot_S3136x576_S576x256_S3136x256_1_0_0_1_n_n none (φ₁ := .bf16) (φ₂ := .bf16) (patch X : Vec Ideal S3136x576 .bf16) W (constant (F := Ideal) S3136x256 .f32 0x00000000#32) : S3136x256.Idx → EReal) j
      = kconv (fun k => W (ix2 k (j 1))) X ⟨(j 0).val / 56, by have : (j 0).val < 3136 := (j 0).isLt; omega⟩ ⟨(j 0).val % 56, by omega⟩ := by
  pointwise []
  simp only [kconv, patch, zero_add]
  rfl

end Cert.KernelIdeal.Backbone

end
-- ==== Proof.Kernel.Layers.lean ====
/- One layer of the backbone on rows: the patch matrix times the weights, the channel's factor and offset, the block's input, the relu. -/
module

public import proofs.«01_k».proof.Proof.Kernel.Taps
public import proofs.«01_k».proof.Proof.Kernel.Patch
public import Idealize.ShloMosaic.Lib.VecWindow

@[expose] public section

set_option maxRecDepth 16384

noncomputable section

namespace Cert.KernelIdeal.Backbone

open Idealize.ShloMosaic Idealize.SL.Sem Cert.Maths
open Cert.KernelIdeal Cert.KernelIdeal.Gen

/-- A load of a whole staging buffer reads what it holds. -/
theorem whole_load {κ : Kind} {sp : Space} {s : Shape} {e : EltTy} (m : Memref sig κ sp s e) (h : m.IsWhole) (x : s.Idx → Elt Ideal e) {off : Fin s.rank → ℕ} {inb} :
    View.readAt (Elt Ideal) m.view (Rect.unit off s.size inb).toLoadRect (h.unread x) = x := by
  rw [View.readAt_full]
  exact h.read_unread x

/-- The row `i` of the table of factors and offsets, on every row of the map. -/
theorem row_of (st : Vec Ideal S8x64 .f32) (i : Fin 8) {i' : ℕ} (hi : i' = i.val) {hs hb} (j : S3136x64.Idx) :
    (broadcastTo S3136x64 (extractStridedSlice S1x64 ![i', 0] st hs) hb) j = st (ix2 i (j 1)) := by
  subst hi
  refine congrArg st ?_
  funext a
  fin_cases a
  · exact Fin.ext (by show i.val + 0 = i.val; omega)
  · exact Fin.ext (by show 0 + (j 1).val = (j 1).val; omega)

/-- A convolution's rows by the channel's factor, the channel's offset added. -/
def layer (W : Vec Ideal S576x64 .bf16) (st : Vec Ideal S8x64 .f32) (i k : Fin 8) (X : Img) : Img := fun o h v =>
  kconv (fun q => W (ix2 q o)) X h v * st (ix2 i o) + st (ix2 k o)

/-- A layer before its relu, as the kernel's operations. -/
theorem layer_rows (X : Img) (W : Vec Ideal S576x64 .bf16) (st : Vec Ideal S8x64 .f32) (i k : Fin 8) {i' k' : ℕ} (hi : i' = i.val) (hk : k' = k.val)
    (p : Vec Ideal S3136x576 .bf16) (hp : p = patch X) {hs hb hs' hb'} :
    addf (mulf (matmul (F := Ideal) (φ₁ := .bf16) (φ₂ := .bf16) dot_S3136x576_S576x64_S3136x64_1_0_0_1_n_n none p W (constant (F := Ideal) S3136x64 .f32 0x00000000#32))
      (broadcastTo S3136x64 (extractStridedSlice S1x64 ![i', 0] st hs) hb)) (broadcastTo S3136x64 (extractStridedSlice S1x64 ![k', 0] st hs') hb')
      = vec (layer W st i k X) := by
  subst hp
  rw [patch_mul]
  funext j
  show vec _ j * (broadcastTo S3136x64 (extractStridedSlice S1x64 ![i', 0] st hs) hb) j + (broadcastTo S3136x64 (extractStridedSlice S1x64 ![k', 0] st hs') hb') j = _
  rw [row_of st i hi, row_of st k hk]
  rfl

/-- The relu of a map's rows. -/
theorem relu_rows (Y : Img) (y : Vec Ideal S3136x64 .f32) (hy : y = vec Y) :
    maximumf (F := Ideal) (φ := .f32) y (kernelRun0_A.sl.v69 (F := Ideal)) = vec fun o h v => relu (Y o h v) := by
  subst hy
  funext j
  show max (vec Y j) ((kernelRun0_A.sl.v69 (F := Ideal)) j) = _
  rw [zeros]
  rfl

end Cert.KernelIdeal.Backbone

end
-- ==== Proof.Kernel.Phases.lean ====
/- The scratch buffer of the four phase maps, each between its own zero rows, and the first fill of the padded buffer. -/
module

public import proofs.«01_k».proof.Proof.Kernel.Taps
public import Idealize.ShloMosaic.Lib.Pointwise

@[expose] public section

set_option maxRecDepth 16384

noncomputable section

namespace Cert.KernelIdeal.Backbone

open Idealize.ShloMosaic Idealize.SL.Sem Cert.Maths
open Cert.KernelIdeal Cert.KernelIdeal.Gen

/-- The stores `L` leave the four maps `P`, each between zero rows. -/
def Pads (L : List (View.Piece (Elt Ideal) S4x3264x64 .f32)) (P : Fin 4 → Img) : Prop :=
  ∀ j : S4x3264x64.Idx, View.canon L j = padAt (P (j 0)) (j 1).val (j 2)

/-- A map's rows, one of the four. -/
abbrev mapRows (k : ℕ) (inb : ∀ a : Fin S4x3264x64.rank, (![k, 64, 0] : Fin 3 → ℕ) a + S1x3136x64.size a ≤ S4x3264x64.size a) : Rect S4x3264x64 :=
  Rect.unit (s := S4x3264x64) ![k, 64, 0] S1x3136x64.size inb

/-- Sixty-four rows of one of the four. -/
abbrev fillRows (k o : ℕ) (inb : ∀ a : Fin S4x3264x64.rank, (![k, o, 0] : Fin 3 → ℕ) a + S1x64x64.size a ≤ S4x3264x64.size a) : Rect S4x3264x64 :=
  Rect.unit (s := S4x3264x64) ![k, o, 0] S1x64x64.size inb

/-- Stores that are blocks of one function, read where one of them covers. -/
theorem canon_of_blocks {S : Shape} {e : EltTy} (G : S.Idx → Elt Ideal e) (L : List (View.Piece (Elt Ideal) S e)) (h : View.PiecesOf G L) (y : S.Idx)
    (hc : ∃ p ∈ L, y ∈ p.1.set) : View.canon L y = G y :=
  View.canon_apply_of_pieces G L h.mem y hc

/-- Dropping a leading axis of one. -/
theorem drop_axis (v : Vec Ideal S1x3136x64 .f32) (hc) (j : S3136x64.Idx) : shapeCast S3136x64 v hc j = v (ix3 (0 : Fin 1) (j 0) (j 1)) := by
  pointwise []

/-- Adding one. -/
theorem add_axis (v : Vec Ideal S3136x64 .f32) (hc) (x : S1x3136x64.Idx) : shapeCast S1x3136x64 v hc x = v (ix2 (x 1) (x 2)) := by
  pointwise []

/-- A map's store is its middle rows. -/
theorem map_block (P : Fin 4 → Img) (k : ℕ) (hk : k < 4) (inb) (w : (mapRows k inb).shape.Idx → EReal) (hw : ∀ x : S1x3136x64.Idx, w x = vec (P ⟨k, hk⟩) (ix2 (x 1) (x 2)))
    (x : (mapRows k inb).shape.Idx) : w x = (fun j : S4x3264x64.Idx => padAt (P (j 0)) (j 1).val (j 2)) ((mapRows k inb).emb x) := by
  rw [hw x]
  have x0 : (x 0).val < 1 := (x 0).isLt
  have x1 : (x 1).val < 3136 := (x 1).isLt
  have e0 : (mapRows k inb).emb x 0 = (⟨k, hk⟩ : Fin 4) := Fin.ext (by show k + 1 * (x 0).val = k; omega)
  have e1 : ((mapRows k inb).emb x 1).val = 64 + (x 1).val := by show 64 + 1 * (x 1).val = _; omega
  have e2 : (mapRows k inb).emb x 2 = x 2 := Fin.ext (by show 0 + 1 * (x 2).val = _; omega)
  simp only [e0, e1, e2]
  unfold padAt vec
  rw [dif_pos (by omega)]
  congr 1
  · exact Fin.ext (by show (x 1).val / 56 = (64 + (x 1).val - 64) / 56; congr 1; omega)
  · exact Fin.ext (by show (x 1).val % 56 = (64 + (x 1).val - 64) % 56; congr 1; omega)

/-- A zero fill is the zero rows. -/
theorem fill_block (P : Fin 4 → Img) (k o : ℕ) (ho : o = 0 ∨ o = 3200) (inb) (w : (fillRows k o inb).shape.Idx → EReal) (hw : ∀ x, w x = 0)
    (x : (fillRows k o inb).shape.Idx) : w x = (fun j : S4x3264x64.Idx => padAt (P (j 0)) (j 1).val (j 2)) ((fillRows k o inb).emb x) := by
  rw [hw x]
  have x1 : (x 1).val < 64 := (x 1).isLt
  have e1 : ((fillRows k o inb).emb x 1).val = o + (x 1).val := by show o + 1 * (x 1).val = _; omega
  simp only [e1]
  unfold padAt
  rw [dif_neg (by omega)]

/-- The twelve stores leave the four maps between zero rows. -/
theorem pads_stored (P : Fin 4 → Img) (w0 w1 w2 w3 : Vec Ideal S1x3136x64 .f32) (z : Vec Ideal S1x64x64 .f32) (hz : ∀ x, z x = (0 : EReal))
    (h0 : ∀ x : S1x3136x64.Idx, w0 x = vec (P 0) (ix2 (x 1) (x 2))) (h1 : ∀ x : S1x3136x64.Idx, w1 x = vec (P 1) (ix2 (x 1) (x 2)))
    (h2 : ∀ x : S1x3136x64.Idx, w2 x = vec (P 2) (ix2 (x 1) (x 2))) (h3 : ∀ x : S1x3136x64.Idx, w3 x = vec (P 3) (ix2 (x 1) (x 2)))
    {i0 i1 i2 i3 a0 a1 a2 a3 b0 b1 b2 b3} :
    Pads [⟨mapRows 3 i3, w3⟩, ⟨mapRows 2 i2, w2⟩, ⟨mapRows 1 i1, w1⟩, ⟨mapRows 0 i0, w0⟩, ⟨fillRows 3 3200 b3, z⟩, ⟨fillRows 3 0 a3, z⟩, ⟨fillRows 2 3200 b2, z⟩, ⟨fillRows 2 0 a2, z⟩,
      ⟨fillRows 1 3200 b1, z⟩, ⟨fillRows 1 0 a1, z⟩, ⟨fillRows 0 3200 b0, z⟩, ⟨fillRows 0 0 a0, z⟩] P := by
  intro j
  refine canon_of_blocks (e := .f32) (fun j : S4x3264x64.Idx => padAt (P (j 0)) (j 1).val (j 2)) _ ?_ j ?_
  · exact ⟨map_block P 3 (by decide) i3 w3 h3, map_block P 2 (by decide) i2 w2 h2, map_block P 1 (by decide) i1 w1 h1, map_block P 0 (by decide) i0 w0 h0,
      fill_block P 3 3200 (.inr rfl) b3 z hz, fill_block P 3 0 (.inl rfl) a3 z hz, fill_block P 2 3200 (.inr rfl) b2 z hz, fill_block P 2 0 (.inl rfl) a2 z hz,
      fill_block P 1 3200 (.inr rfl) b1 z hz, fill_block P 1 0 (.inl rfl) a1 z hz, fill_block P 0 3200 (.inr rfl) b0 z hz, fill_block P 0 0 (.inl rfl) a0 z hz, trivial⟩
  have j1 : (j 1).val < 3264 := (j 1).isLt
  have j2 : (j 2).val < 64 := (j 2).isLt
  have hm : ∀ (k : ℕ) (i : _), (j 0).val = k → 64 ≤ (j 1).val → (j 1).val < 3200 → j ∈ (mapRows k i).set := by
    intro k i h0 h1 h2
    refine Rect.mem_set_unit.mpr fun a => ?_
    fin_cases a
    · exact ⟨by show k ≤ (j 0).val; omega, by show (j 0).val < k + 1; omega⟩
    · exact ⟨h1, by show (j 1).val < 64 + 3136; omega⟩
    · exact ⟨Nat.zero_le _, by show (j 2).val < 0 + 64; omega⟩
  have hf : ∀ (k o : ℕ) (i : _), (j 0).val = k → o ≤ (j 1).val → (j 1).val < o + 64 → j ∈ (fillRows k o i).set := by
    intro k o i h0 h1 h2
    refine Rect.mem_set_unit.mpr fun a => ?_
    fin_cases a
    · exact ⟨by show k ≤ (j 0).val; omega, by show (j 0).val < k + 1; omega⟩
    · exact ⟨h1, h2⟩
    · exact ⟨Nat.zero_le _, by show (j 2).val < 0 + 64; omega⟩
  have hk : (j 0).val = 0 ∨ (j 0).val = 1 ∨ (j 0).val = 2 ∨ (j 0).val = 3 := by have : (j 0).val < 4 := (j 0).isLt; omega
  have hr : (64 ≤ (j 1).val ∧ (j 1).val < 3200) ∨ (j 1).val < 0 + 64 ∨ 3200 ≤ (j 1).val := by omega
  rcases hk with k | k | k | k <;> rcases hr with r | r | r
  · exact ⟨_, .tail _ (.tail _ (.tail _ (.head _))), hm 0 i0 k r.1 r.2⟩
  · exact ⟨_, .tail _ (.tail _ (.tail _ (.tail _ (.tail _ (.tail _ (.tail _ (.tail _ (.tail _ (.tail _ (.tail _ (.head _))))))))))), hf 0 0 a0 k (Nat.zero_le _) r⟩
  · exact ⟨_, .tail _ (.tail _ (.tail _ (.tail _ (.tail _ (.tail _ (.tail _ (.tail _ (.tail _ (.tail _ (.head _)))))))))), hf 0 3200 b0 k r (by omega)⟩
  · exact ⟨_, .tail _ (.tail _ (.head _)), hm 1 i1 k r.1 r.2⟩
  · exact ⟨_, .tail _ (.tail _ (.tail _ (.tail _ (.tail _ (.tail _ (.tail _ (.tail _ (.tail _ (.head _))))))))), hf 1 0 a1 k (Nat.zero_le _) r⟩
  · exact ⟨_, .tail _ (.tail _ (.tail _ (.tail _ (.tail _ (.tail _ (.tail _ (.tail _ (.head _)))))))), hf 1 3200 b1 k r (by omega)⟩
  · exact ⟨_, .tail _ (.head _), hm 2 i2 k r.1 r.2⟩
  · exact ⟨_, .tail _ (.tail _ (.tail _ (.tail _ (.tail _ (.tail _ (.tail _ (.head _))))))), hf 2 0 a2 k (Nat.zero_le _) r⟩
  · exact ⟨_, .tail _ (.tail _ (.tail _ (.tail _ (.tail _ (.tail _ (.head _)))))), hf 2 3200 b2 k r (by omega)⟩
  · exact ⟨_, .head _, hm 3 i3 k r.1 r.2⟩
  · exact ⟨_, .tail _ (.tail _ (.tail _ (.tail _ (.tail _ (.head _))))), hf 3 0 a3 k (Nat.zero_le _) r⟩
  · exact ⟨_, .tail _ (.tail _ (.tail _ (.tail _ (.head _)))), hf 3 3200 b3 k r (by omega)⟩

/-- The three stores of the first fill leave the map they store between zero rows. -/
theorem pad_stored (X : Img) (p : Vec Ideal S3136x64 .f32) (hp : p = vec X) (z : Vec Ideal S64x64 .f32) (hz : ∀ x, z x = (0 : EReal)) {i a b} :
    Pad [⟨(Rect.unit (s := S3264x64) ![64, 0] S3136x64.size i), p⟩, ⟨(Rect.unit (s := S3264x64) ![3200, 0] S64x64.size b), z⟩, ⟨(Rect.unit (s := S3264x64) ![0, 0] S64x64.size a), z⟩] X := by
  subst hp
  intro j
  have j0 : (j 0).val < 3264 := (j 0).isLt
  have j1 : (j 1).val < 64 := (j 1).isLt
  have hm : ∀ (o n : ℕ) (i : ∀ a : Fin S3264x64.rank, (![o, 0] : Fin 2 → ℕ) a + (![n, 64] : Fin 2 → ℕ) a ≤ S3264x64.size a), o ≤ (j 0).val → (j 0).val < o + n →
      j ∈ (Rect.unit (s := S3264x64) ![o, 0] ![n, 64] i).set := by
    intro o n i h1 h2
    refine Rect.mem_set_unit.mpr fun a => ?_
    fin_cases a
    · exact ⟨h1, h2⟩
    · exact ⟨Nat.zero_le _, by show (j 1).val < 0 + 64; omega⟩
  refine canon_of_blocks (e := .f32) (fun j : S3264x64.Idx => padAt X (j 0).val (j 1)) _ ?_ j ?_
  refine ⟨?_, ?_, ?_, trivial⟩
  · intro x
    have x0 : (x 0).val < 3136 := (x 0).isLt
    have e0 : ((Rect.unit (s := S3264x64) ![64, 0] S3136x64.size i).emb x 0).val = 64 + (x 0).val := by show 64 + 1 * (x 0).val = _; omega
    have e1 : (Rect.unit (s := S3264x64) ![64, 0] S3136x64.size i).emb x 1 = x 1 := Fin.ext (by show 0 + 1 * (x 1).val = _; omega)
    simp only [e0, e1]
    unfold padAt vec
    rw [dif_pos (by omega)]
    congr 1
    · exact Fin.ext (by show (x 0).val / 56 = (64 + (x 0).val - 64) / 56; congr 1; omega)
    · exact Fin.ext (by show (x 0).val % 56 = (64 + (x 0).val - 64) % 56; congr 1; omega)
  · intro x
    have x0 : (x 0).val < 64 := (x 0).isLt
    have e0 : ((Rect.unit (s := S3264x64) ![3200, 0] S64x64.size b).emb x 0).val = 3200 + (x 0).val := by show 3200 + 1 * (x 0).val = _; omega
    simp only [e0]
    rw [hz]
    unfold padAt
    rw [dif_neg (by omega)]
  · intro x
    have x0 : (x 0).val < 64 := (x 0).isLt
    have e0 : ((Rect.unit (s := S3264x64) ![0, 0] S64x64.size a).emb x 0).val = (x 0).val := by show 0 + 1 * (x 0).val = _; omega
    simp only [e0]
    rw [hz]
    unfold padAt
    rw [dif_neg (by omega)]
  · have hr : (64 ≤ (j 0).val ∧ (j 0).val < 3200) ∨ (j 0).val < 0 + 64 ∨ 3200 ≤ (j 0).val := by omega
    rcases hr with r | r | r
    · exact ⟨_, .head _, hm 64 3136 i r.1 (by omega)⟩
    · exact ⟨_, .tail _ (.tail _ (.head _)), hm 0 64 a (by omega) (by omega)⟩
    · exact ⟨_, .tail _ (.head _), hm 3200 64 b (by omega) (by omega)⟩

/-- A load of 3136 rows of one of the four maps, from row `o` on. -/
theorem load_map {κ : Kind} {sp : Space} (m : View sig κ sp S4x3264x64 .f32) {L : List (View.Piece (Elt Ideal) S4x3264x64 .f32)} {P : Fin 4 → Img} (hL : Pads L P)
    (k : Fin 4) {k' o : ℕ} (hk : k' = k.val) {inb} {hc} (j : S3136x64.Idx) :
    (shapeCast S3136x64 (m.readCov L (Rect.unit (s := S4x3264x64) ![k', o, 0] S1x3136x64.size inb).toLoadRect : Vec Ideal S1x3136x64 .f32) hc) j = padAt (P k) (o + (j 0).val) (j 1) := by
  subst hk
  rw [drop_axis, View.readCov_eq_canon']
  show View.canon L _ = _
  rw [hL]
  have e0 : (Rect.unit (s := S4x3264x64) ![k.val, o, 0] S1x3136x64.size inb).toLoadRect.idx (ix3 (0 : Fin 1) (j 0) (j 1)) 0 = k := Fin.ext (by show k.val + 1 * 0 = k.val; omega)
  have e1 : ((Rect.unit (s := S4x3264x64) ![k.val, o, 0] S1x3136x64.size inb).toLoadRect.idx (ix3 (0 : Fin 1) (j 0) (j 1)) 1).val = o + (j 0).val := by
    show o + 1 * (j 0).val = _; omega
  have e2 : (Rect.unit (s := S4x3264x64) ![k.val, o, 0] S1x3136x64.size inb).toLoadRect.idx (ix3 (0 : Fin 1) (j 0) (j 1)) 2 = j 1 := Fin.ext (by show 0 + 1 * (j 1).val = _; omega)
  rw [e0, e1, e2]

end Cert.KernelIdeal.Backbone

end
-- ==== Proof.Kernel.First.lean ====
/- The first layer's run: the image blocks between zero rows, the four phase maps, the pooling. -/
module

public import proofs.«01_k».proof.Proof.Kernel.Layers
public import proofs.«01_k».proof.Proof.Kernel.Phases

@[expose] public section

set_option maxRecDepth 16384

noncomputable section

namespace Cert.KernelIdeal.Backbone

open Idealize.ShloMosaic Idealize.SL.Sem Cert.Maths
open Cert.KernelIdeal Cert.KernelIdeal.Gen

variable (c : Dev nD) (arg1 : Memref sig .tc .vmem S1x3136x64 .f32) (harg1 : arg1.IsWhole) (arg2 : Memref sig .tc .vmem S576x256 .bf16) (harg2 : arg2.IsWhole)
  (arg7 : Memref sig .tc .vmem S2x256 .f32) (harg7 : arg7.IsWhole)
  (arg10 : Memref sig .tc .vmem S3264x64 .f32) (arg11 : Memref sig .tc .vmem S3136x576 .bf16) (arg12 : Memref sig .tc .vmem S4x3264x64 .f32)
  (x0 : Vec Ideal S1x3136x64 .f32) (x1 : Vec Ideal S576x256 .bf16) (x6 : Vec Ideal S2x256 .f32)

/-- The image blocks as a map of 64 lanes. -/
def img (x0 : Vec Ideal S1x3136x64 .f32) : Img := fun l h v => x0 (ix3 (0 : Fin 1) (⟨h.val * 56 + v.val, by omega⟩ : Fin 3136) l)

/-- The image blocks, loaded as rows. -/
theorem image_rows : (kernelRun0_A.sl.v67 c arg1 harg1 x0) = vec (img x0) := by
  have h : (kernelRun0_A.sl.v64 c arg1 harg1 x0) = vec (img x0) := by
    funext j
    show shapeCast S3136x64 (View.readAt (Elt Ideal) arg1.view (Rect.unit ![0, 0, 0] S1x3136x64.size _).toLoadRect (harg1.unread x0)) _ j = _
    rw [whole_load, drop_axis]
    unfold vec img
    have h0 : (j 0).val < 3136 := (j 0).isLt
    have e : (⟨(j 0).val / 56 * 56 + (j 0).val % 56, by omega⟩ : Fin 3136) = j 0 := Fin.ext (by show _ / 56 * 56 + _ % 56 = _; omega)
    simp only [e]
  exact (shapeCast_self _ _).trans h

/-- The fills are zeros. -/
theorem fill_zero (x : S64x64.Idx) : (kernelRun0_A.sl.v32 (F := Ideal)) x = (0 : EReal) := by
  show Ideal.ofBits .f32 0x00000000#32 = 0
  simp [Ideal.ofBits, Ideal.ieee]

/-- The padded buffer after the first store. -/
theorem pad0 : Pad (kernelRun0_A.sl.HS0_3 c arg1 harg1 x0) (img x0) :=
  pad_stored (img x0) _ (image_rows c arg1 harg1 x0) _ (fun x => (congrFun (shapeCast_self _ _) x).trans (fill_zero x))

/-- The first patch matrix. -/
theorem patch0 : (kernelRun0_A.sl.v125 c arg1 harg1 arg10 arg11 x0) = patch (img x0) :=
  patch_stored _ (img x0) _ _ _ _ _ _ _ _ _
    ((shapeCast_self _ _).trans (tap_left _ (pad0 c arg1 harg1 x0) (dy := 0) rfl)) ((shapeCast_self _ _).trans (tap_mid _ (pad0 c arg1 harg1 x0) (dy := 0) rfl))
    ((shapeCast_self _ _).trans (tap_right _ (pad0 c arg1 harg1 x0) (dy := 0) rfl)) ((shapeCast_self _ _).trans (tap_left _ (pad0 c arg1 harg1 x0) (dy := 1) rfl))
    ((shapeCast_self _ _).trans (tap_mid _ (pad0 c arg1 harg1 x0) (dy := 1) rfl)) ((shapeCast_self _ _).trans (tap_right _ (pad0 c arg1 harg1 x0) (dy := 1) rfl))
    ((shapeCast_self _ _).trans (tap_left _ (pad0 c arg1 harg1 x0) (dy := 2) rfl)) ((shapeCast_self _ _).trans (tap_mid _ (pad0 c arg1 harg1 x0) (dy := 2) rfl))
    ((shapeCast_self _ _).trans (tap_right _ (pad0 c arg1 harg1 x0) (dy := 2) rfl)) []

end Cert.KernelIdeal.Backbone

end
-- ==== Proof.Kernel.Second.lean ====
/- The first layer's four phase maps and their pooling. -/
module

public import proofs.«01_k».proof.Proof.Kernel.First
public import proofs.«01_k».proof.Proof.Maths.Sums

@[expose] public section

set_option maxRecDepth 16384

noncomputable section

namespace Cert.KernelIdeal.Backbone

open Idealize.ShloMosaic Idealize.SL.Sem Cert.Maths
open Cert.KernelIdeal Cert.KernelIdeal.Gen

variable (c : Dev nD) (arg1 : Memref sig .tc .vmem S1x3136x64 .f32) (harg1 : arg1.IsWhole) (arg2 : Memref sig .tc .vmem S576x256 .bf16) (harg2 : arg2.IsWhole)
  (arg7 : Memref sig .tc .vmem S2x256 .f32) (harg7 : arg7.IsWhole)
  (arg10 : Memref sig .tc .vmem S3264x64 .f32) (arg11 : Memref sig .tc .vmem S3136x576 .bf16) (arg12 : Memref sig .tc .vmem S4x3264x64 .f32)
  (x0 : Vec Ideal S1x3136x64 .f32) (x1 : Vec Ideal S576x256 .bf16) (x6 : Vec Ideal S2x256 .f32)

/-- The first layer before the pooling, the output's four phases side by side in the columns. -/
def wide (x1 : Vec Ideal S576x256 .bf16) (x6 : Vec Ideal S2x256 .f32) (X : Img) (q : Fin 256) (h v : Fin 56) : EReal :=
  relu (kconv (fun k => x1 (ix2 k q)) X h v * x6 (ix2 (0 : Fin 2) q) + x6 (ix2 (1 : Fin 2) q))

/-- One phase. -/
def phase (x1 : Vec Ideal S576x256 .bf16) (x6 : Vec Ideal S2x256 .f32) (X : Img) (k : Fin 4) : Img := fun o => wide x1 x6 X ⟨64 * k.val + o.val, by omega⟩

/-- A row of the first layer's factors and offsets, on every row. -/
theorem row_wide (i : ℕ) (hi : i < 2) {inb hc hb} (j : S3136x256.Idx) :
    (broadcastTo S3136x256 (shapeCast S1x256 (View.readAt (Elt Ideal) arg7.view (Rect.unit (s := S2x256) ![i, 0] S1x256.size inb).toLoadRect (harg7.unread x6)) hc) hb) j
      = x6 (ix2 (⟨i, hi⟩ : Fin 2) (j 1)) := by
  refine (congrFun (congrArg (fun w => broadcastTo S3136x256 w hb) (shapeCast_self _ hc)) j).trans ?_
  show arg7.view.read (Elt Ideal) (harg7.unread x6) _ = _
  rw [harg7.read_unread]
  refine congrArg x6 ?_
  funext a
  fin_cases a
  · exact Fin.ext (by show i + 1 * 0 = i; omega)
  · exact Fin.ext (by show 0 + 1 * (j 1).val = (j 1).val; omega)

/-- The first layer, all phases. -/
theorem wide_rows (j : S3136x256.Idx) : (kernelRun0_A.sl.v138 c arg1 harg1 arg2 harg2 arg7 harg7 arg10 arg11 x0 x1 x6) j
    = wide x1 x6 (img x0) (j 1) ⟨(j 0).val / 56, by have : (j 0).val < 3136 := (j 0).isLt; omega⟩ ⟨(j 0).val % 56, by omega⟩ := by
  have h0 : (kernelRun0_A.sl.v131 c arg7 harg7 x6) j = x6 (ix2 (0 : Fin 2) (j 1)) := row_wide arg7 harg7 x6 0 (by decide) j
  have h1 : (kernelRun0_A.sl.v135 c arg7 harg7 x6) j = x6 (ix2 (1 : Fin 2) (j 1)) := row_wide arg7 harg7 x6 1 (by decide) j
  have hw : (kernelRun0_A.sl.v127 c arg2 harg2 x1) = x1 := (shapeCast_self _ _).trans (whole_load arg2 harg2 x1)
  have hm : (kernelRun0_A.sl.v128 c arg1 harg1 arg2 harg2 arg10 arg11 x0 x1) j = _ := (congrFun (congrArg₂ (fun p w => matmul (F := Ideal) (φ₁ := .bf16) (φ₂ := .bf16) dot_S3136x576_S576x256_S3136x256_1_0_0_1_n_n none p w (constant (F := Ideal) S3136x256 .f32 0x00000000#32))
    (patch0 c arg1 harg1 arg10 arg11 x0) hw) j).trans (patch_mul4 (img x0) x1 j)
  have hz : (kernelRun0_A.sl.v137 (F := Ideal)) j = (0 : EReal) := by
    show Ideal.ofBits .f32 0x00000000#32 = 0
    simp [Ideal.ofBits, Ideal.ieee]
  show max ((kernelRun0_A.sl.v128 c arg1 harg1 arg2 harg2 arg10 arg11 x0 x1) j * (kernelRun0_A.sl.v131 c arg7 harg7 x6) j + (kernelRun0_A.sl.v135 c arg7 harg7 x6) j) ((kernelRun0_A.sl.v137 (F := Ideal)) j) = _
  rw [h0, h1, hm, hz]
  rfl

/-- Sixty-four columns of it are one phase. -/
theorem phase_rows (k : Fin 4) {o : ℕ} (ho : o = 64 * k.val) {hs hc} (x : S1x3136x64.Idx) :
    (shapeCast S1x3136x64 (extractStridedSlice S3136x64 ![0, o] (kernelRun0_A.sl.v138 c arg1 harg1 arg2 harg2 arg7 harg7 arg10 arg11 x0 x1 x6) hs) hc) x = vec (phase x1 x6 (img x0) k) (ix2 (x 1) (x 2)) := by
  subst ho
  rw [add_axis]
  show (kernelRun0_A.sl.v138 c arg1 harg1 arg2 harg2 arg7 harg7 arg10 arg11 x0 x1 x6) _ = _
  rw [wide_rows]
  unfold vec phase
  have h1 : (x 1).val < 3136 := (x 1).isLt
  have h2 : (x 2).val < 64 := (x 2).isLt
  congr 1
  · exact Fin.ext (by show (0 + (x 1).val) / 56 = (x 1).val / 56; rw [Nat.zero_add])
  · exact Fin.ext (by show (0 + (x 1).val) % 56 = (x 1).val % 56; rw [Nat.zero_add])

/-- The fills of the phase maps are zeros. -/
theorem fill_zero' (x : S1x64x64.Idx) : (kernelRun0_A.sl.v41 (F := Ideal)) x = (0 : EReal) := by
  show Ideal.ofBits .f32 0x00000000#32 = 0
  simp [Ideal.ofBits, Ideal.ieee]

/-- The four phase maps between zero rows. -/
theorem phases : Pads (kernelRun0_A.sl.HS2_12 c arg1 harg1 arg2 harg2 arg7 harg7 arg10 arg11 x0 x1 x6) (phase x1 x6 (img x0)) := by
  have h0 : ∀ x, (kernelRun0_A.sl.v142 c arg1 harg1 arg2 harg2 arg7 harg7 arg10 arg11 x0 x1 x6) x = _ := phase_rows c arg1 harg1 arg2 harg2 arg7 harg7 arg10 arg11 x0 x1 x6 0 (by decide)
  have h1 : ∀ x, (kernelRun0_A.sl.v146 c arg1 harg1 arg2 harg2 arg7 harg7 arg10 arg11 x0 x1 x6) x = _ := phase_rows c arg1 harg1 arg2 harg2 arg7 harg7 arg10 arg11 x0 x1 x6 1 (by decide)
  have h2 : ∀ x, (kernelRun0_A.sl.v150 c arg1 harg1 arg2 harg2 arg7 harg7 arg10 arg11 x0 x1 x6) x = _ := phase_rows c arg1 harg1 arg2 harg2 arg7 harg7 arg10 arg11 x0 x1 x6 2 (by decide)
  have h3 : ∀ x, (kernelRun0_A.sl.v154 c arg1 harg1 arg2 harg2 arg7 harg7 arg10 arg11 x0 x1 x6) x = _ := phase_rows c arg1 harg1 arg2 harg2 arg7 harg7 arg10 arg11 x0 x1 x6 3 (by decide)
  unfold kernelRun0_A.sl.HS2_12
  exact pads_stored (phase x1 x6 (img x0)) (kernelRun0_A.sl.v142 c arg1 harg1 arg2 harg2 arg7 harg7 arg10 arg11 x0 x1 x6) (kernelRun0_A.sl.v146 c arg1 harg1 arg2 harg2 arg7 harg7 arg10 arg11 x0 x1 x6) (kernelRun0_A.sl.v150 c arg1 harg1 arg2 harg2 arg7 harg7 arg10 arg11 x0 x1 x6) (kernelRun0_A.sl.v154 c arg1 harg1 arg2 harg2 arg7 harg7 arg10 arg11 x0 x1 x6) (kernelRun0_A.sl.v41 (F := Ideal)) fill_zero' h0 h1 h2 h3

/-- A phase map's load that needs no mask. -/
theorem ptap_mid {L : List (View.Piece (Elt Ideal) S4x3264x64 .f32)} {P : Fin 4 → Img} (hL : Pads L P) (k : Fin 4) {k' o dy : ℕ} (hk : k' = k.val) (ho : o = 8 + 56 * dy) {inb hc} :
    (shapeCast S3136x64 (arg12.view.readCov L (Rect.unit (s := S4x3264x64) ![k', o, 0] S1x3136x64.size inb).toLoadRect : Vec Ideal S1x3136x64 .f32) hc) = tap (P k) dy 1 := by
  funext j
  have h0 : (j 0).val < 3136 := (j 0).isLt
  rw [load_map arg12.view hL k hk, ← show _ = tap (P k) dy 1 j from
    padAt_eq (P k) (j 1) ⟨(j 0).val / 56, by omega⟩ ⟨(j 0).val % 56, by omega⟩ dy 1 (o + (j 0).val) (by simp only []; omega) (by simp only []; omega)]

/-- A phase map's load that masks the column before the first. -/
theorem ptap_left {L : List (View.Piece (Elt Ideal) S4x3264x64 .f32)} {P : Fin 4 → Img} (hL : Pads L P) (k : Fin 4) {k' o dy : ℕ} (hk : k' = k.val) (ho : o = 7 + 56 * dy) {inb hc} :
    (select (cmpi .sge kernelRun0_A.sl.v27 kernelRun0_A.sl.v15) (shapeCast S3136x64 (arg12.view.readCov L (Rect.unit (s := S4x3264x64) ![k', o, 0] S1x3136x64.size inb).toLoadRect : Vec Ideal S1x3136x64 .f32) hc)
      (kernelRun0_A.sl.v69 (F := Ideal)) : S3136x64.Idx → EReal) = tap (P k) dy 0 := by
  funext j
  have h0 : (j 0).val < 3136 := (j 0).isLt
  show (if (cmpi .sge kernelRun0_A.sl.v27 kernelRun0_A.sl.v15) j = 1#1 then (shapeCast S3136x64 _ hc) j else (kernelRun0_A.sl.v69 (F := Ideal)) j) = _
  rw [mask_left]
  by_cases hv : 1 ≤ (j 0).val % 56
  · rw [if_pos hv, if_pos rfl, load_map arg12.view hL k hk, ← show _ = tap (P k) dy 0 j from
      padAt_eq (P k) (j 1) ⟨(j 0).val / 56, by omega⟩ ⟨(j 0).val % 56, by omega⟩ dy 0 (o + (j 0).val) (by simp only []; omega) (by simp only []; omega)]
  · rw [if_neg hv, if_neg (by decide), zeros]
    unfold tap at0
    rw [dif_neg (by omega)]

/-- The kernel's chain of maxima over four phase maps. -/
def chain (P : Fin 4 → Img) : S3136x64.Idx → EReal := fun j =>
  max (max (max (max (max (max (max (max (tap (P 0) 1 1 j) (tap (P 1) 1 1 j)) (tap (P 1) 1 0 j)) (tap (P 2) 1 1 j)) (tap (P 2) 0 1 j)) (tap (P 3) 1 1 j)) (tap (P 3) 1 0 j)) (tap (P 3) 0 1 j)) (tap (P 3) 0 0 j)

/-- The pooled rows, as the chain. -/
theorem chain_rows : (kernelRun0_A.sl.v186 c arg1 harg1 arg2 harg2 arg7 harg7 arg10 arg11 arg12 x0 x1 x6) = chain (phase x1 x6 (img x0)) := by
  have hP := phases c arg1 harg1 arg2 harg2 arg7 harg7 arg10 arg11 x0 x1 x6
  have a1 : (kernelRun0_A.sl.v156 c arg1 harg1 arg2 harg2 arg7 harg7 arg10 arg11 arg12 x0 x1 x6) = _ := ptap_mid arg12 hP 0 (dy := 1) rfl rfl
  have a2 : (kernelRun0_A.sl.v158 c arg1 harg1 arg2 harg2 arg7 harg7 arg10 arg11 arg12 x0 x1 x6) = _ := ptap_mid arg12 hP 1 (dy := 1) rfl rfl
  have a3 : (kernelRun0_A.sl.v163 c arg1 harg1 arg2 harg2 arg7 harg7 arg10 arg11 arg12 x0 x1 x6) = _ := ptap_left arg12 hP 1 (dy := 1) rfl rfl
  have a4 : (kernelRun0_A.sl.v166 c arg1 harg1 arg2 harg2 arg7 harg7 arg10 arg11 arg12 x0 x1 x6) = _ := ptap_mid arg12 hP 2 (dy := 1) rfl rfl
  have a5 : (kernelRun0_A.sl.v169 c arg1 harg1 arg2 harg2 arg7 harg7 arg10 arg11 arg12 x0 x1 x6) = _ := ptap_mid arg12 hP 2 (dy := 0) rfl rfl
  have a6 : (kernelRun0_A.sl.v172 c arg1 harg1 arg2 harg2 arg7 harg7 arg10 arg11 arg12 x0 x1 x6) = _ := ptap_mid arg12 hP 3 (dy := 1) rfl rfl
  have a7 : (kernelRun0_A.sl.v177 c arg1 harg1 arg2 harg2 arg7 harg7 arg10 arg11 arg12 x0 x1 x6) = _ := ptap_left arg12 hP 3 (dy := 1) rfl rfl
  have a8 : (kernelRun0_A.sl.v180 c arg1 harg1 arg2 harg2 arg7 harg7 arg10 arg11 arg12 x0 x1 x6) = _ := ptap_mid arg12 hP 3 (dy := 0) rfl rfl
  have a9 : (kernelRun0_A.sl.v185 c arg1 harg1 arg2 harg2 arg7 harg7 arg10 arg11 arg12 x0 x1 x6) = _ := ptap_left arg12 hP 3 (dy := 0) rfl rfl
  funext j
  show max (max (max (max (max (max (max (max ((kernelRun0_A.sl.v156 c arg1 harg1 arg2 harg2 arg7 harg7 arg10 arg11 arg12 x0 x1 x6) j) ((kernelRun0_A.sl.v158 c arg1 harg1 arg2 harg2 arg7 harg7 arg10 arg11 arg12 x0 x1 x6) j)) ((kernelRun0_A.sl.v163 c arg1 harg1 arg2 harg2 arg7 harg7 arg10 arg11 arg12 x0 x1 x6) j)) ((kernelRun0_A.sl.v166 c arg1 harg1 arg2 harg2 arg7 harg7 arg10 arg11 arg12 x0 x1 x6) j)) ((kernelRun0_A.sl.v169 c arg1 harg1 arg2 harg2 arg7 harg7 arg10 arg11 arg12 x0 x1 x6) j)) ((kernelRun0_A.sl.v172 c arg1 harg1 arg2 harg2 arg7 harg7 arg10 arg11 arg12 x0 x1 x6) j)) ((kernelRun0_A.sl.v177 c arg1 harg1 arg2 harg2 arg7 harg7 arg10 arg11 arg12 x0 x1 x6) j)) ((kernelRun0_A.sl.v180 c arg1 harg1 arg2 harg2 arg7 harg7 arg10 arg11 arg12 x0 x1 x6) j)) ((kernelRun0_A.sl.v185 c arg1 harg1 arg2 harg2 arg7 harg7 arg10 arg11 arg12 x0 x1 x6) j) = _
  rw [a1, a2, a3, a4, a5, a6, a7, a8, a9]
  rfl

/-- The map whose four phases these are. -/
def full (P : Fin 4 → Img) (o : Fin 64) (y z : Fin 112) : EReal := P ⟨2 * (y.val % 2) + z.val % 2, by omega⟩ o ⟨y.val / 2, by omega⟩ ⟨z.val / 2, by omega⟩

/-- A shift of a phase is a place of the whole map. -/
theorem tap_full (P : Fin 4 → Img) (k : Fin 4) (dy dx ey ex : ℕ) (hy : 2 * dy + k.val / 2 = ey + 1) (hx : 2 * dx + k.val % 2 = ex + 1) (o : Fin 64) (h v : Fin 56) :
    at0 (P k o) 1 (h.val + dy) (v.val + dx) = at0 (full P o) 1 (2 * h.val + ey) (2 * v.val + ex) := by
  unfold at0
  by_cases hh : (1 ≤ h.val + dy ∧ h.val + dy < 56 + 1) ∧ (1 ≤ v.val + dx ∧ v.val + dx < 56 + 1)
  · rw [dif_pos hh, dif_pos (by omega)]
    unfold full
    have e0 : (⟨2 * ((2 * h.val + ey - 1) % 2) + (2 * v.val + ex - 1) % 2, by omega⟩ : Fin 4) = k := Fin.ext (by show 2 * ((2 * h.val + ey - 1) % 2) + (2 * v.val + ex - 1) % 2 = k.val; omega)
    have e1 : (2 * h.val + ey - 1) / 2 = h.val + dy - 1 := by omega
    have e2 : (2 * v.val + ex - 1) / 2 = v.val + dx - 1 := by omega
    simp only [e0, e1, e2]
  · rw [dif_neg hh, dif_neg (by omega)]

/-- The chain at one place is the pooling of the whole map there, when no value of it is negative. -/
theorem chain_at (P : Fin 4 → Img) (hP : ∀ k o h v, 0 ≤ P k o h v) (o : Fin 64) (h v : Fin 56) :
    max (max (max (max (max (max (max (max (at0 (P 0 o) 1 (h.val + 1) (v.val + 1)) (at0 (P 1 o) 1 (h.val + 1) (v.val + 1))) (at0 (P 1 o) 1 (h.val + 1) (v.val + 0)))
      (at0 (P 2 o) 1 (h.val + 1) (v.val + 1))) (at0 (P 2 o) 1 (h.val + 0) (v.val + 1))) (at0 (P 3 o) 1 (h.val + 1) (v.val + 1))) (at0 (P 3 o) 1 (h.val + 1) (v.val + 0)))
      (at0 (P 3 o) 1 (h.val + 0) (v.val + 1))) (at0 (P 3 o) 1 (h.val + 0) (v.val + 0)) = pool (full P) o h v := by
  rw [pool_eq (full P) (fun _ _ _ => hP _ _ _ _)]
  have t := fun (k : Fin 4) (dy dx ey ex : ℕ) hy hx => tap_full P k dy dx ey ex hy hx o h v
  rw [← t 0 1 1 1 1 rfl rfl, ← t 1 1 1 1 2 rfl rfl, ← t 1 1 0 1 0 rfl rfl, ← t 2 1 1 2 1 rfl rfl, ← t 2 0 1 0 1 rfl rfl, ← t 3 1 1 2 2 rfl rfl, ← t 3 1 0 2 0 rfl rfl, ← t 3 0 1 0 2 rfl rfl, ← t 3 0 0 0 0 rfl rfl]

/-- The pooled rows are the pooling of the whole map, when no value of it is negative. -/
theorem chain_pool (P : Fin 4 → Img) (hP : ∀ k o h v, 0 ≤ P k o h v) : chain P = vec (pool (full P)) := by
  funext j
  exact chain_at P hP (j 1) ⟨(j 0).val / 56, by have : (j 0).val < 3136 := (j 0).isLt; omega⟩ ⟨(j 0).val % 56, by omega⟩

/-- The pooled map. -/
def pooled (x0 : Vec Ideal S1x3136x64 .f32) (x1 : Vec Ideal S576x256 .bf16) (x6 : Vec Ideal S2x256 .f32) : Img := pool (full (phase x1 x6 (img x0)))

/-- The pooled rows. -/
theorem pooled_rows : (kernelRun0_A.sl.v186 c arg1 harg1 arg2 harg2 arg7 harg7 arg10 arg11 arg12 x0 x1 x6) = vec (pooled x0 x1 x6) :=
  (chain_rows c arg1 harg1 arg2 harg2 arg7 harg7 arg10 arg11 arg12 x0 x1 x6).trans (chain_pool _ fun _ _ _ _ => le_max_right _ _)

end Cert.KernelIdeal.Backbone

end
-- ==== Proof.Kernel.Third.lean ====
/- The two residual blocks of the kernel, layer by layer. -/
module

public import proofs.«01_k».proof.Proof.Kernel.Second

@[expose] public section

set_option maxRecDepth 16384

noncomputable section

namespace Cert.KernelIdeal.Backbone

open Idealize.ShloMosaic Idealize.SL.Sem Cert.Maths
open Cert.KernelIdeal Cert.KernelIdeal.Gen

variable (c : Dev nD) (arg1 : Memref sig .tc .vmem S1x3136x64 .f32) (harg1 : arg1.IsWhole) (arg2 : Memref sig .tc .vmem S576x256 .bf16) (harg2 : arg2.IsWhole)
  (arg3 : Memref sig .tc .vmem S576x64 .bf16) (harg3 : arg3.IsWhole) (arg4 : Memref sig .tc .vmem S576x64 .bf16) (harg4 : arg4.IsWhole)
  (arg5 : Memref sig .tc .vmem S576x64 .bf16) (harg5 : arg5.IsWhole) (arg6 : Memref sig .tc .vmem S576x64 .bf16) (harg6 : arg6.IsWhole)
  (arg7 : Memref sig .tc .vmem S2x256 .f32) (harg7 : arg7.IsWhole) (arg8 : Memref sig .tc .vmem S8x64 .f32) (harg8 : arg8.IsWhole)
  (arg10 : Memref sig .tc .vmem S3264x64 .f32) (arg11 : Memref sig .tc .vmem S3136x576 .bf16) (arg12 : Memref sig .tc .vmem S4x3264x64 .f32)
  (x0 : Vec Ideal S1x3136x64 .f32) (x1 : Vec Ideal S576x256 .bf16) (x2 x3 x4 x5 : Vec Ideal S576x64 .bf16) (x6 : Vec Ideal S2x256 .f32) (x7 : Vec Ideal S8x64 .f32)

/-- A load of all of a staging buffer, cast to its own shape. -/
theorem operand (m : Memref sig .tc .vmem S576x64 .bf16) (h : m.IsWhole) (x : Vec Ideal S576x64 .bf16) {inb hc} :
    shapeCast S576x64 (View.readAt (Elt Ideal) m.view (Rect.unit (s := S576x64) ![0, 0] S576x64.size inb).toLoadRect (h.unread x)) hc = x :=
  (shapeCast_self _ _).trans (whole_load m h x)

/-- The table of factors and offsets. -/
theorem table : (kernelRun0_A.sl.v188 c arg8 harg8 x7) = x7 := (shapeCast_self _ _).trans (whole_load arg8 harg8 x7)

/-- The maps after each layer. -/
def map1 (x0 : Vec Ideal S1x3136x64 .f32) (x1 : Vec Ideal S576x256 .bf16) (x2 : Vec Ideal S576x64 .bf16) (x6 : Vec Ideal S2x256 .f32) (x7 : Vec Ideal S8x64 .f32) : Img := fun o h v =>
  relu (layer x2 x7 0 1 (pooled x0 x1 x6) o h v)

/-- After the first block. -/
def map2 (x0 : Vec Ideal S1x3136x64 .f32) (x1 : Vec Ideal S576x256 .bf16) (x2 x3 : Vec Ideal S576x64 .bf16) (x6 : Vec Ideal S2x256 .f32) (x7 : Vec Ideal S8x64 .f32) : Img := fun o h v =>
  relu (layer x3 x7 2 3 (map1 x0 x1 x2 x6 x7) o h v + pooled x0 x1 x6 o h v)

/-- After the second block's first half. -/
def map3 (x0 : Vec Ideal S1x3136x64 .f32) (x1 : Vec Ideal S576x256 .bf16) (x2 x3 x4 : Vec Ideal S576x64 .bf16) (x6 : Vec Ideal S2x256 .f32) (x7 : Vec Ideal S8x64 .f32) : Img := fun o h v =>
  relu (layer x4 x7 4 5 (map2 x0 x1 x2 x3 x6 x7) o h v)

/-- After the second block. -/
def map4 (x0 : Vec Ideal S1x3136x64 .f32) (x1 : Vec Ideal S576x256 .bf16) (x2 x3 x4 x5 : Vec Ideal S576x64 .bf16) (x6 : Vec Ideal S2x256 .f32) (x7 : Vec Ideal S8x64 .f32) : Img := fun o h v =>
  relu (layer x5 x7 6 7 (map3 x0 x1 x2 x3 x4 x6 x7) o h v + map2 x0 x1 x2 x3 x6 x7 o h v)

/-- The padded buffer after the pooled map's store. -/
theorem pad1 : Pad (kernelRun0_A.sl.HS0_4 c arg1 harg1 arg2 harg2 arg7 harg7 arg10 arg11 arg12 x0 x1 x6) (pooled x0 x1 x6) :=
  pad_cons (pad0 c arg1 harg1 x0) ((shapeCast_self _ _).trans (pooled_rows c arg1 harg1 arg2 harg2 arg7 harg7 arg10 arg11 arg12 x0 x1 x6))

/-- The patch matrix of layer 1 of the blocks. -/
theorem patch1 : (kernelRun0_A.sl.v251 c arg1 harg1 arg2 harg2 arg7 harg7 arg10 arg11 arg12 x0 x1 x6) = patch (pooled x0 x1 x6) :=
  have hL := pad1 c arg1 harg1 arg2 harg2 arg7 harg7 arg10 arg11 arg12 x0 x1 x6
  patch_stored _ (pooled x0 x1 x6) _ _ _ _ _ _ _ _ _
    ((shapeCast_self _ _).trans (tap_left _ hL (dy := 0) rfl)) ((shapeCast_self _ _).trans (tap_mid _ hL (dy := 0) rfl)) ((shapeCast_self _ _).trans (tap_right _ hL (dy := 0) rfl))
    ((shapeCast_self _ _).trans (tap_left _ hL (dy := 1) rfl)) ((shapeCast_self _ _).trans (tap_mid _ hL (dy := 1) rfl)) ((shapeCast_self _ _).trans (tap_right _ hL (dy := 1) rfl))
    ((shapeCast_self _ _).trans (tap_left _ hL (dy := 2) rfl)) ((shapeCast_self _ _).trans (tap_mid _ hL (dy := 2) rfl)) ((shapeCast_self _ _).trans (tap_right _ hL (dy := 2) rfl)) _

/-- The rows after layer 1 of the blocks. -/
theorem rows1 : (kernelRun0_A.sl.v260 c arg1 harg1 arg2 harg2 arg3 harg3 arg7 harg7 arg8 harg8 arg10 arg11 arg12 x0 x1 x2 x6 x7) = vec (map1 x0 x1 x2 x6 x7) := by
  have e : (kernelRun0_A.sl.v258 c arg1 harg1 arg2 harg2 arg3 harg3 arg7 harg7 arg8 harg8 arg10 arg11 arg12 x0 x1 x2 x6 x7) = vec (layer x2 x7 0 1 (pooled x0 x1 x6)) := by
    have w : (kernelRun0_A.sl.v253 c arg3 harg3 x2) = x2 := operand arg3 harg3 x2
    have e0 : (kernelRun0_A.sl.v258 c arg1 harg1 arg2 harg2 arg3 harg3 arg7 harg7 arg8 harg8 arg10 arg11 arg12 x0 x1 x2 x6 x7) = vec (layer (kernelRun0_A.sl.v253 c arg3 harg3 x2) (kernelRun0_A.sl.v188 c arg8 harg8 x7) 0 1 (pooled x0 x1 x6)) := layer_rows (pooled x0 x1 x6) _ _ 0 1 rfl rfl (kernelRun0_A.sl.v251 c arg1 harg1 arg2 harg2 arg7 harg7 arg10 arg11 arg12 x0 x1 x6) (patch1 c arg1 harg1 arg2 harg2 arg7 harg7 arg10 arg11 arg12 x0 x1 x6)
    rw [e0, w, table]
  exact relu_rows _ _ e

/-- The padded buffer after that map's store. -/
theorem pad2 : Pad (kernelRun0_A.sl.HS0_5 c arg1 harg1 arg2 harg2 arg3 harg3 arg7 harg7 arg8 harg8 arg10 arg11 arg12 x0 x1 x2 x6 x7) (map1 x0 x1 x2 x6 x7) :=
  pad_cons (pad1 c arg1 harg1 arg2 harg2 arg7 harg7 arg10 arg11 arg12 x0 x1 x6) ((shapeCast_self _ _).trans (rows1 c arg1 harg1 arg2 harg2 arg3 harg3 arg7 harg7 arg8 harg8 arg10 arg11 arg12 x0 x1 x2 x6 x7))

/-- The patch matrix of layer 2 of the blocks. -/
theorem patch2 : (kernelRun0_A.sl.v323 c arg1 harg1 arg2 harg2 arg3 harg3 arg7 harg7 arg8 harg8 arg10 arg11 arg12 x0 x1 x2 x6 x7) = patch (map1 x0 x1 x2 x6 x7) :=
  have hL := pad2 c arg1 harg1 arg2 harg2 arg3 harg3 arg7 harg7 arg8 harg8 arg10 arg11 arg12 x0 x1 x2 x6 x7
  patch_stored _ (map1 x0 x1 x2 x6 x7) _ _ _ _ _ _ _ _ _
    ((shapeCast_self _ _).trans (tap_left _ hL (dy := 0) rfl)) ((shapeCast_self _ _).trans (tap_mid _ hL (dy := 0) rfl)) ((shapeCast_self _ _).trans (tap_right _ hL (dy := 0) rfl))
    ((shapeCast_self _ _).trans (tap_left _ hL (dy := 1) rfl)) ((shapeCast_self _ _).trans (tap_mid _ hL (dy := 1) rfl)) ((shapeCast_self _ _).trans (tap_right _ hL (dy := 1) rfl))
    ((shapeCast_self _ _).trans (tap_left _ hL (dy := 2) rfl)) ((shapeCast_self _ _).trans (tap_mid _ hL (dy := 2) rfl)) ((shapeCast_self _ _).trans (tap_right _ hL (dy := 2) rfl)) _

/-- The rows after layer 2 of the blocks. -/
theorem rows2 : (kernelRun0_A.sl.v333 c arg1 harg1 arg2 harg2 arg3 harg3 arg4 harg4 arg7 harg7 arg8 harg8 arg10 arg11 arg12 x0 x1 x2 x3 x6 x7) = vec (map2 x0 x1 x2 x3 x6 x7) := by
  have e : (kernelRun0_A.sl.v330 c arg1 harg1 arg2 harg2 arg3 harg3 arg4 harg4 arg7 harg7 arg8 harg8 arg10 arg11 arg12 x0 x1 x2 x3 x6 x7) = vec (layer x3 x7 2 3 (map1 x0 x1 x2 x6 x7)) := by
    have w : (kernelRun0_A.sl.v325 c arg4 harg4 x3) = x3 := operand arg4 harg4 x3
    have e0 : (kernelRun0_A.sl.v330 c arg1 harg1 arg2 harg2 arg3 harg3 arg4 harg4 arg7 harg7 arg8 harg8 arg10 arg11 arg12 x0 x1 x2 x3 x6 x7) = vec (layer (kernelRun0_A.sl.v325 c arg4 harg4 x3) (kernelRun0_A.sl.v188 c arg8 harg8 x7) 2 3 (map1 x0 x1 x2 x6 x7)) := layer_rows (map1 x0 x1 x2 x6 x7) _ _ 2 3 rfl rfl (kernelRun0_A.sl.v323 c arg1 harg1 arg2 harg2 arg3 harg3 arg7 harg7 arg8 harg8 arg10 arg11 arg12 x0 x1 x2 x6 x7) (patch2 c arg1 harg1 arg2 harg2 arg3 harg3 arg7 harg7 arg8 harg8 arg10 arg11 arg12 x0 x1 x2 x6 x7)
    rw [e0, w, table]
  have e2 : (kernelRun0_A.sl.v331 c arg1 harg1 arg2 harg2 arg3 harg3 arg4 harg4 arg7 harg7 arg8 harg8 arg10 arg11 arg12 x0 x1 x2 x3 x6 x7) = vec fun o h v => layer x3 x7 2 3 (map1 x0 x1 x2 x6 x7) o h v + pooled x0 x1 x6 o h v := by
    funext j
    show (kernelRun0_A.sl.v330 c arg1 harg1 arg2 harg2 arg3 harg3 arg4 harg4 arg7 harg7 arg8 harg8 arg10 arg11 arg12 x0 x1 x2 x3 x6 x7) j + (kernelRun0_A.sl.v186 c arg1 harg1 arg2 harg2 arg7 harg7 arg10 arg11 arg12 x0 x1 x6) j = _
    rw [e, pooled_rows]
    rfl
  exact relu_rows _ _ e2

/-- The padded buffer after that map's store. -/
theorem pad3 : Pad (kernelRun0_A.sl.HS0_6 c arg1 harg1 arg2 harg2 arg3 harg3 arg4 harg4 arg7 harg7 arg8 harg8 arg10 arg11 arg12 x0 x1 x2 x3 x6 x7) (map2 x0 x1 x2 x3 x6 x7) :=
  pad_cons (pad2 c arg1 harg1 arg2 harg2 arg3 harg3 arg7 harg7 arg8 harg8 arg10 arg11 arg12 x0 x1 x2 x6 x7) ((shapeCast_self _ _).trans (rows2 c arg1 harg1 arg2 harg2 arg3 harg3 arg4 harg4 arg7 harg7 arg8 harg8 arg10 arg11 arg12 x0 x1 x2 x3 x6 x7))

/-- The patch matrix of layer 3 of the blocks. -/
theorem patch3 : (kernelRun0_A.sl.v396 c arg1 harg1 arg2 harg2 arg3 harg3 arg4 harg4 arg7 harg7 arg8 harg8 arg10 arg11 arg12 x0 x1 x2 x3 x6 x7) = patch (map2 x0 x1 x2 x3 x6 x7) :=
  have hL := pad3 c arg1 harg1 arg2 harg2 arg3 harg3 arg4 harg4 arg7 harg7 arg8 harg8 arg10 arg11 arg12 x0 x1 x2 x3 x6 x7
  patch_stored _ (map2 x0 x1 x2 x3 x6 x7) _ _ _ _ _ _ _ _ _
    ((shapeCast_self _ _).trans (tap_left _ hL (dy := 0) rfl)) ((shapeCast_self _ _).trans (tap_mid _ hL (dy := 0) rfl)) ((shapeCast_self _ _).trans (tap_right _ hL (dy := 0) rfl))
    ((shapeCast_self _ _).trans (tap_left _ hL (dy := 1) rfl)) ((shapeCast_self _ _).trans (tap_mid _ hL (dy := 1) rfl)) ((shapeCast_self _ _).trans (tap_right _ hL (dy := 1) rfl))
    ((shapeCast_self _ _).trans (tap_left _ hL (dy := 2) rfl)) ((shapeCast_self _ _).trans (tap_mid _ hL (dy := 2) rfl)) ((shapeCast_self _ _).trans (tap_right _ hL (dy := 2) rfl)) _

/-- The rows after layer 3 of the blocks. -/
theorem rows3 : (kernelRun0_A.sl.v405 c arg1 harg1 arg2 harg2 arg3 harg3 arg4 harg4 arg5 harg5 arg7 harg7 arg8 harg8 arg10 arg11 arg12 x0 x1 x2 x3 x4 x6 x7) = vec (map3 x0 x1 x2 x3 x4 x6 x7) := by
  have e : (kernelRun0_A.sl.v403 c arg1 harg1 arg2 harg2 arg3 harg3 arg4 harg4 arg5 harg5 arg7 harg7 arg8 harg8 arg10 arg11 arg12 x0 x1 x2 x3 x4 x6 x7) = vec (layer x4 x7 4 5 (map2 x0 x1 x2 x3 x6 x7)) := by
    have w : (kernelRun0_A.sl.v398 c arg5 harg5 x4) = x4 := operand arg5 harg5 x4
    have e0 : (kernelRun0_A.sl.v403 c arg1 harg1 arg2 harg2 arg3 harg3 arg4 harg4 arg5 harg5 arg7 harg7 arg8 harg8 arg10 arg11 arg12 x0 x1 x2 x3 x4 x6 x7) = vec (layer (kernelRun0_A.sl.v398 c arg5 harg5 x4) (kernelRun0_A.sl.v188 c arg8 harg8 x7) 4 5 (map2 x0 x1 x2 x3 x6 x7)) := layer_rows (map2 x0 x1 x2 x3 x6 x7) _ _ 4 5 rfl rfl (kernelRun0_A.sl.v396 c arg1 harg1 arg2 harg2 arg3 harg3 arg4 harg4 arg7 harg7 arg8 harg8 arg10 arg11 arg12 x0 x1 x2 x3 x6 x7) (patch3 c arg1 harg1 arg2 harg2 arg3 harg3 arg4 harg4 arg7 harg7 arg8 harg8 arg10 arg11 arg12 x0 x1 x2 x3 x6 x7)
    rw [e0, w, table]
  exact relu_rows _ _ e

/-- The padded buffer after that map's store. -/
theorem pad4 : Pad (kernelRun0_A.sl.HS0_7 c arg1 harg1 arg2 harg2 arg3 harg3 arg4 harg4 arg5 harg5 arg7 harg7 arg8 harg8 arg10 arg11 arg12 x0 x1 x2 x3 x4 x6 x7) (map3 x0 x1 x2 x3 x4 x6 x7) :=
  pad_cons (pad3 c arg1 harg1 arg2 harg2 arg3 harg3 arg4 harg4 arg7 harg7 arg8 harg8 arg10 arg11 arg12 x0 x1 x2 x3 x6 x7) ((shapeCast_self _ _).trans (rows3 c arg1 harg1 arg2 harg2 arg3 harg3 arg4 harg4 arg5 harg5 arg7 harg7 arg8 harg8 arg10 arg11 arg12 x0 x1 x2 x3 x4 x6 x7))

/-- The patch matrix of layer 4 of the blocks. -/
theorem patch4 : (kernelRun0_A.sl.v468 c arg1 harg1 arg2 harg2 arg3 harg3 arg4 harg4 arg5 harg5 arg7 harg7 arg8 harg8 arg10 arg11 arg12 x0 x1 x2 x3 x4 x6 x7) = patch (map3 x0 x1 x2 x3 x4 x6 x7) :=
  have hL := pad4 c arg1 harg1 arg2 harg2 arg3 harg3 arg4 harg4 arg5 harg5 arg7 harg7 arg8 harg8 arg10 arg11 arg12 x0 x1 x2 x3 x4 x6 x7
  patch_stored _ (map3 x0 x1 x2 x3 x4 x6 x7) _ _ _ _ _ _ _ _ _
    ((shapeCast_self _ _).trans (tap_left _ hL (dy := 0) rfl)) ((shapeCast_self _ _).trans (tap_mid _ hL (dy := 0) rfl)) ((shapeCast_self _ _).trans (tap_right _ hL (dy := 0) rfl))
    ((shapeCast_self _ _).trans (tap_left _ hL (dy := 1) rfl)) ((shapeCast_self _ _).trans (tap_mid _ hL (dy := 1) rfl)) ((shapeCast_self _ _).trans (tap_right _ hL (dy := 1) rfl))
    ((shapeCast_self _ _).trans (tap_left _ hL (dy := 2) rfl)) ((shapeCast_self _ _).trans (tap_mid _ hL (dy := 2) rfl)) ((shapeCast_self _ _).trans (tap_right _ hL (dy := 2) rfl)) _

end Cert.KernelIdeal.Backbone

end
-- ==== Proof.Kernel.Fourth.lean ====
/- What the first region leaves in its output block: each channel's mean of the last map. -/
module

public import proofs.«01_k».proof.Proof.Kernel.Third
public import Idealize.ShloMosaic.Lib.Pipeline.FrameBody
public import Idealize.ShloMosaic.Lib.VecWindow

@[expose] public section

set_option maxRecDepth 16384

noncomputable section

namespace Cert.KernelIdeal.Backbone

open Idealize.ShloMosaic Idealize.SL.Sem Cert.Maths
open Cert.KernelIdeal Cert.KernelIdeal.Gen

variable (c : Dev nD) (arg1 : Memref sig .tc .vmem S1x3136x64 .f32) (harg1 : arg1.IsWhole) (arg2 : Memref sig .tc .vmem S576x256 .bf16) (harg2 : arg2.IsWhole)
  (arg3 : Memref sig .tc .vmem S576x64 .bf16) (harg3 : arg3.IsWhole) (arg4 : Memref sig .tc .vmem S576x64 .bf16) (harg4 : arg4.IsWhole)
  (arg5 : Memref sig .tc .vmem S576x64 .bf16) (harg5 : arg5.IsWhole) (arg6 : Memref sig .tc .vmem S576x64 .bf16) (harg6 : arg6.IsWhole)
  (arg7 : Memref sig .tc .vmem S2x256 .f32) (harg7 : arg7.IsWhole) (arg8 : Memref sig .tc .vmem S8x64 .f32) (harg8 : arg8.IsWhole)
  (arg10 : Memref sig .tc .vmem S3264x64 .f32) (arg11 : Memref sig .tc .vmem S3136x576 .bf16) (arg12 : Memref sig .tc .vmem S4x3264x64 .f32)
  (x0 : Vec Ideal S1x3136x64 .f32) (x1 : Vec Ideal S576x256 .bf16) (x2 x3 x4 x5 : Vec Ideal S576x64 .bf16) (x6 : Vec Ideal S2x256 .f32) (x7 : Vec Ideal S8x64 .f32)

/-- The sum over the rows. -/
theorem sum_rows (w : Vec Ideal S3136x64 .f32) (j : S64.Idx) {h p q} :
    (multiReduction (F := Ideal) (φ := .f32) .add [0] S64 w 0x00000000#32 h p q) j = ∑ r : Fin 3136, w (ix2 r (j 0)) := by
  pointwise []

/-- The last layer's rows, summed. -/
theorem last_sum (y : Vec Ideal S3136x64 .f32) (st : Vec Ideal S8x64 .f32) (p : Vec Ideal S3136x576 .bf16) (W : Vec Ideal S576x64 .bf16) (X R : Img) (hp : p = patch X) (hy : y = vec R)
    {h6 h7} (j : S64.Idx) :
    k0_pay94 (F := Ideal) y (extractStridedSlice S1x64 ![6, 0] st h6) (extractStridedSlice S1x64 ![7, 0] st h7) p W j
      = ∑ r : Fin 3136, vec (fun o h v => relu (layer W st 6 7 X o h v + R o h v)) (ix2 r (j 0)) := by
  unfold k0_pay94
  refine (sum_rows _ j).trans (Finset.sum_congr rfl fun r _ => ?_)
  have e := layer_rows X W st 6 7 (i' := 6) (k' := 7) rfl rfl p hp (hs := h6) (hb := broadcasts_S1x64_S3136x64) (hs' := h7) (hb' := broadcasts_S1x64_S3136x64)
  have z : Ideal.ofBits .f32 0x00000000#32 = 0 := by simp [Ideal.ofBits, Ideal.ieee]
  rw [shapeCast_self]
  refine (congrArg₂ (fun a b => max (a + b) _) (congrFun e (ix2 r (j 0))) (congrFun hy (ix2 r (j 0)))).trans ?_
  exact congrArg (max _) z

/-- The block stored: a sum times the named constant. -/
theorem scaled (s : FVec Ideal S64 .f32) (j : S1x1x64.Idx) : k0_pay1 (F := Ideal) s j = s (ix1 (j 2)) * ((1 / 3136 : ℝ) : EReal) := by
  have e : (Named.named κ "inv_hw" 0x39A72F05#32 : Ideal .f32) = ((1 / 3136 : ℝ) : EReal) := IdealRules.named_const.ideal_named_scalar _ _ _ _ rfl
  unfold k0_pay1
  pointwise [e]

/-- The mean of each channel, as the kernel sums it. -/
def means (Y : Img) : S1x1x64.Idx → EReal := fun j => (∑ r : Fin 3136, vec Y (ix2 r (j 2))) * ((1 / 3136 : ℝ) : EReal)

variable (i : grid0.Coords) (arg9 : Memref sig .tc .vmem S1x1x64 .f32) (harg9 : arg9.IsWhole) (harg10 : arg10.IsWhole) (harg11 : arg11.IsWhole) (harg12 : arg12.IsWhole)

/-- The output block after the run. -/
theorem region0_out :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7
      = means (map4 x0 x1 x2 x3 x4 x5 x6 x7) := by
  unfold out0_A_8
  have e : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1
      = [⟨Rect.unit (s := S1x1x64) ![0, 0, 0] S1x1x64.size inb_S1x1x64_S1x1x64_0_0_0, k0_pay1 (k0_pay94 (kernelRun0_A.sl.v333 c arg1 harg1 arg2 harg2 arg3 harg3 arg4 harg4 arg7 harg7 arg8 harg8 arg10 arg11 arg12 x0 x1 x2 x3 x6 x7) (kernelRun0_A.sl.v409 c arg8 harg8 x7) (kernelRun0_A.sl.v410 c arg8 harg8 x7) (kernelRun0_A.sl.v468 c arg1 harg1 arg2 harg2 arg3 harg3 arg4 harg4 arg5 harg5 arg7 harg7 arg8 harg8 arg10 arg11 arg12 x0 x1 x2 x3 x4 x6 x7)
        (View.readAt (Elt Ideal) arg6.view (Rect.unit (s := S576x64) ![0, 0] S576x64.size inb_S576x64_S576x64_0_0).toLoadRect (harg6.unread x5)))⟩] := rfl
  have l : ∀ j, k0_pay94 (F := Ideal) (kernelRun0_A.sl.v333 c arg1 harg1 arg2 harg2 arg3 harg3 arg4 harg4 arg7 harg7 arg8 harg8 arg10 arg11 arg12 x0 x1 x2 x3 x6 x7) (kernelRun0_A.sl.v409 c arg8 harg8 x7) (kernelRun0_A.sl.v410 c arg8 harg8 x7) (kernelRun0_A.sl.v468 c arg1 harg1 arg2 harg2 arg3 harg3 arg4 harg4 arg5 harg5 arg7 harg7 arg8 harg8 arg10 arg11 arg12 x0 x1 x2 x3 x4 x6 x7) x5 j
      = ∑ r : Fin 3136, vec (fun o h v => relu (layer x5 (kernelRun0_A.sl.v188 c arg8 harg8 x7) 6 7 (map3 x0 x1 x2 x3 x4 x6 x7) o h v + map2 x0 x1 x2 x3 x6 x7 o h v)) (ix2 r (j 0)) :=
    last_sum (kernelRun0_A.sl.v333 c arg1 harg1 arg2 harg2 arg3 harg3 arg4 harg4 arg7 harg7 arg8 harg8 arg10 arg11 arg12 x0 x1 x2 x3 x6 x7) (kernelRun0_A.sl.v188 c arg8 harg8 x7) (kernelRun0_A.sl.v468 c arg1 harg1 arg2 harg2 arg3 harg3 arg4 harg4 arg5 harg5 arg7 harg7 arg8 harg8 arg10 arg11 arg12 x0 x1 x2 x3 x4 x6 x7) x5 _ _ (patch4 c arg1 harg1 arg2 harg2 arg3 harg3 arg4 harg4 arg5 harg5 arg7 harg7 arg8 harg8 arg10 arg11 arg12 x0 x1 x2 x3 x4 x6 x7) (rows2 c arg1 harg1 arg2 harg2 arg3 harg3 arg4 harg4 arg7 harg7 arg8 harg8 arg10 arg11 arg12 x0 x1 x2 x3 x6 x7)
  rw [e, View.read_writes_full, whole_load]
  funext j
  rw [scaled, l, table]
  rfl

end Cert.KernelIdeal.Backbone

end
-- ==== Proof.Maths.Stem.lean ====
/- The first layer's convolution as one sum over the 576 columns of the patch matrix of the image cut into 4 by 4 blocks. -/
module

public import proofs.«01_k».proof.Proof.Maths.Sums

@[expose] public section

noncomputable section

namespace Cert.Maths

open Idealize.ShloMosaic

/-- The image cut into 4 by 4 blocks: lane `l < 48` of a block's 64 lanes is channel `l / 16`, row `l / 4 % 4`, column `l % 4` of the block; the others are zero. -/
def lanes (x : Fin 3 → Fin 224 → Fin 224 → EReal) : Img := fun l h v =>
  if hl : l.val < 48 then x ⟨l.val / 16, by omega⟩ ⟨4 * h.val + l.val / 4 % 4, by omega⟩ ⟨4 * v.val + l.val % 4, by omega⟩ else 0

/-- A 7 by 7 filter set into a 12 by 12 one at offset `(sy, sx)`, zeros around it. -/
def set12 (w : Fin 7 → Fin 7 → EReal) (sy sx ry rx : ℕ) : EReal :=
  if hh : (sy ≤ ry ∧ ry < sy + 7) ∧ (sx ≤ rx ∧ rx < sx + 7) then w ⟨ry - sy, by omega⟩ ⟨rx - sx, by omega⟩ else 0

/-- The first layer's weights on the block lanes: row `k` of the 576 is shift `(k / 64 / 3, k / 64 % 3)` and lane `k % 64`. -/
def lanesW (w : Fin 3 → Fin 7 → Fin 7 → EReal) (sy sx : ℕ) (k : ℕ) : EReal :=
  if hl : k % 64 < 48 then set12 (w ⟨k % 64 / 16, by omega⟩) sy sx (k / 64 / 3 * 4 + k % 64 / 4 % 4) (k / 64 % 3 * 4 + k % 64 % 4) else 0

/-- A block's lane behind its border of one zero block is the image behind its border of four zeros. -/
theorem at0_lanes (x : Fin 3 → Fin 224 → Fin 224 → EReal) (l : Fin 64) (hl : l.val < 48) (y z : ℕ) :
    at0 (lanes x l) 1 y z = at0 (x ⟨l.val / 16, by omega⟩) 4 (4 * y + l.val / 4 % 4) (4 * z + l.val % 4) := by
  unfold at0
  by_cases hh : (1 ≤ y ∧ y < 56 + 1) ∧ (1 ≤ z ∧ z < 56 + 1)
  · rw [dif_pos hh, dif_pos (by omega)]
    unfold lanes
    rw [dif_pos hl]
    congr 1
    · exact Fin.ext (by show 4 * (y - 1) + l.val / 4 % 4 = 4 * y + l.val / 4 % 4 - 4; omega)
    · exact Fin.ext (by show 4 * (z - 1) + l.val % 4 = 4 * z + l.val % 4 - 4; omega)
  · rw [dif_neg hh, dif_neg (by omega)]

/-- Seven filter taps set among twelve at offset one or three, summed with zeros at the other five. -/
theorem sum12 (F : ℕ → EReal) (s : ℕ) (hs : s = 1 ∨ s = 3) :
    ∑ ky : Fin 7, F ky.val = ∑ d : Fin 3, ∑ i : Fin 4, if s ≤ d.val * 4 + i.val ∧ d.val * 4 + i.val < s + 7 then F (d.val * 4 + i.val - s) else 0 := by
  rcases hs with rfl | rfl <;> simp [Fin.sum_univ_succ, add_assoc]

/-- A sum over 64 lanes whose last 16 terms are zero, by channel, row and column of the block. -/
theorem sum64 (f : ℕ → EReal) (hf : ∀ l, 48 ≤ l → f l = 0) :
    ∑ l : Fin 64, f l.val = ∑ c : Fin 3, ∑ i : Fin 4, ∑ j : Fin 4, f (c.val * 16 + i.val * 4 + j.val) := by
  have h : ∀ n, (∑ l : Fin n, f l.val) = ∑ l ∈ Finset.range n, f l := fun n => Fin.sum_univ_eq_sum_range f n
  rw [h 64, show (64 : ℕ) = 48 + 16 from rfl, Finset.sum_range_add, Finset.sum_eq_zero (s := Finset.range 16) (fun i _ => hf _ (by omega)), add_zero]
  simp only [Finset.sum_range_succ, Finset.sum_range_zero, Fin.sum_univ_succ, Fin.sum_univ_zero, zero_add, add_zero, Fin.val_zero, Fin.val_succ, zero_mul, Nat.reduceAdd, Nat.reduceMul]
  simp only [add_assoc]

/-- A lane of the block weights at shift `(dy, dx)`, channel `c`, row `i`, column `j`. -/
theorem lanesW_at (w : Fin 3 → Fin 7 → Fin 7 → EReal) (sy sx : ℕ) (dy dx : Fin 3) (c : Fin 3) (i j : Fin 4) :
    lanesW w sy sx ((dy.val * 3 + dx.val) * 64 + (c.val * 16 + i.val * 4 + j.val)) = set12 (w c) sy sx (dy.val * 4 + i.val) (dx.val * 4 + j.val) := by
  have hl : c.val * 16 + i.val * 4 + j.val < 48 := by omega
  have e0 : ((dy.val * 3 + dx.val) * 64 + (c.val * 16 + i.val * 4 + j.val)) % 64 = c.val * 16 + i.val * 4 + j.val := by omega
  have e1 : ((dy.val * 3 + dx.val) * 64 + (c.val * 16 + i.val * 4 + j.val)) / 64 = dy.val * 3 + dx.val := by omega
  have e2 : (dy.val * 3 + dx.val) / 3 = dy.val := by omega
  have e3 : (dy.val * 3 + dx.val) % 3 = dx.val := by omega
  have e4 : (c.val * 16 + i.val * 4 + j.val) / 16 = c.val := by omega
  have e5 : (c.val * 16 + i.val * 4 + j.val) / 4 % 4 = i.val := by omega
  have e6 : (c.val * 16 + i.val * 4 + j.val) % 4 = j.val := by omega
  unfold lanesW
  simp only [e0, e1, e2, e3, e4, e5, e6, hl, dif_pos, Fin.eta]

/-- The lanes above 48 carry no weight. -/
theorem lanesW_zero (w : Fin 3 → Fin 7 → Fin 7 → EReal) (sy sx d l : ℕ) (hl : 48 ≤ l) (hl' : l < 64) : lanesW w sy sx (d * 64 + l) = 0 := by
  unfold lanesW
  rw [dif_neg (by omega)]

/-- A lane behind the border, by channel, row and column of the block. -/
theorem at0_lanes_at (x : Fin 3 → Fin 224 → Fin 224 → EReal) (c : Fin 3) (i j : Fin 4) (l : Fin 64) (hl : l.val = c.val * 16 + i.val * 4 + j.val) (y z : ℕ) :
    at0 (lanes x l) 1 y z = at0 (x c) 4 (4 * y + i.val) (4 * z + j.val) := by
  have e4 : l.val / 16 = c.val := by omega
  have e5 : l.val / 4 % 4 = i.val := by omega
  have e6 : l.val % 4 = j.val := by omega
  rw [at0_lanes x l (by omega)]
  simp only [e4, e5, e6, Fin.eta]

/-- A border one wider, read one further in. -/
theorem at0_succ {h w : ℕ} (X : Fin h → Fin w → EReal) (p y z : ℕ) : at0 X (p + 1) (y + 1) (z + 1) = at0 X p y z := by
  unfold at0
  by_cases hh : (p ≤ y ∧ y < h + p) ∧ (p ≤ z ∧ z < w + p)
  · rw [dif_pos hh, dif_pos (by omega)]
    congr 1 <;> exact Fin.ext (by simp only []; omega)
  · rw [dif_neg hh, dif_neg (by omega)]

/-- One channel of the convolution: 49 taps as twelve by twelve taps of which the others are zero. -/
theorem taps12 (w : Fin 7 → Fin 7 → EReal) (A : ℕ → ℕ → EReal) (sy sx : ℕ) (hy : sy = 1 ∨ sy = 3) (hx : sx = 1 ∨ sx = 3) :
    ∑ ky : Fin 7, ∑ kx : Fin 7, A (ky.val + sy) (kx.val + sx) * w ky kx
      = ∑ dy : Fin 3, ∑ i : Fin 4, ∑ dx : Fin 3, ∑ j : Fin 4, A (dy.val * 4 + i.val) (dx.val * 4 + j.val) * set12 w sy sx (dy.val * 4 + i.val) (dx.val * 4 + j.val) := by
  let W : ℕ → ℕ → EReal := fun p q => if h : p < 7 ∧ q < 7 then w ⟨p, h.1⟩ ⟨q, h.2⟩ else 0
  have hW : ∀ p q : Fin 7, W p.val q.val = w p q := fun p q => dif_pos ⟨p.isLt, q.isLt⟩
  simp only [← hW]
  rw [sum12 (fun p => ∑ kx : Fin 7, A (p + sy) (kx.val + sx) * W p kx.val) sy hy]
  refine Finset.sum_congr rfl fun dy _ => Finset.sum_congr rfl fun i _ => ?_
  generalize dy.val * 4 + i.val = Y
  by_cases hY : sy ≤ Y ∧ Y < sy + 7
  · rw [if_pos hY, sum12 (fun q => A (Y - sy + sy) (q + sx) * W (Y - sy) q) sx hx]
    refine Finset.sum_congr rfl fun dx _ => Finset.sum_congr rfl fun j _ => ?_
    generalize dx.val * 4 + j.val = X
    unfold set12
    by_cases hX : sx ≤ X ∧ X < sx + 7
    · rw [if_pos hX, dif_pos ⟨hY, hX⟩, Nat.sub_add_cancel hY.1, Nat.sub_add_cancel hX.1]
      exact congrArg _ (dif_pos ⟨by omega, by omega⟩)
    · rw [if_neg hX, dif_neg (fun h => hX h.2), mul_zero]
  · rw [if_neg hY]
    symm
    refine Finset.sum_eq_zero fun dx _ => Finset.sum_eq_zero fun j _ => ?_
    unfold set12
    rw [dif_neg (fun h => hY h.1), mul_zero]

/-- The 7 by 7 convolution of stride two at output pixel `(2 h + a, 2 v + b)`, as one sum over the columns of the block lanes: the filter sits at
    offset `1 + 2 a` and `1 + 2 b` of the 12 by 12 window of blocks. -/
theorem conv7_eq (w : Fin 64 → Fin 3 → Fin 7 → Fin 7 → EReal) (x : Fin 3 → Fin 224 → Fin 224 → EReal) (o : Fin 64) (h v : Fin 56) (a b : ℕ) (ha : a < 2) (hb : b < 2) :
    conv7 w x o ⟨2 * h.val + a, by omega⟩ ⟨2 * v.val + b, by omega⟩
      = ∑ k : Fin 576, at0 (lanes x ⟨k.val % 64, by omega⟩) 1 (h.val + k.val / 64 / 3) (v.val + k.val / 64 % 3) * lanesW (w o) (1 + 2 * a) (1 + 2 * b) k.val := by
  have hc : ∀ c : Fin 3, ∑ ky : Fin 7, ∑ kx : Fin 7, at0 (x c) 3 (2 * (2 * h.val + a) + ky.val) (2 * (2 * v.val + b) + kx.val) * w o c ky kx
      = ∑ dy : Fin 3, ∑ i : Fin 4, ∑ dx : Fin 3, ∑ j : Fin 4,
          at0 (x c) 4 (4 * (h.val + dy.val) + i.val) (4 * (v.val + dx.val) + j.val) * set12 (w o c) (1 + 2 * a) (1 + 2 * b) (dy.val * 4 + i.val) (dx.val * 4 + j.val) := by
    intro c
    have := taps12 (w o c) (fun Y X => at0 (x c) 4 (4 * h.val + Y) (4 * v.val + X)) (1 + 2 * a) (1 + 2 * b) (by omega) (by omega)
    refine Eq.trans (Finset.sum_congr rfl fun ky _ => Finset.sum_congr rfl fun kx _ => ?_) (this.trans ?_)
    · rw [← at0_succ]
      congr 2 <;> omega
    · refine Finset.sum_congr rfl fun dy _ => Finset.sum_congr rfl fun i _ => Finset.sum_congr rfl fun dx _ => Finset.sum_congr rfl fun j _ => ?_
      rw [show 4 * h.val + (dy.val * 4 + i.val) = 4 * (h.val + dy.val) + i.val by omega, show 4 * v.val + (dx.val * 4 + j.val) = 4 * (v.val + dx.val) + j.val by omega]
  have hl : ∀ (dy dx : Fin 3), ∑ l : Fin 64, at0 (lanes x l) 1 (h.val + dy.val) (v.val + dx.val) * lanesW (w o) (1 + 2 * a) (1 + 2 * b) ((dy.val * 3 + dx.val) * 64 + l.val)
      = ∑ c : Fin 3, ∑ i : Fin 4, ∑ j : Fin 4,
          at0 (x c) 4 (4 * (h.val + dy.val) + i.val) (4 * (v.val + dx.val) + j.val) * set12 (w o c) (1 + 2 * a) (1 + 2 * b) (dy.val * 4 + i.val) (dx.val * 4 + j.val) := by
    intro dy dx
    have := sum64 (fun l => if hl : l < 64 then at0 (lanes x ⟨l, hl⟩) 1 (h.val + dy.val) (v.val + dx.val) * lanesW (w o) (1 + 2 * a) (1 + 2 * b) ((dy.val * 3 + dx.val) * 64 + l) else 0)
      (fun l hl => by
        by_cases h' : l < 64
        · simp only [dif_pos h', lanesW_zero (w o) (1 + 2 * a) (1 + 2 * b) _ l hl h', mul_zero]
        · simp only [dif_neg h'])
    refine Eq.trans (Finset.sum_congr rfl fun l _ => ?_) (this.trans ?_)
    · simp only [dif_pos l.isLt]
    · refine Finset.sum_congr rfl fun c _ => Finset.sum_congr rfl fun i _ => Finset.sum_congr rfl fun j _ => ?_
      have h64 : c.val * 16 + i.val * 4 + j.val < 64 := by omega
      simp only [dif_pos h64, lanesW_at, at0_lanes_at x c i j ⟨_, h64⟩ rfl]
  rw [sum576]
  have hk : ∀ (dy dx : Fin 3) (c : Fin 64),
      at0 (lanes x ⟨((dy.val * 3 + dx.val) * 64 + c.val) % 64, by omega⟩) 1 (h.val + ((dy.val * 3 + dx.val) * 64 + c.val) / 64 / 3) (v.val + ((dy.val * 3 + dx.val) * 64 + c.val) / 64 % 3)
        = at0 (lanes x c) 1 (h.val + dy.val) (v.val + dx.val) := by
    intro dy dx c
    have e1 : ((dy.val * 3 + dx.val) * 64 + c.val) % 64 = c.val := by omega
    have e2 : ((dy.val * 3 + dx.val) * 64 + c.val) / 64 = dy.val * 3 + dx.val := by omega
    have e3 : (dy.val * 3 + dx.val) / 3 = dy.val := by omega
    have e4 : (dy.val * 3 + dx.val) % 3 = dx.val := by omega
    simp only [e1, e2, e3, e4, Fin.eta]
  simp only [hk, hl]
  unfold conv7
  calc _ = ∑ c : Fin 3, ∑ ky : Fin 7, ∑ kx : Fin 7, at0 (x c) 3 (2 * (2 * h.val + a) + ky.val) (2 * (2 * v.val + b) + kx.val) * w o c ky kx := by
          rw [Finset.sum_comm]
          simp only [Finset.sum_comm (s := (Finset.univ : Finset (Fin 7))) (t := (Finset.univ : Finset (Fin 3)))]
          exact Finset.sum_congr rfl fun c _ => Finset.sum_comm
    _ = ∑ c : Fin 3, ∑ dy : Fin 3, ∑ dx : Fin 3, ∑ i : Fin 4, ∑ j : Fin 4,
          at0 (x c) 4 (4 * (h.val + dy.val) + i.val) (4 * (v.val + dx.val) + j.val) * set12 (w o c) (1 + 2 * a) (1 + 2 * b) (dy.val * 4 + i.val) (dx.val * 4 + j.val) :=
          Finset.sum_congr rfl fun c _ => (hc c).trans (Finset.sum_congr rfl fun dy _ => Finset.sum_comm)
    _ = _ := by
          rw [Finset.sum_comm]
          exact Finset.sum_congr rfl fun dy _ => Finset.sum_comm

end Cert.Maths

end
-- ==== Proof.Kernel.Operands.lean ====
/- The arrays the host prepares for the two regions, as values of the arguments. -/
module

public import proofs.«01_k».proof.Proof.Gen.KernelIdeal.Frame
public import proofs.«01_k».proof.Proof.Maths.Stem
public import Idealize.ShloMosaic.Lib.Pointwise

@[expose] public section

set_option maxRecDepth 16384

noncomputable section

namespace Cert.KernelIdeal.Operands

open Idealize.ShloMosaic Idealize.SL.Sem Cert.Maths
open Cert.KernelIdeal Cert.KernelIdeal.Gen

/-- The image in blocks of four by four, a block's pixels side by side. -/
def blocks48 (x : FVec Ideal S32x3x224x224 .f32) : FVec Ideal S32x3136x48 .f32 :=
  shapeCast S32x3136x48 (transpose S32x56x56x3x4x4 [0, 2, 4, 1, 3, 5] (shapeCast S32x3x56x4x56x4 x shapeCasts_S32x3x224x224_S32x3x56x4x56x4) transposes_S32x3x56x4x56x4_S32x56x56x3x4x4_0_2_4_1_3_5) shapeCasts_S32x56x56x3x4x4_S32x3136x48

/-- The blocks at an index. -/
theorem blocks48_apply (x : FVec Ideal S32x3x224x224 .f32) (n : Fin 32) (r : Fin 3136) (l : Fin 48) :
    blocks48 x (ix3 n r l) = x (ix4 n (⟨l.val / 16, by omega⟩ : Fin 3) (⟨4 * (r.val / 56) + l.val / 4 % 4, by omega⟩ : Fin 224) (⟨4 * (r.val % 56) + l.val % 4, by omega⟩ : Fin 224)) := by
  unfold blocks48
  pointwise []
  congr 2 <;> exact Fin.ext (by simp only []; omega)

/-- The sixteen lanes of zeros after them. -/
def depth (x : FVec Ideal S32x3x224x224 .f32) : FVec Ideal S32x3136x64 .f32 :=
  pad S32x3136x64 ![0, 0, 0] ![0, 0, 16] ![0, 0, 0] (blocks48 x) (sitofp (F := Ideal) .f32 (constantI S_ 32 0#32)) pads_S32x3136x48_S32x3136x64_000_000_0160 h_S_

/-- The word zero, converted. -/
theorem zero_word (j : S_.Idx) : sitofp (F := Ideal) .f32 (constantI S_ 32 0#32) j = 0 := by
  show (((0#32 : BitVec 32).toInt : ℝ) : EReal) = 0
  simp

/-- The prepared image holds the image's block lanes. -/
theorem depth_apply (x : FVec Ideal S32x3x224x224 .f32) (n : Fin 32) (l : Fin 64) (h v : Fin 56) :
    depth x (ix3 n (⟨h.val * 56 + v.val, by omega⟩ : Fin 3136) l) = lanes (fun c y z => x (ix4 n c y z)) l h v := by
  unfold depth
  pointwise []
  unfold lanes
  by_cases hl : l.val < 48
  · rw [dif_pos ⟨by omega, hl⟩, dif_pos hl, blocks48_apply]
    have e1 : (h.val * 56 + v.val) / 56 = h.val := by omega
    have e2 : (h.val * 56 + v.val) % 56 = v.val := by omega
    simp only [e1, e2]
  · rw [dif_neg (fun w => hl w.2), dif_neg hl]
    show (((0#32 : BitVec 32).toInt : ℝ) : EReal) = 0
    simp

/-- A 3 by 3 layer's weights as a matrix. -/
def flat3 (w : FVec Ideal S64x64x3x3 .f32) : FVec Ideal S576x64 .bf16 :=
  truncf .bf16 (shapeCast S576x64 (transpose S3x3x64x64 [2, 3, 1, 0] w transposes_S64x64x3x3_S3x3x64x64_2_3_1_0) shapeCasts_S3x3x64x64_S576x64) bitsLt_bf16_f32

/-- The matrix at an index. -/
theorem flat3_apply (w : FVec Ideal S64x64x3x3 .f32) (k : Fin 576) (o : Fin 64) :
    flat3 w (ix2 k o) = w (ix4 o (⟨k.val % 64, by omega⟩ : Fin 64) (⟨k.val / 64 / 3, by omega⟩ : Fin 3) (⟨k.val / 64 % 3, by omega⟩ : Fin 3)) := by
  unfold flat3
  pointwise []
  congr 2
  exact Fin.ext (by simp only []; omega)

/-- One phase's weights out of the bordered filter. -/
def phaseCols (p : FVec Ideal S64x4x12x12 .f32) : FVec Ideal S9x64x64 .f32 :=
  shapeCast S9x64x64 (transpose S3x3x4x4x4x64 [2, 4, 1, 3, 5, 0] (shapeCast S64x4x3x4x3x4 p shapeCasts_S64x4x12x12_S64x4x3x4x3x4) transposes_S64x4x3x4x3x4_S3x3x4x4x4x64_2_4_1_3_5_0) shapeCasts_S3x3x4x4x4x64_S9x64x64

/-- The columns at an index. -/
theorem phaseCols_apply (p : FVec Ideal S64x4x12x12 .f32) (d : Fin 9) (l o : Fin 64) :
    phaseCols p (ix3 d l o) = p (ix4 o (⟨l.val / 16, by omega⟩ : Fin 4) (⟨d.val / 3 * 4 + l.val / 4 % 4, by omega⟩ : Fin 12) (⟨d.val % 3 * 4 + l.val % 4, by omega⟩ : Fin 12)) := by
  unfold phaseCols
  pointwise []

/-- Four choices one after the other. -/
theorem four {α : Type} (a b c d : α → EReal) (i : Fin 4) (j : α) :
    (if _ : i.val < 1 then a j else if _ : i.val - 1 < 1 then b j else if _ : i.val - 1 - 1 < 1 then c j else d j) = ![a, b, c, d] i j := by
  fin_cases i <;> rfl

/-- The four phases side by side. -/
def quad (a b c d : FVec Ideal S9x64x64 .f32) : FVec Ideal S576x256 .bf16 :=
  truncf .bf16 (shapeCast S576x256 (concatenate S9x64x4x64 2 [⟨S9x64x1x64, broadcastInDim S9x64x1x64 ![0, 1, 3] bcast_S9x64x64_S9x64x1x64_0_1_3 a⟩, ⟨S9x64x1x64, broadcastInDim S9x64x1x64 ![0, 1, 3] bcast_S9x64x64_S9x64x1x64_0_1_3 b⟩, ⟨S9x64x1x64, broadcastInDim S9x64x1x64 ![0, 1, 3] bcast_S9x64x64_S9x64x1x64_0_1_3 c⟩, ⟨S9x64x1x64, broadcastInDim S9x64x1x64 ![0, 1, 3] bcast_S9x64x64_S9x64x1x64_0_1_3 d⟩]
    concatenates_S9x64x1x64_S9x64x1x64_S9x64x1x64_S9x64x1x64_S9x64x4x64_d2) shapeCasts_S9x64x4x64_S576x256) bitsLt_bf16_f32

/-- The four matrices side by side, at an index. -/
theorem quad_apply (a b c d : FVec Ideal S9x64x64 .f32) (k : Fin 576) (q : Fin 256) :
    quad a b c d (ix2 k q) = ![a, b, c, d] (⟨q.val / 64, by omega⟩ : Fin 4) (ix3 (⟨k.val / 64, by omega⟩ : Fin 9) (⟨k.val % 64, by omega⟩ : Fin 64) (⟨q.val % 64, by omega⟩ : Fin 64)) := by
  unfold quad
  pointwise []
  exact four a b c d ⟨q.val / 64, by omega⟩ (ix3 (⟨k.val / 64, by omega⟩ : Fin 9) (⟨k.val % 64, by omega⟩ : Fin 64) (⟨q.val % 64, by omega⟩ : Fin 64))

/-- The filter set into a larger one, a channel of zeros after its three. -/
def border (lo hi : Fin 4 → ℕ) (h : S64x3x7x7.Pads lo hi ![0, 0, 0, 0] S64x4x12x12) (w : FVec Ideal S64x3x7x7 .f32) : FVec Ideal S64x4x12x12 .f32 :=
  pad S64x4x12x12 lo hi ![0, 0, 0, 0] w (sitofp (F := Ideal) .f32 (constantI S_ 32 0#32)) h h_S_

/-- The bordered filter is the filter set into a 12 by 12 one. -/
theorem border_apply (sy sx : ℕ) (hi : Fin 4 → ℕ) (h : S64x3x7x7.Pads ![0, 0, sy, sx] hi ![0, 0, 0, 0] S64x4x12x12) (w : FVec Ideal S64x3x7x7 .f32) (o : Fin 64) (c : Fin 4) (ry rx : Fin 12) :
    border ![0, 0, sy, sx] hi h w (ix4 o c ry rx) = if hc : c.val < 3 then set12 (fun ky kx => w (ix4 o (⟨c.val, hc⟩ : Fin 3) ky kx)) sy sx ry.val rx.val else 0 := by
  unfold border set12
  pointwise []
  have z : FloatOps.sitofp (F := Ideal) .f32 (0#32 : BitVec 32) = (0 : EReal) := by
    show (((0#32 : BitVec 32).toInt : ℝ) : EReal) = 0
    simp
  rw [z]
  by_cases hc : c.val < 3
  · rw [dif_pos hc]
    by_cases hh : (sy ≤ ry.val ∧ ry.val < sy + 7) ∧ (sx ≤ rx.val ∧ rx.val < sx + 7)
    · rw [dif_pos hh, dif_pos ⟨hc, by omega, by omega⟩]
    · rw [dif_neg hh, dif_neg (by omega)]
  · rw [dif_neg hc, dif_neg (by omega)]

/-- The columns of a bordered filter are the weights on the block lanes. -/
theorem phaseCols_border (sy sx : ℕ) (hi : Fin 4 → ℕ) (h : S64x3x7x7.Pads ![0, 0, sy, sx] hi ![0, 0, 0, 0] S64x4x12x12) (w : FVec Ideal S64x3x7x7 .f32) (k : Fin 576) (o : Fin 64) :
    phaseCols (border ![0, 0, sy, sx] hi h w) (ix3 (⟨k.val / 64, by omega⟩ : Fin 9) (⟨k.val % 64, by omega⟩ : Fin 64) o) = lanesW (fun c ky kx => w (ix4 o c ky kx)) sy sx k.val := by
  rw [phaseCols_apply, border_apply]
  unfold lanesW
  by_cases hl : k.val % 64 < 48
  · rw [dif_pos (by show k.val % 64 / 16 < 3; omega), dif_pos hl]
  · rw [dif_neg (by show ¬ k.val % 64 / 16 < 3; omega), dif_neg hl]

/-- The first layer's weights, the four phases side by side. -/
def wide1 (w : FVec Ideal S64x3x7x7 .f32) : FVec Ideal S576x256 .bf16 :=
  quad (phaseCols (border ![0, 0, 1, 1] ![0, 1, 4, 4] pads_S64x3x7x7_S64x4x12x12_000_010_140_140 w)) (phaseCols (border ![0, 0, 1, 3] ![0, 1, 4, 2] pads_S64x3x7x7_S64x4x12x12_000_010_140_320 w))
    (phaseCols (border ![0, 0, 3, 1] ![0, 1, 2, 4] pads_S64x3x7x7_S64x4x12x12_000_010_320_140 w)) (phaseCols (border ![0, 0, 3, 3] ![0, 1, 2, 2] pads_S64x3x7x7_S64x4x12x12_000_010_320_320 w))

/-- The first layer's matrix at an index. -/
theorem wide1_apply (w : FVec Ideal S64x3x7x7 .f32) (k : Fin 576) (a b : Fin 2) (o : Fin 64) (q : Fin 256) (hq : q.val = 64 * (2 * a.val + b.val) + o.val) :
    wide1 w (ix2 k q) = lanesW (fun c ky kx => w (ix4 o c ky kx)) (1 + 2 * a.val) (1 + 2 * b.val) k.val := by
  unfold wide1
  rw [quad_apply, show (⟨q.val % 64, by omega⟩ : Fin 64) = o from Fin.ext (by simp only []; omega),
    show (⟨q.val / 64, by omega⟩ : Fin 4) = (⟨2 * a.val + b.val, by omega⟩ : Fin 4) from Fin.ext (by simp only []; omega)]
  fin_cases a <;> fin_cases b
  · exact phaseCols_border 1 1 ![0, 1, 4, 4] pads_S64x3x7x7_S64x4x12x12_000_010_140_140 w k o
  · exact phaseCols_border 1 3 ![0, 1, 4, 2] pads_S64x3x7x7_S64x4x12x12_000_010_140_320 w k o
  · exact phaseCols_border 3 1 ![0, 1, 2, 4] pads_S64x3x7x7_S64x4x12x12_000_010_320_140 w k o
  · exact phaseCols_border 3 3 ![0, 1, 2, 2] pads_S64x3x7x7_S64x4x12x12_000_010_320_320 w k o

/-- A normalisation's factor, the gain over the deviation. -/
def factor (p : FVec Ideal S4x64 .f32) : FVec Ideal S64 .f32 :=
  mulf (shapeCast S64 (extractStridedSlice S1x64 ![0, 0] p slices_S4x64_S1x64_0_0) shapeCasts_S1x64_S64)
    (Host.rsqrt (addf (shapeCast S64 (extractStridedSlice S1x64 ![3, 0] p slices_S4x64_S1x64_3_0) shapeCasts_S1x64_S64) (broadcastInDim S64 ![] bcast_S_S64 (constant S_ .f32 0x3727C5AC#32))))

/-- A normalisation's offset: its own less the mean times the factor. -/
def offset (p : FVec Ideal S4x64 .f32) : FVec Ideal S64 .f32 :=
  subf (shapeCast S64 (extractStridedSlice S1x64 ![1, 0] p slices_S4x64_S1x64_1_0) shapeCasts_S1x64_S64)
    (mulf (shapeCast S64 (extractStridedSlice S1x64 ![2, 0] p slices_S4x64_S1x64_2_0) shapeCasts_S1x64_S64) (factor p))

/-- The constant added to a variance. -/
def eps : EReal := FloatOps.ofBits (F := Ideal) .f32 0x3727C5AC#32

/-- The factor at a channel. -/
theorem factor_apply (p : FVec Ideal S4x64 .f32) (o : Fin 64) : factor p (ix1 o) = p (ix2 0 o) * Ideal.rsqrt (p (ix2 3 o) + eps) := by
  unfold factor eps
  pointwise []

/-- The offset at a channel. -/
theorem offset_apply (p : FVec Ideal S4x64 .f32) (o : Fin 64) : offset p (ix1 o) = p (ix2 1 o) - p (ix2 2 o) * (p (ix2 0 o) * Ideal.rsqrt (p (ix2 3 o) + eps)) := by
  unfold offset
  rw [← factor_apply]
  generalize factor p = f
  pointwise []

/-- The first layer's table: the factors four times over, then the offsets four times over. -/
def table1 (f t : FVec Ideal S64 .f32) : FVec Ideal S2x256 .f32 :=
  concatenate S2x256 0 [⟨S1x256, broadcastInDim S1x256 ![1] bcast_S256_S1x256_1 (shapeCast S256 (broadcastInDim S4x64 ![0, 1] bcast_S1x64_S4x64_0_1 (shapeCast S1x64 f shapeCasts_S64_S1x64)) shapeCasts_S4x64_S256)⟩,
    ⟨S1x256, broadcastInDim S1x256 ![1] bcast_S256_S1x256_1 (shapeCast S256 (broadcastInDim S4x64 ![0, 1] bcast_S1x64_S4x64_0_1 (shapeCast S1x64 t shapeCasts_S64_S1x64)) shapeCasts_S4x64_S256)⟩] concatenates_S1x256_S1x256_S2x256_d0

/-- The first layer's table at an index. -/
theorem table1_apply (f t : FVec Ideal S64 .f32) (i : Fin 2) (q : Fin 256) : table1 f t (ix2 i q) = ![f, t] i (ix1 (⟨q.val % 64, by omega⟩ : Fin 64)) := by
  unfold table1
  pointwise []
  fin_cases i <;> rfl

/-- The other layers' table: factor and offset of each, in order. -/
def table4 (f1 t1 f2 t2 f3 t3 f4 t4 : FVec Ideal S64 .f32) : FVec Ideal S8x64 .f32 :=
  concatenate S8x64 0 [⟨S1x64, broadcastInDim S1x64 ![1] bcast_S64_S1x64_1 f1⟩, ⟨S1x64, broadcastInDim S1x64 ![1] bcast_S64_S1x64_1 t1⟩,
    ⟨S1x64, broadcastInDim S1x64 ![1] bcast_S64_S1x64_1 f2⟩, ⟨S1x64, broadcastInDim S1x64 ![1] bcast_S64_S1x64_1 t2⟩,
    ⟨S1x64, broadcastInDim S1x64 ![1] bcast_S64_S1x64_1 f3⟩, ⟨S1x64, broadcastInDim S1x64 ![1] bcast_S64_S1x64_1 t3⟩,
    ⟨S1x64, broadcastInDim S1x64 ![1] bcast_S64_S1x64_1 f4⟩, ⟨S1x64, broadcastInDim S1x64 ![1] bcast_S64_S1x64_1 t4⟩] concatenates_S1x64_S1x64_S1x64_S1x64_S1x64_S1x64_S1x64_S1x64_S8x64_d0

/-- The other layers' table at an index. -/
theorem table4_apply (f1 t1 f2 t2 f3 t3 f4 t4 : FVec Ideal S64 .f32) (i : Fin 8) (o : Fin 64) : table4 f1 t1 f2 t2 f3 t3 f4 t4 (ix2 i o) = ![f1, t1, f2, t2, f3, t3, f4, t4] i (ix1 o) := by
  unfold table4
  pointwise []
  fin_cases i <;> rfl

/-- The experts' weights as one matrix. -/
def flatW (w : FVec Ideal S16x1024x64 .f32) : FVec Ideal S64x16384 .f32 :=
  shapeCast S64x16384 (transpose S64x16x1024 [2, 0, 1] w transposes_S16x1024x64_S64x16x1024_2_0_1) shapeCasts_S64x16x1024_S64x16384

/-- The experts' weights at an index. -/
theorem flatW_apply (w : FVec Ideal S16x1024x64 .f32) (c : Fin 64) (e : Fin 16) (q : Fin 1024) (r : Fin 16384) (hr : r.val = 1024 * e.val + q.val) : flatW w (ix2 c r) = w (ix3 e q c) := by
  unfold flatW
  pointwise []
  rw [show (⟨r.val / 1024, by omega⟩ : Fin 16) = e from Fin.ext (by simp only []; omega), show (⟨r.val % 1024, by omega⟩ : Fin 1024) = q from Fin.ext (by simp only []; omega)]

/-- The experts' offsets at an index. -/
theorem flatB_apply (b : FVec Ideal S16x1024 .f32) (e : Fin 16) (q : Fin 1024) (r : Fin 16384) (hr : r.val = 1024 * e.val + q.val) :
    shapeCast S1x16384 b shapeCasts_S16x1024_S1x16384 (ix2 0 r) = b (ix2 e q) := by
  pointwise []
  rw [show (⟨r.val / 1024, by omega⟩ : Fin 16) = e from Fin.ext (by simp only []; omega), show (⟨r.val % 1024, by omega⟩ : Fin 1024) = q from Fin.ext (by simp only []; omega)]

/-- The gate's offsets at an index. -/
theorem gateB_apply (b : FVec Ideal S16 .f32) (e : Fin 16) : shapeCast S1x16 b shapeCasts_S16_S1x16 (ix2 0 e) = b (ix1 e) := by
  pointwise []

/-- The features at an index. -/
theorem feat_apply (f : FVec Ideal S32x1x64 .f32) (n : Fin 32) (c : Fin 64) : shapeCast S32x64 f shapeCasts_S32x1x64_S32x64 (ix2 n c) = f (ix3 n 0 c) := by
  pointwise []

end Cert.KernelIdeal.Operands
-- ==== Proof.Kernel.HostTables.lean ====
/- The two tables of factors and offsets the host prepares. -/
module

public import proofs.«01_k».proof.Proof.Kernel.Operands
public import Idealize.ShloMosaic.Lib.StableHlo.Run
public import Idealize.ShloMosaic.Lib.Claim

@[expose] public section

set_option maxRecDepth 16384

noncomputable section

namespace Cert.KernelIdeal.Host

open Idealize.ShloMosaic Idealize.SL.Sem Cert.Maths
open Cert.KernelIdeal Cert.KernelIdeal.Gen Cert.KernelIdeal.Operands

/-- The border value for phase 0. -/
theorem after2c (V : Valuation τ sig (Elt Ideal)) : StableHlo.after hostOps0_2 V (Proc.devRef .tc main_c_4) = constantI S_ 32 0#32 := by
  after_results

/-- The first layer's table. -/
theorem after2a (V : Valuation τ sig (Elt Ideal)) : StableHlo.after hostOps0_2 V (Proc.devRef .tc main_v26)
      = table1 (factor (V (Proc.devRef .tc main_arg2))) (offset (V (Proc.devRef .tc main_arg2))) := by
  after_results
  rfl

/-- The other layers' table. -/
theorem after2b (V : Valuation τ sig (Elt Ideal)) : StableHlo.after hostOps0_2 V (Proc.devRef .tc main_v91)
      = table4 (factor (V (Proc.devRef .tc main_arg4))) (offset (V (Proc.devRef .tc main_arg4))) (factor (V (Proc.devRef .tc main_arg6))) (offset (V (Proc.devRef .tc main_arg6)))
        (factor (V (Proc.devRef .tc main_arg8))) (offset (V (Proc.devRef .tc main_arg8))) (factor (V (Proc.devRef .tc main_arg10))) (offset (V (Proc.devRef .tc main_arg10))) := by
  after_results
  rfl

end Cert.KernelIdeal.Host
-- ==== Proof.Kernel.Host.lean ====
/- What the host's operations leave in the buffers the two regions read. -/
module

public import proofs.«01_k».proof.Proof.Kernel.HostTables
public import Idealize.ShloMosaic.Lib.StableHlo.Run
public import Idealize.ShloMosaic.Lib.Claim

@[expose] public section

set_option maxRecDepth 16384

noncomputable section

namespace Cert.KernelIdeal.Host

open Idealize.ShloMosaic Idealize.SL.Sem Cert.Maths
open Cert.KernelIdeal Cert.KernelIdeal.Gen Cert.KernelIdeal.Operands

/-- The padded blocks. -/
theorem after1 (V : Valuation τ sig (Elt Ideal)) :
    StableHlo.after hostOps0_1 (StableHlo.after hostOps0 V) (Proc.devRef .tc main_v3) = depth (V (Proc.devRef .tc main_arg0)) := by
  after_results
  rfl

/-- The filter within its border, for phase 0. -/
theorem after3 (V : Valuation τ sig (Elt Ideal)) : StableHlo.after hostOps0_3 V (Proc.devRef .tc main_v92)
      = pad S64x4x12x12 ![0, 0, 1, 1] ![0, 1, 4, 4] ![0, 0, 0, 0] (V (Proc.devRef .tc main_arg1)) (sitofp (F := Ideal) .f32 (V (Proc.devRef .tc main_c_4))) pads_S64x3x7x7_S64x4x12x12_000_010_140_140 h_S_ := by
  after_results
  rfl

/-- The filter within its border, for phase 1. -/
theorem after5 (V : Valuation τ sig (Elt Ideal)) : StableHlo.after hostOps0_5 V (Proc.devRef .tc main_v96)
      = pad S64x4x12x12 ![0, 0, 1, 3] ![0, 1, 4, 2] ![0, 0, 0, 0] (V (Proc.devRef .tc main_arg1)) (sitofp (F := Ideal) .f32 (V (Proc.devRef .tc main_c_5))) pads_S64x3x7x7_S64x4x12x12_000_010_140_320 h_S_ := by
  after_results
  rfl

/-- The filter within its border, for phase 2. -/
theorem after7 (V : Valuation τ sig (Elt Ideal)) : StableHlo.after hostOps0_7 V (Proc.devRef .tc main_v100)
      = pad S64x4x12x12 ![0, 0, 3, 1] ![0, 1, 2, 4] ![0, 0, 0, 0] (V (Proc.devRef .tc main_arg1)) (sitofp (F := Ideal) .f32 (V (Proc.devRef .tc main_c_6))) pads_S64x3x7x7_S64x4x12x12_000_010_320_140 h_S_ := by
  after_results
  rfl

/-- The filter within its border, for phase 3. -/
theorem after9 (V : Valuation τ sig (Elt Ideal)) : StableHlo.after hostOps0_9 V (Proc.devRef .tc main_v104)
      = pad S64x4x12x12 ![0, 0, 3, 3] ![0, 1, 2, 2] ![0, 0, 0, 0] (V (Proc.devRef .tc main_arg1)) (sitofp (F := Ideal) .f32 (V (Proc.devRef .tc main_c_7))) pads_S64x3x7x7_S64x4x12x12_000_010_320_320 h_S_ := by
  after_results
  rfl

/-- The filter within its border as columns, for phase 0. -/
theorem after4 (V : Valuation τ sig (Elt Ideal)) : StableHlo.after hostOps0_4 V (Proc.devRef .tc main_v95) = phaseCols (V (Proc.devRef .tc main_v92)) := by
  after_results
  rfl

/-- The border value for phase 1. -/
theorem after4c (V : Valuation τ sig (Elt Ideal)) : StableHlo.after hostOps0_4 V (Proc.devRef .tc main_c_5) = constantI S_ 32 0#32 := by
  after_results

/-- The filter within its border as columns, for phase 1. -/
theorem after6 (V : Valuation τ sig (Elt Ideal)) : StableHlo.after hostOps0_6 V (Proc.devRef .tc main_v99) = phaseCols (V (Proc.devRef .tc main_v96)) := by
  after_results
  rfl

/-- The border value for phase 2. -/
theorem after6c (V : Valuation τ sig (Elt Ideal)) : StableHlo.after hostOps0_6 V (Proc.devRef .tc main_c_6) = constantI S_ 32 0#32 := by
  after_results

/-- The filter within its border as columns, for phase 2. -/
theorem after8 (V : Valuation τ sig (Elt Ideal)) : StableHlo.after hostOps0_8 V (Proc.devRef .tc main_v103) = phaseCols (V (Proc.devRef .tc main_v100)) := by
  after_results
  rfl

/-- The border value for phase 3. -/
theorem after8c (V : Valuation τ sig (Elt Ideal)) : StableHlo.after hostOps0_8 V (Proc.devRef .tc main_c_7) = constantI S_ 32 0#32 := by
  after_results

/-- The four phases' columns side by side. -/
theorem after10 (V : Valuation τ sig (Elt Ideal)) : StableHlo.after hostOps0_10 V (Proc.devRef .tc main_v114)
      = quad (V (Proc.devRef .tc main_v95)) (V (Proc.devRef .tc main_v99)) (V (Proc.devRef .tc main_v103)) (phaseCols (V (Proc.devRef .tc main_v104))) := by
  after_results
  rfl

/-- The second layer's weights as a matrix. -/
theorem after10a (V : Valuation τ sig (Elt Ideal)) : StableHlo.after hostOps0_10 V (Proc.devRef .tc main_v117) = flat3 (V (Proc.devRef .tc main_arg3)) := by
  after_results
  rfl

/-- The third layer's weights as a matrix. -/
theorem after10b (V : Valuation τ sig (Elt Ideal)) : StableHlo.after hostOps0_10 V (Proc.devRef .tc main_v120) = flat3 (V (Proc.devRef .tc main_arg5)) := by
  after_results
  rfl

/-- The fourth layer's weights as a matrix. -/
theorem after10c (V : Valuation τ sig (Elt Ideal)) : StableHlo.after hostOps0_10 V (Proc.devRef .tc main_v123) = flat3 (V (Proc.devRef .tc main_arg7)) := by
  after_results
  rfl

/-- The fifth layer's weights as a matrix. -/
theorem after10d (V : Valuation τ sig (Elt Ideal)) : StableHlo.after hostOps0_10 V (Proc.devRef .tc main_v126) = flat3 (V (Proc.devRef .tc main_arg9)) := by
  after_results
  rfl

variable (m : (ℓ : Loc nD τ sig) → Buf (Elt Ideal) ℓ) (ρ : Dev nD → PrngReg) (c : Dev nD)

/-- An argument's contents at launch. -/
abbrev arg (a : Ref sig .tc) := m ((c.tc : Thread nD τ).loc a)

/-- The image, as the first region finds it. -/
theorem at_x : W11 m ρ c (Proc.devRef .tc main_v3) = depth (arg m c main_arg0) := by
  rw [W11_of m ρ c main_v3 (by decide), W10_of m ρ c main_v3 (by decide), W9_of m ρ c main_v3 (by decide), W8_of m ρ c main_v3 (by decide), W7_of m ρ c main_v3 (by decide),
    W6_of m ρ c main_v3 (by decide), W5_of m ρ c main_v3 (by decide), W4_of m ρ c main_v3 (by decide), W3_of m ρ c main_v3 (by decide)]
  exact after1 (W0 m ρ c)

/-- The first layer's weights. -/
theorem at_w1 : W11 m ρ c (Proc.devRef .tc main_v114) = wide1 (arg m c main_arg1) := by
  have e4 : W4 m ρ c (Proc.devRef .tc main_v92) = border ![0, 0, 1, 1] ![0, 1, 4, 4] pads_S64x3x7x7_S64x4x12x12_000_010_140_140 (arg m c main_arg1) := by
    refine (after3 (W3 m ρ c)).trans ?_
    rw [W3_args m ρ c main_arg1 (by decide), show W3 m ρ c (Proc.devRef .tc main_c_4) = _ from after2c (W2 m ρ c)]
    rfl
  have e6 : W6 m ρ c (Proc.devRef .tc main_v96) = border ![0, 0, 1, 3] ![0, 1, 4, 2] pads_S64x3x7x7_S64x4x12x12_000_010_140_320 (arg m c main_arg1) := by
    refine (after5 (W5 m ρ c)).trans ?_
    rw [W5_args m ρ c main_arg1 (by decide), show W5 m ρ c (Proc.devRef .tc main_c_5) = _ from after4c (W4 m ρ c)]
    rfl
  have e8 : W8 m ρ c (Proc.devRef .tc main_v100) = border ![0, 0, 3, 1] ![0, 1, 2, 4] pads_S64x3x7x7_S64x4x12x12_000_010_320_140 (arg m c main_arg1) := by
    refine (after7 (W7 m ρ c)).trans ?_
    rw [W7_args m ρ c main_arg1 (by decide), show W7 m ρ c (Proc.devRef .tc main_c_6) = _ from after6c (W6 m ρ c)]
    rfl
  have e10 : W10 m ρ c (Proc.devRef .tc main_v104) = border ![0, 0, 3, 3] ![0, 1, 2, 2] pads_S64x3x7x7_S64x4x12x12_000_010_320_320 (arg m c main_arg1) := by
    refine (after9 (W9 m ρ c)).trans ?_
    rw [W9_args m ρ c main_arg1 (by decide), show W9 m ρ c (Proc.devRef .tc main_c_7) = _ from after8c (W8 m ρ c)]
    rfl
  have f5 : W5 m ρ c (Proc.devRef .tc main_v95) = phaseCols (border ![0, 0, 1, 1] ![0, 1, 4, 4] pads_S64x3x7x7_S64x4x12x12_000_010_140_140 (arg m c main_arg1)) :=
    (after4 (W4 m ρ c)).trans (congrArg phaseCols e4)
  have f7 : W7 m ρ c (Proc.devRef .tc main_v99) = phaseCols (border ![0, 0, 1, 3] ![0, 1, 4, 2] pads_S64x3x7x7_S64x4x12x12_000_010_140_320 (arg m c main_arg1)) :=
    (after6 (W6 m ρ c)).trans (congrArg phaseCols e6)
  have f9 : W9 m ρ c (Proc.devRef .tc main_v103) = phaseCols (border ![0, 0, 3, 1] ![0, 1, 2, 4] pads_S64x3x7x7_S64x4x12x12_000_010_320_140 (arg m c main_arg1)) :=
    (after8 (W8 m ρ c)).trans (congrArg phaseCols e8)
  refine (after10 (W10 m ρ c)).trans ?_
  rw [e10, W10_of m ρ c main_v95 (by decide), W9_of m ρ c main_v95 (by decide), W8_of m ρ c main_v95 (by decide), W7_of m ρ c main_v95 (by decide), W6_of m ρ c main_v95 (by decide), f5,
    W10_of m ρ c main_v99 (by decide), W9_of m ρ c main_v99 (by decide), W8_of m ρ c main_v99 (by decide), f7, W10_of m ρ c main_v103 (by decide), f9]
  rfl

/-- The second layer's weights, as the first region finds them. -/
theorem at_w2 : W11 m ρ c (Proc.devRef .tc main_v117) = flat3 (arg m c main_arg3) :=
  (after10a (W10 m ρ c)).trans (congrArg flat3 (W10_args m ρ c main_arg3 (by decide)))

/-- The third layer's weights. -/
theorem at_w3 : W11 m ρ c (Proc.devRef .tc main_v120) = flat3 (arg m c main_arg5) :=
  (after10b (W10 m ρ c)).trans (congrArg flat3 (W10_args m ρ c main_arg5 (by decide)))

/-- The fourth layer's weights. -/
theorem at_w4 : W11 m ρ c (Proc.devRef .tc main_v123) = flat3 (arg m c main_arg7) :=
  (after10c (W10 m ρ c)).trans (congrArg flat3 (W10_args m ρ c main_arg7 (by decide)))

/-- The fifth layer's weights. -/
theorem at_w5 : W11 m ρ c (Proc.devRef .tc main_v126) = flat3 (arg m c main_arg9) :=
  (after10d (W10 m ρ c)).trans (congrArg flat3 (W10_args m ρ c main_arg9 (by decide)))

/-- The first layer's table. -/
theorem at_t1 : W11 m ρ c (Proc.devRef .tc main_v26) = table1 (factor (arg m c main_arg2)) (offset (arg m c main_arg2)) := by
  rw [W11_of m ρ c main_v26 (by decide), W10_of m ρ c main_v26 (by decide), W9_of m ρ c main_v26 (by decide), W8_of m ρ c main_v26 (by decide), W7_of m ρ c main_v26 (by decide),
    W6_of m ρ c main_v26 (by decide), W5_of m ρ c main_v26 (by decide), W4_of m ρ c main_v26 (by decide)]
  refine (after2a (W2 m ρ c)).trans ?_
  rw [W2_args m ρ c main_arg2 (by decide)]

/-- The other layers' table. -/
theorem at_t4 : W11 m ρ c (Proc.devRef .tc main_v91)
    = table4 (factor (arg m c main_arg4)) (offset (arg m c main_arg4)) (factor (arg m c main_arg6)) (offset (arg m c main_arg6))
      (factor (arg m c main_arg8)) (offset (arg m c main_arg8)) (factor (arg m c main_arg10)) (offset (arg m c main_arg10)) := by
  rw [W11_of m ρ c main_v91 (by decide), W10_of m ρ c main_v91 (by decide), W9_of m ρ c main_v91 (by decide), W8_of m ρ c main_v91 (by decide), W7_of m ρ c main_v91 (by decide),
    W6_of m ρ c main_v91 (by decide), W5_of m ρ c main_v91 (by decide), W4_of m ρ c main_v91 (by decide)]
  refine (after2b (W2 m ρ c)).trans ?_
  rw [W2_args m ρ c main_arg4 (by decide), W2_args m ρ c main_arg6 (by decide), W2_args m ρ c main_arg8 (by decide), W2_args m ρ c main_arg10 (by decide)]

/-- The features as a matrix. -/
theorem after11f (V : Valuation τ sig (Elt Ideal)) : StableHlo.after hostOps1 V (Proc.devRef .tc main_v128) = shapeCast S32x64 (V (Proc.devRef .tc main_v127)) shapeCasts_S32x1x64_S32x64 := by
  after_results
  rfl

/-- The experts' weights as a matrix. -/
theorem after11w (V : Valuation τ sig (Elt Ideal)) : StableHlo.after hostOps1 V (Proc.devRef .tc main_v130) = flatW (V (Proc.devRef .tc main_arg13)) := by
  after_results
  rfl

/-- The experts' offsets as a row. -/
theorem after11b (V : Valuation τ sig (Elt Ideal)) : StableHlo.after hostOps1 V (Proc.devRef .tc main_v131) = shapeCast S1x16384 (V (Proc.devRef .tc main_arg14)) shapeCasts_S16x1024_S1x16384 := by
  after_results
  rfl

/-- The gate's offsets as a row. -/
theorem after11g (V : Valuation τ sig (Elt Ideal)) : StableHlo.after hostOps1 V (Proc.devRef .tc main_v132) = shapeCast S1x16 (V (Proc.devRef .tc main_arg12)) shapeCasts_S16_S1x16 := by
  after_results
  rfl

/-- What the second region reads, besides the features. -/
theorem at_gw : W13 m ρ c (Proc.devRef .tc main_arg11) = arg m c main_arg11 := W13_args m ρ c main_arg11 (by decide)

/-- The gate's offsets. -/
theorem at_gb : W13 m ρ c (Proc.devRef .tc main_v132) = shapeCast S1x16 (arg m c main_arg12) shapeCasts_S16_S1x16 := by
  refine (after11g (W12 m ρ c)).trans ?_
  rw [W12_args m ρ c main_arg12 (by decide)]

/-- The experts' weights. -/
theorem at_ew : W13 m ρ c (Proc.devRef .tc main_v130) = flatW (arg m c main_arg13) := by
  refine (after11w (W12 m ρ c)).trans ?_
  rw [W12_args m ρ c main_arg13 (by decide)]

/-- The experts' offsets. -/
theorem at_eb : W13 m ρ c (Proc.devRef .tc main_v131) = shapeCast S1x16384 (arg m c main_arg14) shapeCasts_S16x1024_S1x16384 := by
  refine (after11b (W12 m ρ c)).trans ?_
  rw [W12_args m ρ c main_arg14 (by decide)]

end Cert.KernelIdeal.Host
-- ==== Proof.Kernel.Arrays.lean ====
module

public import proofs.«01_k».proof.Proof.Kernel.Fourth
public import proofs.«01_k».proof.Proof.Kernel.Host
public import Idealize.ShloMosaic.Lib.Pipeline.ValueKit

@[expose] public section

/-!
# What the two regions leave in their arrays

The first region runs once per image: point `n` reads image `n` and the whole weight and table arrays, and writes row
`n` of the features. The second runs once, on whole arrays.
-/

set_option maxRecDepth 16384

noncomputable section
namespace Cert.KernelIdeal.Arrays

open Idealize.ShloMosaic Idealize.SL.Sem Cert.Maths
open Cert.KernelIdeal Cert.KernelIdeal.Gen Cert.KernelIdeal.Backbone Cert.KernelIdeal.Host Cert.KernelIdeal.Operands

variable (V : (c : Dev nD) → (b : Ref sig .tc) → Buf (Elt Ideal) ((c.tc : Thread nD τ).loc b)) (c : Dev nD)

/-- Image `n` of the prepared input, as one block. -/
def row (x : Vec Ideal S32x3136x64 .f32) (n : Fin 32) : Vec Ideal S1x3136x64 .f32 := fun j => x (ix3 n (j 1) (j 2))

/-- Where the blocks of the first region lie: window 0's and the output's at image `t`, the others at the start. -/
theorem idx0 : ∀ t : Fin grid0.N, (win0_0.index t 0 = t.val ∧ win0_0.index t 1 = 0 ∧ win0_0.index t 2 = 0) ∧ (win0_8.index t 0 = t.val ∧ win0_8.index t 1 = 0 ∧ win0_8.index t 2 = 0) := by decide +kernel

/-- Window 1 of the first region lies at the start of its array at every point. -/
theorem idx0_1 : ∀ t : Fin grid0.N, win0_1.index t 0 = 0 ∧ win0_1.index t 1 = 0 := by decide +kernel

/-- Window 2 of the first region lies at the start of its array at every point. -/
theorem idx0_2 : ∀ t : Fin grid0.N, win0_2.index t 0 = 0 ∧ win0_2.index t 1 = 0 := by decide +kernel

/-- Window 3 of the first region lies at the start of its array at every point. -/
theorem idx0_3 : ∀ t : Fin grid0.N, win0_3.index t 0 = 0 ∧ win0_3.index t 1 = 0 := by decide +kernel

/-- Window 4 of the first region lies at the start of its array at every point. -/
theorem idx0_4 : ∀ t : Fin grid0.N, win0_4.index t 0 = 0 ∧ win0_4.index t 1 = 0 := by decide +kernel

/-- Window 5 of the first region lies at the start of its array at every point. -/
theorem idx0_5 : ∀ t : Fin grid0.N, win0_5.index t 0 = 0 ∧ win0_5.index t 1 = 0 := by decide +kernel

/-- Window 6 of the first region lies at the start of its array at every point. -/
theorem idx0_6 : ∀ t : Fin grid0.N, win0_6.index t 0 = 0 ∧ win0_6.index t 1 = 0 := by decide +kernel

/-- Window 7 of the first region lies at the start of its array at every point. -/
theorem idx0_7 : ∀ t : Fin grid0.N, win0_7.index t 0 = 0 ∧ win0_7.index t 1 = 0 := by decide +kernel

/-- Where the blocks of the second region lie: at the start. -/
theorem idx1 : ∀ t : Fin grid1.N, (win1_0.index t 0 = 0 ∧ win1_0.index t 1 = 0) ∧ (win1_1.index t 0 = 0 ∧ win1_1.index t 1 = 0) ∧ (win1_2.index t 0 = 0 ∧ win1_2.index t 1 = 0) ∧ (win1_3.index t 0 = 0 ∧ win1_3.index t 1 = 0) ∧ (win1_4.index t 0 = 0 ∧ win1_4.index t 1 = 0) ∧ (win1_5.index t 0 = 0 ∧ win1_5.index t 1 = 0) := by decide +kernel

/-- The first region's point `t` reads image `t`. -/
theorem block0_0 (t : Fin cfg0.N) : iblk0 V c 0 t = row (V c main_v3) ⟨t.val, t.isLt⟩ := by
  funext j
  unfold row
  blk_ext [iblk0, idx0 t]

/-- Every other window is its whole array. -/
theorem block0_1 (t : Fin cfg0.N) : iblk0 V c 1 t = V c main_v114 := by
  funext j
  blk_ext [iblk0, idx0_1 t]

/-- Window 2 of the first region is its whole array. -/
theorem block0_2 (t : Fin cfg0.N) : iblk0 V c 2 t = V c main_v117 := by
  funext j
  blk_ext [iblk0, idx0_2 t]

/-- Window 3 of the first region is its whole array. -/
theorem block0_3 (t : Fin cfg0.N) : iblk0 V c 3 t = V c main_v120 := by
  funext j
  blk_ext [iblk0, idx0_3 t]

/-- Window 4 of the first region is its whole array. -/
theorem block0_4 (t : Fin cfg0.N) : iblk0 V c 4 t = V c main_v123 := by
  funext j
  blk_ext [iblk0, idx0_4 t]

/-- Window 5 of the first region is its whole array. -/
theorem block0_5 (t : Fin cfg0.N) : iblk0 V c 5 t = V c main_v126 := by
  funext j
  blk_ext [iblk0, idx0_5 t]

/-- Window 6 of the first region is its whole array. -/
theorem block0_6 (t : Fin cfg0.N) : iblk0 V c 6 t = V c main_v26 := by
  funext j
  blk_ext [iblk0, idx0_6 t]

/-- Window 7 of the first region is its whole array. -/
theorem block0_7 (t : Fin cfg0.N) : iblk0 V c 7 t = V c main_v91 := by
  funext j
  blk_ext [iblk0, idx0_7 t]

/-- Window 0 of the second region is its whole array. -/
theorem block1_0 (t : Fin cfg1.N) : iblk1 V c 0 t = V c main_v128 := by
  funext j
  blk_ext [iblk1, idx1 t]

/-- Window 1 of the second region is its whole array. -/
theorem block1_1 (t : Fin cfg1.N) : iblk1 V c 1 t = V c main_arg11 := by
  funext j
  blk_ext [iblk1, idx1 t]

/-- Window 2 of the second region is its whole array. -/
theorem block1_2 (t : Fin cfg1.N) : iblk1 V c 2 t = V c main_v132 := by
  funext j
  blk_ext [iblk1, idx1 t]

/-- Window 3 of the second region is its whole array. -/
theorem block1_3 (t : Fin cfg1.N) : iblk1 V c 3 t = V c main_v130 := by
  funext j
  blk_ext [iblk1, idx1 t]

/-- Window 4 of the second region is its whole array. -/
theorem block1_4 (t : Fin cfg1.N) : iblk1 V c 4 t = V c main_v131 := by
  funext j
  blk_ext [iblk1, idx1 t]

/-- The features after the first region. -/
theorem features : (dat0 V c).arrAt 8 cfg0.N = fun j : S32x1x64.Idx =>
    means (map4 (row (V c main_v3) (j 0)) (V c main_v114) (V c main_v117) (V c main_v120) (V c main_v123) (V c main_v126) (V c main_v26) (V c main_v91)) (ix3 0 0 (j 2)) := by
  refine (dat0 V c).arrAt_eq_of_covers 8 _ (by decide +kernel) fun t hf y => ?_
  blk_simp
  rw [after0_8]
  unfold outsAt0
  rw [region0_out]
  rw [block0_0, block0_1, block0_2, block0_3, block0_4, block0_5, block0_6, block0_7]
  have h0 : (win0_8.blk t).view.emb y 0 = (⟨t.val, t.isLt⟩ : Fin 32) := Fin.ext (by blk_simp [idx0 t])
  have h2 : (win0_8.blk t).view.emb y 2 = (y 2 : Fin 64) := Fin.ext (by blk_simp [idx0 t])
  rw [h0, h2]
  rfl

/-- The result after the second region: its body on the whole arrays. -/
theorem result : (dat1 V c).arrAt 5 cfg1.N = (out1_5 (V c main_v128) (V c main_arg11) (V c main_v132) (V c main_v130) (V c main_v131) : Vec Ideal S32x1024 .f32) := by
  refine (dat1 V c).arrAt_eq_of_covers 5 _ (by decide +kernel) fun t hf y => ?_
  blk_simp
  rw [after1_5]
  rw [block1_0, block1_1, block1_2, block1_3, block1_4]
  congr 1
  funext a
  apply Fin.ext
  obtain ⟨-, -, -, -, -, h0, h1⟩ := idx1 t
  match a with
  | 0 => blk_simp [h0]
  | 1 => blk_simp [h1]

end Cert.KernelIdeal.Arrays
-- ==== Proof.Maths.Norms.lean ====
/- The batch normalisation's two writings agree where the gain and the mean are finite and the variance plus the constant is positive. -/
module

public import proofs.«01_k».proof.Proof.Maths.Spec

@[expose] public section

noncomputable section

namespace Cert.Maths

open Idealize.ShloMosaic

/-- Multiplying a difference by a real distributes, whatever the first term, as long as the second is real. -/
theorem sub_mul_coe (x : EReal) (m k : ℝ) : (x - (m : EReal)) * (k : EReal) = x * (k : EReal) - (m : EReal) * (k : EReal) := by
  induction x with
  | bot =>
    rw [EReal.bot_sub]
    rcases lt_trichotomy k 0 with h | h | h
    · rw [EReal.bot_mul_coe_of_neg h, ← EReal.coe_mul, EReal.top_sub_coe]
    · subst h; simp
    · rw [EReal.bot_mul_coe_of_pos h, EReal.bot_sub]
  | coe x => norm_cast; ring
  | top =>
    rw [EReal.top_sub_coe]
    rcases lt_trichotomy k 0 with h | h | h
    · rw [EReal.top_mul_coe_of_neg h, EReal.bot_sub]
    · subst h; simp
    · rw [EReal.top_mul_coe_of_pos h, ← EReal.coe_mul, EReal.top_sub_coe]

/-- The reciprocal square root of a positive number is a real. -/
theorem rsqrt_real {y : EReal} (h : 0 < y) : ∃ r : ℝ, Ideal.rsqrt y = (r : EReal) := by
  induction y with
  | bot => exact absurd h (by simp)
  | top => exact ⟨0, rfl⟩
  | coe y =>
    have hy : 0 < y := by exact_mod_cast h
    refine ⟨(Real.sqrt y)⁻¹, ?_⟩
    show (if y < 0 then ⊥ else if y = 0 then ⊤ else (((Real.sqrt y)⁻¹ : ℝ) : EReal)) = _
    rw [if_neg (not_lt.mpr hy.le), if_neg hy.ne']

/-- A number whose absolute value is below infinity is a real. -/
theorem real_of_abs {y : EReal} (h : max y (-y) < ⊤) : ∃ r : ℝ, y = (r : EReal) := by
  induction y with
  | bot => simp at h
  | top => simp at h
  | coe r => exact ⟨r, rfl⟩

/-- The normalisation is the affine map. -/
theorem norm_eq_affine {eps g b m v : EReal} (hg : max g (-g) < ⊤) (hm : max m (-m) < ⊤) (hv : 0 < v + eps) (x : EReal) :
    norm eps g b m v x = affine eps g b m v x := by
  obtain ⟨g, rfl⟩ := real_of_abs hg
  obtain ⟨m, rfl⟩ := real_of_abs hm
  obtain ⟨r, hr⟩ := rsqrt_real hv
  unfold norm affine
  rw [hr, mul_assoc, ← EReal.coe_mul, ← EReal.coe_mul, mul_comm r g, sub_mul_coe, sub_eq_add_neg, sub_eq_add_neg, add_assoc]
  rw [add_comm _ b]

end Cert.Maths

end
-- ==== Proof.Kernel.Bridge.lean ====
module

public import proofs.«01_k».proof.Proof.Kernel.Fourth
public import proofs.«01_k».proof.Proof.Kernel.Operands
public import proofs.«01_k».proof.Proof.Maths.Norms

@[expose] public section

/-!
# The kernel's features in the reference's words

With the operands the host operations build, the patch multiplications are the convolutions, the table rows are the
normalisations' two factors, and the sum over 3136 rows is the sum over the plane.
-/

set_option maxRecDepth 16384

noncomputable section
namespace Cert.KernelIdeal.Bridge

open Idealize.ShloMosaic Idealize.SL.Sem Cert.Maths
open Cert.KernelIdeal Cert.KernelIdeal.Gen Cert.KernelIdeal.Backbone Cert.KernelIdeal.Operands

/-- A normalisation as a factor and an offset. -/
def fact (p : Vec Ideal S4x64 .f32) : Norm := fun o x => affine eps (p (ix2 0 o)) (p (ix2 1 o)) (p (ix2 2 o)) (p (ix2 3 o)) x

/-- It from the prepared factor and offset. -/
theorem fact_eq (p : Vec Ideal S4x64 .f32) (o : Fin 64) (x : EReal) : x * factor p (ix1 o) + offset p (ix1 o) = fact p o x := by
  rw [factor_apply, offset_apply]
  rfl

/-- The weights of a 3 by 3 convolution, and of the 7 by 7 one. -/
def k3 (w : Vec Ideal S64x64x3x3 .f32) : Fin 64 → Fin 64 → Fin 3 → Fin 3 → EReal := fun o c dy dx => w (ix4 o c dy dx)

/-- The weights of the 7 by 7 convolution. -/
def k7 (w : Vec Ideal S64x3x7x7 .f32) : Fin 64 → Fin 3 → Fin 7 → Fin 7 → EReal := fun o c dy dx => w (ix4 o c dy dx)

/-- A patch multiplication by a reordered filter is the convolution by the filter. -/
theorem kconv_flat3 (w : Vec Ideal S64x64x3x3 .f32) (X : Img) (o : Fin 64) (h v : Fin 56) : kconv (fun k => flat3 w (ix2 k o)) X h v = conv3 (k3 w) X o h v := by
  rw [conv3_eq]
  unfold kconv
  exact Finset.sum_congr rfl fun k _ => congrArg _ (flat3_apply w k o)

variable (p1 p2 p3 p4 : Vec Ideal S4x64 .f32)

/-- The table of the four layers. -/
abbrev tab : Vec Ideal S8x64 .f32 := table4 (factor p1) (offset p1) (factor p2) (offset p2) (factor p3) (offset p3) (factor p4) (offset p4)

/-- A layer whose two table rows are a normalisation's factor and offset. -/
theorem layer_of (st : Vec Ideal S8x64 .f32) (i k : Fin 8) (p : Vec Ideal S4x64 .f32) (hi : ∀ o : Fin 64, st (ix2 i o) = factor p (ix1 o)) (hk : ∀ o : Fin 64, st (ix2 k o) = offset p (ix1 o))
    (w : Vec Ideal S64x64x3x3 .f32) (X : Img) (o : Fin 64) (h v : Fin 56) : layer (flat3 w) st i k X o h v = fact p o (conv3 (k3 w) X o h v) := by
  unfold layer
  rw [kconv_flat3, hi, hk]
  exact fact_eq p o _

/-- The four layers. -/
theorem layer1 (w : Vec Ideal S64x64x3x3 .f32) (X : Img) (o : Fin 64) (h v : Fin 56) : layer (flat3 w) (tab p1 p2 p3 p4) 0 1 X o h v = fact p1 o (conv3 (k3 w) X o h v) :=
  layer_of _ 0 1 p1 (fun o => table4_apply (factor p1) (offset p1) (factor p2) (offset p2) (factor p3) (offset p3) (factor p4) (offset p4) 0 o)
    (fun o => table4_apply (factor p1) (offset p1) (factor p2) (offset p2) (factor p3) (offset p3) (factor p4) (offset p4) 1 o) w X o h v

/-- The second layer. -/
theorem layer2 (w : Vec Ideal S64x64x3x3 .f32) (X : Img) (o : Fin 64) (h v : Fin 56) : layer (flat3 w) (tab p1 p2 p3 p4) 2 3 X o h v = fact p2 o (conv3 (k3 w) X o h v) :=
  layer_of _ 2 3 p2 (fun o => table4_apply (factor p1) (offset p1) (factor p2) (offset p2) (factor p3) (offset p3) (factor p4) (offset p4) 2 o)
    (fun o => table4_apply (factor p1) (offset p1) (factor p2) (offset p2) (factor p3) (offset p3) (factor p4) (offset p4) 3 o) w X o h v

/-- The third layer. -/
theorem layer3 (w : Vec Ideal S64x64x3x3 .f32) (X : Img) (o : Fin 64) (h v : Fin 56) : layer (flat3 w) (tab p1 p2 p3 p4) 4 5 X o h v = fact p3 o (conv3 (k3 w) X o h v) :=
  layer_of _ 4 5 p3 (fun o => table4_apply (factor p1) (offset p1) (factor p2) (offset p2) (factor p3) (offset p3) (factor p4) (offset p4) 4 o)
    (fun o => table4_apply (factor p1) (offset p1) (factor p2) (offset p2) (factor p3) (offset p3) (factor p4) (offset p4) 5 o) w X o h v

/-- The fourth layer. -/
theorem layer4 (w : Vec Ideal S64x64x3x3 .f32) (X : Img) (o : Fin 64) (h v : Fin 56) : layer (flat3 w) (tab p1 p2 p3 p4) 6 7 X o h v = fact p4 o (conv3 (k3 w) X o h v) :=
  layer_of _ 6 7 p4 (fun o => table4_apply (factor p1) (offset p1) (factor p2) (offset p2) (factor p3) (offset p3) (factor p4) (offset p4) 6 o)
    (fun o => table4_apply (factor p1) (offset p1) (factor p2) (offset p2) (factor p3) (offset p3) (factor p4) (offset p4) 7 o) w X o h v

variable (w0 : Vec Ideal S64x3x7x7 .f32) (p0 : Vec Ideal S4x64 .f32) (x : Fin 3 → Fin 224 → Fin 224 → EReal)

/-- One phase of the first layer is every other element of the convolution. -/
theorem phase_eq (k : Fin 4) (o : Fin 64) (h v : Fin 56) : phase (wide1 w0) (table1 (factor p0) (offset p0)) (lanes x) k o h v
    = relu (fact p0 o (conv7 (k7 w0) x o ⟨2 * h.val + k.val / 2, by omega⟩ ⟨2 * v.val + k.val % 2, by omega⟩)) := by
  have hk : k.val / 2 < 2 := by omega
  have hk' : k.val % 2 < 2 := by omega
  have e : (⟨64 * k.val + o.val, by omega⟩ : Fin 256).val % 64 = o.val := by show (64 * k.val + o.val) % 64 = _; omega
  have eo : (⟨(⟨64 * k.val + o.val, by omega⟩ : Fin 256).val % 64, Nat.mod_lt _ (by decide)⟩ : Fin 64) = o := Fin.ext e
  unfold phase wide
  rw [conv7_eq (k7 w0) x o h v (k.val / 2) (k.val % 2) hk hk', table1_apply, table1_apply, eo]
  refine congrArg relu ?_
  refine Eq.trans ?_ (fact_eq p0 o _)
  refine congrArg (fun z => z * factor p0 (ix1 o) + offset p0 (ix1 o)) ?_
  unfold kconv
  refine Finset.sum_congr rfl fun q _ => congrArg _ ?_
  exact wide1_apply w0 q ⟨k.val / 2, hk⟩ ⟨k.val % 2, hk'⟩ o _ (by show 64 * k.val + o.val = 64 * (2 * (k.val / 2) + k.val % 2) + o.val; omega)

/-- The pooled map is the reference's first layer. -/
theorem stem_eq : Maths.pool (full (phase (wide1 w0) (table1 (factor p0) (offset p0)) (lanes x))) = stem (k7 w0) (fact p0) x := by
  unfold stem
  refine congrArg Maths.pool ?_
  funext o y z
  unfold full
  rw [phase_eq]
  have ey : (⟨2 * (⟨y.val / 2, by omega⟩ : Fin 56).val + (⟨2 * (y.val % 2) + z.val % 2, by omega⟩ : Fin 4).val / 2, by
    show 2 * (y.val / 2) + (2 * (y.val % 2) + z.val % 2) / 2 < 112; omega⟩ : Fin 112) = y := Fin.ext (by show 2 * (y.val / 2) + (2 * (y.val % 2) + z.val % 2) / 2 = y.val; omega)
  have ez : (⟨2 * (⟨z.val / 2, by omega⟩ : Fin 56).val + (⟨2 * (y.val % 2) + z.val % 2, by omega⟩ : Fin 4).val % 2, by
    show 2 * (z.val / 2) + (2 * (y.val % 2) + z.val % 2) % 2 < 112; omega⟩ : Fin 112) = z := Fin.ext (by show 2 * (z.val / 2) + (2 * (y.val % 2) + z.val % 2) % 2 = z.val; omega)
  exact congrArg₂ (fun a b => relu (fact p0 o (conv7 (k7 w0) x o a b))) ey ez

/-- The sum over the rows is the sum over the plane. -/
theorem means_eq (Y : Img) (o : Fin 64) : means Y (ix3 0 0 o) = mean Y o := by
  unfold means mean
  refine congrArg (fun z => z * ((1 / 3136 : ℝ) : EReal)) ?_
  rw [← Fintype.sum_prod_type' (f := fun h v : Fin 56 => Y o h v)]
  refine (Fintype.sum_equiv (finProdFinEquiv (m := 56) (n := 56)) (fun q => Y o q.1 q.2) _ fun q => ?_).symm
  have h1 : (⟨(finProdFinEquiv q).val / 56, by have := (finProdFinEquiv q).isLt; omega⟩ : Fin 56) = q.1 := Fin.ext (by show (q.2.val + 56 * q.1.val) / 56 = q.1.val; omega)
  have h2 : (⟨(finProdFinEquiv q).val % 56, by omega⟩ : Fin 56) = q.2 := Fin.ext (by show (q.2.val + 56 * q.1.val) % 56 = q.2.val; omega)
  exact congrArg₂ (fun a b => Y o a b) h1.symm h2.symm

variable (w1 w2 w3 w4 : Vec Ideal S64x64x3x3 .f32) (x0 : Vec Ideal S1x3136x64 .f32)

/-- The features of one image. -/
theorem features_eq (hx : img x0 = lanes x) (o : Fin 64) :
    means (map4 x0 (wide1 w0) (flat3 w1) (flat3 w2) (flat3 w3) (flat3 w4) (table1 (factor p0) (offset p0)) (tab p1 p2 p3 p4)) (ix3 0 0 o)
      = mean (blocks (k3 w1) (k3 w2) (k3 w3) (k3 w4) (fact p1) (fact p2) (fact p3) (fact p4) (stem (k7 w0) (fact p0) x)) o := by
  rw [means_eq]
  have e0 : pooled x0 (wide1 w0) (table1 (factor p0) (offset p0)) = stem (k7 w0) (fact p0) x := by
    unfold pooled
    rw [hx]
    exact stem_eq w0 p0 x
  have e1 : map1 x0 (wide1 w0) (flat3 w1) (table1 (factor p0) (offset p0)) (tab p1 p2 p3 p4) = half (k3 w1) (fact p1) (stem (k7 w0) (fact p0) x) := by
    funext o h v
    unfold map1 half
    rw [e0, layer1]
  have e2 : map2 x0 (wide1 w0) (flat3 w1) (flat3 w2) (table1 (factor p0) (offset p0)) (tab p1 p2 p3 p4)
      = half' (k3 w2) (fact p2) (half (k3 w1) (fact p1) (stem (k7 w0) (fact p0) x)) (stem (k7 w0) (fact p0) x) := by
    funext o h v
    unfold map2 half'
    rw [e0, e1, layer2]
  have e3 : map3 x0 (wide1 w0) (flat3 w1) (flat3 w2) (flat3 w3) (table1 (factor p0) (offset p0)) (tab p1 p2 p3 p4)
      = half (k3 w3) (fact p3) (half' (k3 w2) (fact p2) (half (k3 w1) (fact p1) (stem (k7 w0) (fact p0) x)) (stem (k7 w0) (fact p0) x)) := by
    funext o h v
    rw [← e2]
    unfold map3 half
    rw [layer3]
  refine congrArg (fun Y => mean Y o) ?_
  funext o h v
  unfold map4
  rw [e3, e2, layer4]
  rfl

/-- With finite gains and means and positive variances the two forms of a normalisation are the same. -/
theorem fact_norm (p : Vec Ideal S4x64 .f32) (h : ∀ o : Fin 64, max (p (ix2 0 o)) (-(p (ix2 0 o))) < ⊤ ∧ max (p (ix2 2 o)) (-(p (ix2 2 o))) < ⊤ ∧ 0 < p (ix2 3 o) + eps) :
    fact p = fun o x => norm eps (p (ix2 0 o)) (p (ix2 1 o)) (p (ix2 2 o)) (p (ix2 3 o)) x :=
  funext fun o => funext fun x => (norm_eq_affine (h o).1 (h o).2.1 (h o).2.2 x).symm

end Cert.KernelIdeal.Bridge

end
-- ==== Proof.Maths.Gates.lean ====
/- The gates: probabilities of the sixteen experts, and two ways of giving the two most probable their weights. -/
module

public import proofs.«01_k».proof.Proof.Maths.Spec
public import Idealize.ShloMosaic.Lib.PlanTiles.StableSort
public import Idealize.ShloMosaic.Lib.SortFacts

@[expose] public section

noncomputable section

namespace Cert.Maths

open Idealize.ShloMosaic Idealize.ShloMosaic.PlanTiles

/-- The exponentials of the scores, the greatest score taken off first. -/
def expo (z : Fin 16 → EReal) : Fin 16 → EReal := fun k => Ideal.exp (z k - Finset.univ.sup z)

/-- The probabilities. -/
def probs (z : Fin 16 → EReal) : Fin 16 → EReal := fun k => Ideal.div (expo z k) (∑ j, expo z j)

/-- An exponential is not negative. -/
theorem exp_nonneg (x : EReal) : 0 ≤ Ideal.exp x := by
  induction x with
  | bot => exact le_refl _
  | coe r => exact EReal.coe_nonneg.2 (Real.exp_pos r).le
  | top => exact le_top

/-- The probabilities are all non-negative, or all minus infinity where the exponentials' sum is zero. -/
theorem probs_cases (z : Fin 16 → EReal) : (∀ k, 0 ≤ probs z k) ∨ ∀ k, probs z k = ⊥ := by
  have h0 : ∀ k, 0 ≤ expo z k := fun k => exp_nonneg _
  by_cases hs : ∑ j, expo z j = 0
  · right
    intro k
    have hk : expo z k = 0 := (Finset.sum_eq_zero_iff_of_nonneg fun i _ => h0 i).1 hs k (Finset.mem_univ k)
    unfold probs Ideal.div
    rw [if_pos hs, hk, if_neg (lt_irrefl _)]
  · left
    intro k
    unfold probs Ideal.div
    rw [if_neg hs]
    exact mul_nonneg (h0 k) (EReal.inv_nonneg_of_nonneg (Finset.sum_nonneg fun i _ => h0 i))

/-- Position `a` comes before position `b`: a greater number, or the same and an earlier position. -/
def Before (p : Fin 16 → EReal) (a b : Fin 16) : Prop := p b < p a ∨ (p a = p b ∧ a < b)

/-- Of two positions at most one comes before the other. -/
theorem Before.asymm {p : Fin 16 → EReal} {a b : Fin 16} (h : Before p a b) : ¬ Before p b a := by
  rintro (h' | ⟨h', h''⟩) <;> rcases h with h | ⟨h, g⟩
  · exact lt_asymm h h'
  · exact absurd h' (by rw [h]; exact lt_irrefl _)
  · exact absurd h (by rw [h']; exact lt_irrefl _)
  · exact lt_asymm g h''

/-- How many numbers are smaller. -/
def rank (p : Fin 16 → EReal) (a : Fin 16) : ℕ := (Finset.univ.filter fun k => p k < p a).card

/-- A smaller number has a smaller rank. -/
theorem rank_lt {p : Fin 16 → EReal} {a b : Fin 16} (h : p b < p a) : rank p b < rank p a := by
  refine Finset.card_lt_card (Finset.ssubset_iff_subset_ne.2 ⟨fun k hk => ?_, fun e => ?_⟩)
  · rw [Finset.mem_filter] at hk ⊢
    exact ⟨hk.1, hk.2.trans h⟩
  · have : b ∈ Finset.univ.filter fun k => p k < p a := Finset.mem_filter.2 ⟨Finset.mem_univ _, h⟩
    rw [← e, Finset.mem_filter] at this
    exact lt_irrefl _ this.2

/-- And the other way round. -/
theorem rank_lt_iff (p : Fin 16 → EReal) (a b : Fin 16) : rank p b < rank p a ↔ p b < p a := by
  refine ⟨fun h => ?_, rank_lt⟩
  by_contra hn
  rcases (not_lt.1 hn).lt_or_eq with h' | h'
  · exact lt_asymm h (rank_lt h')
  · unfold rank at h; rw [h'] at h; exact lt_irrefl _ h

/-- The positions sorted by descending number, stably, each come before the later ones. -/
theorem sorted_before (p : Fin 16 → EReal) : (sortPositions 16 fun a b => decide (p b < p a)).Pairwise (Before p) := by
  have e : (fun a b : Fin 16 => decide (p b < p a)) = fun a b => decide (rank p b < rank p a) := by
    funext a b
    exact decide_eq_decide.2 (rank_lt_iff p a b).symm
  rw [e]
  have := pairwise_stableSort_lex (rank p) (fun a b : Fin 16 => a < b) (List.finRange 16) (List.pairwise_lt_finRange 16)
  refine this.imp fun {a b} h => ?_
  rcases h with h | ⟨h, h'⟩
  · exact Or.inl ((rank_lt_iff p a b).1 h)
  · refine Or.inr ⟨?_, h'⟩
    refine le_antisymm (not_lt.1 fun g => ?_) (not_lt.1 fun g => ?_)
    · exact absurd (rank_lt g) (by rw [h]; exact lt_irrefl _)
    · exact absurd (rank_lt g) (by rw [h]; exact lt_irrefl _)

/-- Positions `a` and `b` are the first two: `a` comes before every other, `b` before every other but `a`. -/
def Two (p : Fin 16 → EReal) (a b : Fin 16) : Prop := (∀ k, k ≠ a → Before p a k) ∧ b ≠ a ∧ ∀ k, k ≠ a → k ≠ b → Before p b k

/-- There is one such pair only. -/
theorem Two.unique {p : Fin 16 → EReal} {a b a' b' : Fin 16} (h : Two p a b) (h' : Two p a' b') : a = a' ∧ b = b' := by
  have ha : a = a' := by
    by_contra hn
    exact (h.1 a' (Ne.symm hn)).asymm (h'.1 a hn)
  subst ha
  refine ⟨rfl, ?_⟩
  by_contra hn
  exact (h.2.2 b' h'.2.1 (Ne.symm hn)).asymm (h'.2.2 b h.2.1 hn)

/-- The first two entries of a list of all positions, each before the later ones, are that pair. -/
theorem two_list (p : Fin 16 → EReal) (L : List (Fin 16)) (hs : L.Pairwise (Before p)) (hm : L.Perm (List.finRange 16)) (a b : Fin L.length) (ha : a.val = 0) (hb : b.val = 1) :
    Two p (L.get a) (L.get b) := by
  have hnd : L.Nodup := hm.nodup_iff.2 (List.nodup_finRange 16)
  have key : ∀ i j : Fin L.length, i.val < j.val → Before p (L.get i) (L.get j) := fun i j h => List.pairwise_iff_get.1 hs i j h
  have hall : ∀ k, ∃ i : Fin L.length, L.get i = k := fun k => List.mem_iff_get.1 (hm.mem_iff.2 (List.mem_finRange k))
  unfold Two
  refine ⟨?_, ?_, ?_⟩
  · intro k hk
    obtain ⟨i, rfl⟩ := hall k
    refine key _ _ (ha ▸ Nat.pos_of_ne_zero fun e => hk (congrArg L.get (Fin.ext (e.trans ha.symm))))
  · intro e
    have := congrArg Fin.val ((List.Nodup.get_inj_iff hnd).1 e)
    omega
  · intro k hk hk'
    obtain ⟨i, rfl⟩ := hall k
    have h0 : i.val ≠ 0 := fun e => hk (congrArg L.get (Fin.ext (e.trans ha.symm)))
    have h1 : i.val ≠ 1 := fun e => hk' (congrArg L.get (Fin.ext (e.trans hb.symm)))
    exact key _ _ (by omega)

/-- The first two places of the stable sort are that pair. -/
theorem two_sorted (p : Fin 16 → EReal) : Two p (sortedFrom (fun a b => decide (p b < p a)) 0) (sortedFrom (fun a b => decide (p b < p a)) 1) :=
  two_list p _ (sorted_before p) (perm_sortPositions 16 _) _ _ rfl rfl

/-- Position `e` is the first at which `p` is greatest. -/
def First (p : Fin 16 → EReal) (e : Fin 16) : Prop := (∀ k, p k ≤ p e) ∧ ∀ k, p k = p e → e ≤ k

/-- The numbers with one position's taken out. -/
def without (p : Fin 16 → EReal) (e : Fin 16) : Fin 16 → EReal := fun k => if k = e then ⊥ else p k

/-- The weight of position `e`: the number at the position over the sum of both and a small constant, added up over the two positions. -/
def gateSum (c : EReal) (a b : Fin 16) (v w : EReal) (e : Fin 16) : EReal :=
  (if e = a then 1 else 0) * Ideal.div v (v + w + c) + (if e = b then 1 else 0) * Ideal.div w (v + w + c)

/-- The same written into a row of zeros, the second position's after the first's. -/
def gateSet (c : EReal) (a b : Fin 16) (v w : EReal) (e : Fin 16) : EReal :=
  if e = b then Ideal.div w (v + w + c) else if e = a then Ideal.div v (v + w + c) else 0

/-- Two rounds of taking the greatest and the first two places of the stable sort give the same weights. -/
theorem gates_eq (c : EReal) (p : Fin 16 → EReal) (hp : (∀ k, 0 ≤ p k) ∨ ∀ k, p k = ⊥) (a b a' b' : Fin 16) (ha : First p a) (hb : First (without p a) b) (h' : Two p a' b')
    (e : Fin 16) : gateSum c a b (p a) (without p a b) e = gateSet c a' b' (p a') (p b') e := by
  rcases hp with hp | hp
  · have hba : b ≠ a := by
      intro hba
      obtain ⟨k, hk⟩ : ∃ k : Fin 16, k ≠ a := by
        by_cases h : a = 0
        · exact ⟨1, by rw [h]; decide⟩
        · exact ⟨0, Ne.symm h⟩
      have h1 := hb.1 k
      unfold without at h1
      rw [if_neg hk, if_pos hba, le_bot_iff] at h1
      exact absurd (hp k) (by rw [h1]; decide)
    have h2 : Two p a b := by
      refine ⟨fun k hk => ?_, hba, fun k hk hk' => ?_⟩
      · rcases (ha.1 k).lt_or_eq with h | h
        · exact Or.inl h
        · exact Or.inr ⟨h.symm, lt_of_le_of_ne (ha.2 k h) (Ne.symm hk)⟩
      · have h1 := hb.1 k
        have h2 := hb.2 k
        unfold without at h1 h2
        rw [if_neg hk, if_neg hba] at h1 h2
        rcases h1.lt_or_eq with h | h
        · exact Or.inl h
        · exact Or.inr ⟨h.symm, lt_of_le_of_ne (h2 h) (Ne.symm hk')⟩
    obtain ⟨rfl, rfl⟩ := h2.unique h'
    have hw : without p a b = p b := if_neg hba
    rw [hw]
    unfold gateSum gateSet
    by_cases h1 : e = b
    · have : e ≠ a := fun h => hba (h1.symm.trans h)
      rw [if_neg this, if_pos h1, if_pos h1, zero_mul, one_mul, zero_add]
    · by_cases h3 : e = a
      · rw [if_pos h3, if_neg h1, if_neg h1, if_pos h3, zero_mul, one_mul, add_zero]
      · rw [if_neg h3, if_neg h1, if_neg h1, if_neg h3, zero_mul, zero_mul, add_zero]
  · have hd : ∀ d : EReal, Ideal.div ⊥ (⊥ + d + c) = 0 := by
      intro d
      rw [EReal.bot_add, EReal.bot_add]
      unfold Ideal.div
      rw [if_neg (by decide), EReal.inv_bot, mul_zero]
    have hw : without p a b = ⊥ := by
      unfold without
      split
      · rfl
      · exact hp b
    rw [hw, hp, hp, hp]
    unfold gateSum gateSet
    rw [hd, mul_zero, mul_zero, add_zero, ite_self, ite_self]

end Cert.Maths

end
-- ==== Proof.Kernel.Head.lean ====
/- What the second region computes in a row: the gate's probabilities, the two chosen experts, and the weighted sum of the experts. -/
module

public import proofs.«01_k».proof.Proof.Gen.KernelIdeal.Frame
public import proofs.«01_k».proof.Proof.Maths.Gates
public import Idealize.ShloMosaic.Lib.Pointwise
public import Idealize.ShloMosaic.Lib.SortNet.Extract
public import Idealize.ShloMosaic.Lib.Pipeline.ValueKit.Acc

@[expose] public section

set_option maxRecDepth 16384

noncomputable section

namespace Cert.KernelIdeal.Head

open Idealize.ShloMosaic Idealize.SL.Sem Cert.Maths
open Cert.KernelIdeal Cert.KernelIdeal.Gen

/-- The float word of minus infinity is the bottom value. -/
theorem bot_word : Ideal.ofBits .f32 0xFF800000#32 = (⊥ : EReal) := by
  simp [Ideal.ofBits, Ideal.ieee]

/-- A maximum taken from the bottom value is the supremum. -/
theorem fold_max (z : Fin 16 → EReal) : Finset.univ.fold max ⊥ z = Finset.univ.sup z := rfl

/-- Some position is the first to attain the largest value. -/
theorem exists_first (p : Fin 16 → EReal) : ∃ e, First p e := by
  obtain ⟨m, -, hm⟩ := Finset.exists_max_image Finset.univ p ⟨0, Finset.mem_univ _⟩
  obtain ⟨e, he, hl⟩ := Finset.exists_min_image (Finset.univ.filter fun k => p k = p m) id ⟨m, by simp⟩
  have he' : p e = p m := (Finset.mem_filter.mp he).2
  refine ⟨e, fun k => he' ▸ hm k (Finset.mem_univ _), fun k hk => hl k ?_⟩
  exact Finset.mem_filter.mpr ⟨Finset.mem_univ _, hk.trans he'⟩

/-- The supremum is the value at the first position that attains it. -/
theorem sup_first {p : Fin 16 → EReal} {e : Fin 16} (h : First p e) : Finset.univ.sup p = p e :=
  le_antisymm (Finset.sup_le fun k _ => h.1 k) (Finset.le_sup (Finset.mem_univ e))

/-- The least of the marked positions, over words. -/
theorem least (P : Fin 16 → Prop) [DecidablePred P] (e : Fin 16) (he : P e) (hl : ∀ k, P k → e ≤ k) :
    Finset.univ.fold IntOp.minsi 2147483647#32 (fun k : Fin 16 => if P k then BitVec.ofNat 32 k.val else 16#32) = BitVec.ofNat 32 e.val := by
  have val : ∀ k : Fin 16, (BitVec.ofNat 32 k.val).toInt = (k.val : ℤ) := by decide
  apply BitVec.eq_of_toInt_eq
  rw [val, ← Finset.fold_hom (op' := min) (m := BitVec.toInt) SortNet.toInt_minsi]
  apply le_antisymm
  · refine Finset.fold_min_le _ |>.mpr (Or.inr ⟨e, Finset.mem_univ _, ?_⟩)
    rw [if_pos he, val]
  · refine Finset.le_fold_min _ |>.mpr ⟨?_, fun k _ => ?_⟩
    · have := e.isLt
      have : (2147483647#32).toInt = 2147483647 := by decide
      omega
    · split
      · rename_i hk
        rw [val]
        exact_mod_cast hl k hk
      · have := e.isLt
        have : (16#32).toInt = 16 := by decide
        omega

variable (x : FVec Ideal S32x16 .f32)

/-- The largest entry of each row. -/
def rowMax : FVec Ideal S32x1 .f32 :=
  shapeCast S32x1 (multiReduction .maximumf [1] S32 x 0xFF800000#32 reduces_S32x16_S32 (.inl rfl) rfl) shapeCasts_S32_S32x1

/-- It is the greatest of the row. -/
theorem rowMax_apply (n : Fin 32) : rowMax x (ix2 n 0) = Finset.univ.sup fun k : Fin 16 => x (ix2 n k) := by
  unfold rowMax
  pointwise []
  rw [bot_word]
  rfl

/-- The first position of each row that holds the row's largest entry, as a word. -/
def rowFirst : IVec S32x1 32 :=
  shapeCast S32x1 (multiReductionI .minsi [1] S32 (select (cmpf .oeq x (broadcastTo S32x16 (rowMax x) broadcasts_S32x1_S32x16)) (iota .tc S32x16 32 [1] iota_S32x16_d1_w32) (broadcast S32x16 16#32)) 2147483647#32 reduces_S32x16_S32 rfl) shapeCasts_S32_S32x1

/-- It is the first position of the greatest. -/
theorem rowFirst_apply (n : Fin 32) (e : Fin 16) (h : First (fun k => x (ix2 n k)) e) : rowFirst x (ix2 n 0) = BitVec.ofNat 32 e.val := by
  have m := rowMax_apply x n
  rw [sup_first h] at m
  unfold rowFirst
  generalize rowMax x = y at m ⊢
  pointwise []
  refine least _ e m.symm fun k hk => h.2 k ?_
  exact hk.trans m

/-- The mark of one position of each row. -/
def mark (i : IVec S32x1 32) : IVec S32x16 1 :=
  cmpi .eq (iota .tc S32x16 32 [1] iota_S32x16_d1_w32) (broadcastTo S32x16 i broadcasts_S32x1_S32x16)

/-- It is one at the position and zero elsewhere. -/
theorem mark_apply (i : IVec S32x1 32) (n : Fin 32) (e k : Fin 16) (h : i (ix2 n 0) = BitVec.ofNat 32 e.val) : mark i (ix2 n k) = if k = e then 1#1 else 0#1 := by
  have val : ∀ k e : Fin 16, BitVec.ofNat 32 k.val = BitVec.ofNat 32 e.val ↔ k = e := by decide
  unfold mark
  pointwise []
  rw [h]
  by_cases hk : k = e
  · rw [if_pos hk, hk]
    simp [IntOp.cmpi]
  · have hk' : BitVec.ofNat 32 k.val ≠ BitVec.ofNat 32 e.val := fun w => hk ((val k e).1 w)
    rw [if_neg hk]
    show BitVec.ofBool (BitVec.ofNat 32 k.val == BitVec.ofNat 32 e.val) = 0#1
    rw [beq_eq_false_iff_ne.mpr hk']
    rfl

/-- The mark as a factor. -/
theorem factor_apply (i : IVec S32x16 1) (n : Fin 32) (e k : Fin 16) (h : i (ix2 n k) = if k = e then 1#1 else 0#1) :
    sitofp (F := Ideal) .f32 (extui 32 i natLt_1_32) (ix2 n k) = if k = e then (1 : EReal) else 0 := by
  pointwise []
  rw [h]
  split
  · show (((BitVec.setWidth 32 1#1).toInt : ℝ) : EReal) = 1
    norm_num
  · show (((BitVec.setWidth 32 0#1).toInt : ℝ) : EReal) = 0
    norm_num

/-- A row with one marked entry put to minus infinity. -/
theorem masked_apply (i : IVec S32x16 1) (n : Fin 32) (e k : Fin 16) (h : i (ix2 n k) = if k = e then 1#1 else 0#1) :
    select i (broadcast S32x16 (Scalar.ofBits (F := Ideal) .f32 0xFF800000#32)) x (ix2 n k) = without (fun k => x (ix2 n k)) e k := by
  pointwise []
  rw [h]
  unfold without
  rw [bot_word]
  split <;> simp [Scalar.select]

/-- The scores of a row. -/
def score (v0 : Vec Ideal S32x64 .f32) (v2 : Vec Ideal S16x64 .f32) (v3 : Vec Ideal S1x16 .f32) (n : Fin 32) (k : Fin 16) : EReal :=
  (∑ c : Fin 64, v0 (ix2 n c) * v2 (ix2 k c)) + v3 (ix2 0 k)

/-- The probabilities are the softmax of the scores. -/
theorem pay3_apply (v0 : Vec Ideal S32x64 .f32) (v2 : Vec Ideal S16x64 .f32) (v3 : Vec Ideal S1x16 .f32) (n : Fin 32) (k : Fin 16) :
    k1_pay3 v0 v2 v3 (ix2 n k) = probs (score v0 v2 v3 n) k := by
  unfold k1_pay3 k1_pay2 probs expo score
  pointwise []
  rw [bot_word]
  rfl

/-- The gate of each expert. -/
theorem pay10_apply (v19 : FVec Ideal S32x1 .f32) (v29 : FVec Ideal S32x16 .f32) (v35 : FVec Ideal S32x1 .f32) (v43 : IVec S32x16 1) (n : Fin 32) (a b k : Fin 16)
    (ha : v29 (ix2 n k) = if k = a then (1 : EReal) else 0) (hb : v43 (ix2 n k) = if k = b then 1#1 else 0#1) :
    k1_pay10 v19 v29 v35 v43 (ix2 n k) = gateSum (FloatOps.ofBits (F := Ideal) .f32 0x358637BD#32) a b (v19 (ix2 n 0)) (v35 (ix2 n 0)) k := by
  have hb' := factor_apply v43 n b k hb
  unfold k1_pay10 gateSum
  generalize sitofp (F := Ideal) .f32 (extui 32 v43 natLt_1_32) = g at hb' ⊢
  pointwise []
  rw [ha, hb']

/-- The outputs of all the experts before their offsets. -/
theorem pay11_apply (v1 : FVec Ideal S32x64 .f32) (v56 : Vec Ideal S64x16384 .f32) (v59 : Vec Ideal S1x16384 .f32) (n : Fin 32) (q : Fin 16384) :
    k1_pay11 v1 v56 v59 (ix2 n q) = (∑ c : Fin 64, v1 (ix2 n c) * v56 (ix2 c q)) + v59 (ix2 0 q) := by
  unfold k1_pay11
  pointwise []

/-- Column `q` of expert `e`. -/
def at' (e : Fin 16) (q : Fin 1024) : Fin 16384 := ⟨1024 * e.val + q.val, by omega⟩

/-- The sum over the sixteen experts, in order. -/
theorem sixteen (f : Fin 16 → EReal) : f 0 + f 1 + f 2 + f 3 + f 4 + f 5 + f 6 + f 7 + f 8 + f 9 + f 10 + f 11 + f 12 + f 13 + f 14 + f 15 = ∑ e, f e := by
  simp only [Fin.sum_univ_castSucc, Finset.univ_eq_empty, Finset.sum_empty, zero_add]
  rfl

/-- The weighted sum over the experts. -/
theorem pay1_apply (v1 : FVec Ideal S32x64 .f32) (v19 : FVec Ideal S32x1 .f32) (v29 : FVec Ideal S32x16 .f32) (v35 : FVec Ideal S32x1 .f32) (v43 : IVec S32x16 1) (v56 : Vec Ideal S64x16384 .f32)
    (v59 : Vec Ideal S1x16384 .f32) (n : Fin 32) (q : Fin 1024) :
    k1_pay1 (k1_pay10 v19 v29 v35 v43) (k1_pay11 v1 v56 v59) (k1_pay12 v1 v19 v29 v35 v43 v56 v59) (k1_pay13 v1 v56 v59) (k1_pay14 v19 v29 v35 v43) (ix2 n q)
      = ∑ e : Fin 16, k1_pay10 v19 v29 v35 v43 (ix2 n e) * k1_pay11 v1 v56 v59 (ix2 n (at' e q)) := by
  unfold k1_pay1 k1_pay12 k1_pay13 k1_pay14
  generalize k1_pay10 v19 v29 v35 v43 = G
  generalize k1_pay11 v1 v56 v59 = Y
  pointwise []
  generalize hf : (fun e : Fin 16 => G (ix2 n e) * Y (ix2 n (at' e q))) = f
  have hf' : ∀ (e : Fin 16) (r : Fin 16384), r.val = 1024 * e.val + q.val → G (ix2 n e) * Y (ix2 n r) = f e := by
    intro e r hr
    rw [← hf, show r = at' e q from Fin.ext hr]
  rw [hf' 0 _ (by simp), hf' 1 _ rfl, hf' 2 _ rfl, hf' 3 _ rfl, hf' 4 _ rfl, hf' 5 _ rfl, hf' 6 _ rfl, hf' 7 _ rfl, hf' 8 _ rfl, hf' 9 _ rfl,
    hf' 10 _ rfl, hf' 11 _ rfl, hf' 12 _ rfl, hf' 13 _ rfl, hf' 14 _ rfl, hf' 15 _ rfl]
  exact sixteen f

/-- The greatest probability of each row. -/
theorem pay4_eq (v0 : Vec Ideal S32x64 .f32) (v2 : Vec Ideal S16x64 .f32) (v3 : Vec Ideal S1x16 .f32) : k1_pay4 v0 v2 v3 = rowMax (k1_pay3 v0 v2 v3) := rfl

/-- Its first position. -/
theorem pay5_eq (v0 : Vec Ideal S32x64 .f32) (v2 : Vec Ideal S16x64 .f32) (v3 : Vec Ideal S1x16 .f32) : k1_pay5 v0 v2 v3 = rowFirst (k1_pay3 v0 v2 v3) := rfl

/-- The greatest of the others. -/
theorem pay8_eq (v0 : Vec Ideal S32x64 .f32) (v2 : Vec Ideal S16x64 .f32) (v3 : Vec Ideal S1x16 .f32) : k1_pay8 v0 v2 v3 = rowMax (k1_pay7 v0 v2 v3) := rfl

/-- The mark at its first position. -/
theorem pay9_eq (v0 : Vec Ideal S32x64 .f32) (v2 : Vec Ideal S16x64 .f32) (v3 : Vec Ideal S1x16 .f32) : k1_pay9 v0 v2 v3 = mark (rowFirst (k1_pay7 v0 v2 v3)) := rfl

/-- The mark at the first position. -/
theorem pay6_eq (v0 : Vec Ideal S32x64 .f32) (v2 : Vec Ideal S16x64 .f32) (v3 : Vec Ideal S1x16 .f32) :
    k1_pay6 v0 v2 v3 = sitofp (F := Ideal) .f32 (extui 32 (mark (k1_pay5 v0 v2 v3)) natLt_1_32) := rfl

/-- The probabilities with the first position taken out. -/
theorem pay7_eq (v0 : Vec Ideal S32x64 .f32) (v2 : Vec Ideal S16x64 .f32) (v3 : Vec Ideal S1x16 .f32) :
    k1_pay7 v0 v2 v3 = select (mark (k1_pay5 v0 v2 v3)) (broadcast S32x16 (Scalar.ofBits (F := Ideal) .f32 0xFF800000#32)) (k1_pay3 v0 v2 v3) := rfl

/-- The gates of a row: the two experts are the first greatest probability and the first greatest of the others. -/
theorem gates_apply (v0 : Vec Ideal S32x64 .f32) (v2 : Vec Ideal S16x64 .f32) (v3 : Vec Ideal S1x16 .f32) (n : Fin 32) (a b : Fin 16)
    (ha : First (probs (score v0 v2 v3 n)) a) (hb : First (without (probs (score v0 v2 v3 n)) a) b) (k : Fin 16) :
    k1_pay10 (k1_pay4 v0 v2 v3) (k1_pay6 v0 v2 v3) (k1_pay8 v0 v2 v3) (k1_pay9 v0 v2 v3) (ix2 n k)
      = gateSum (FloatOps.ofBits (F := Ideal) .f32 0x358637BD#32) a b (probs (score v0 v2 v3 n) a) (without (probs (score v0 v2 v3 n)) a b) k := by
  have e3 : (fun k => k1_pay3 v0 v2 v3 (ix2 n k)) = probs (score v0 v2 v3 n) := funext (pay3_apply v0 v2 v3 n)
  have m5 : ∀ k, mark (k1_pay5 v0 v2 v3) (ix2 n k) = if k = a then 1#1 else 0#1 := fun k =>
    mark_apply _ n a k ((congrFun (pay5_eq v0 v2 v3) _).trans (rowFirst_apply _ n a (e3.symm ▸ ha)))
  have e7 : (fun k => k1_pay7 v0 v2 v3 (ix2 n k)) = without (probs (score v0 v2 v3 n)) a := by
    funext k
    rw [pay7_eq, masked_apply _ _ n a k (m5 k), e3]
  have g6 : k1_pay6 v0 v2 v3 (ix2 n k) = if k = a then (1 : EReal) else 0 := by
    rw [pay6_eq]
    exact factor_apply _ n a k (m5 k)
  have g9 : k1_pay9 v0 v2 v3 (ix2 n k) = if k = b then 1#1 else 0#1 := by
    rw [pay9_eq]
    exact mark_apply _ n b k (rowFirst_apply _ n b (e7.symm ▸ hb))
  have g4 : k1_pay4 v0 v2 v3 (ix2 n 0) = probs (score v0 v2 v3 n) a := by
    rw [pay4_eq, rowMax_apply, e3, sup_first ha]
  have g8 : k1_pay8 v0 v2 v3 (ix2 n 0) = without (probs (score v0 v2 v3 n)) a b := by
    rw [pay8_eq, rowMax_apply, e7, sup_first hb]
  rw [pay10_apply _ _ _ _ n a b k g6 g9, g4, g8]

/-- A row of the second region's output: the experts' outputs weighted by the gates of the two largest probabilities, the two taken as a stable descending sort takes them. -/
theorem out1_apply (x0 : Vec Ideal S32x64 .f32) (x1 : Vec Ideal S16x64 .f32) (x2 : Vec Ideal S1x16 .f32) (x3 : Vec Ideal S64x16384 .f32) (x4 : Vec Ideal S1x16384 .f32)
    (n : Fin 32) (q : Fin 1024) (a' b' : Fin 16) (h : Two (probs (score x0 x1 x2 n)) a' b') :
    out1_5 x0 x1 x2 x3 x4 (ix2 n q)
      = ∑ e : Fin 16, gateSet (FloatOps.ofBits (F := Ideal) .f32 0x358637BD#32) a' b' (probs (score x0 x1 x2 n) a') (probs (score x0 x1 x2 n) b') e
          * ((∑ c : Fin 64, x0 (ix2 n c) * x3 (ix2 c (at' e q))) + x4 (ix2 0 (at' e q))) := by
  obtain ⟨a, ha⟩ := exists_first (probs (score x0 x1 x2 n))
  obtain ⟨b, hb⟩ := exists_first (without (probs (score x0 x1 x2 n)) a)
  unfold_out out1_5
  frame_out
  rw [pay1_apply]
  refine Finset.sum_congr rfl fun e _ => ?_
  rw [gates_apply x0 x1 x2 n a b ha hb e, pay11_apply, gates_eq _ _ (probs_cases _) a b a' b' ha hb h e]
  unfold k1_pay2
  pointwise []

end Cert.KernelIdeal.Head
-- ==== Proof.Reference.Conv.lean ====
/- The reference's convolutions: a sum of shifted products over a bordered map. -/
module

public import proofs.«01_k».proof.Proof.Gen.ReferenceIdeal.Read
public import proofs.«01_k».proof.Proof.Maths.Spec
public import Idealize.ShloMosaic.Lib.Pointwise

@[expose] public section

set_option maxRecDepth 16384

noncomputable section

namespace Cert.ReferenceIdeal.Net

open Idealize.ShloMosaic Idealize.SL.Sem Cert.Maths
open Cert.ReferenceIdeal Cert.ReferenceIdeal.Gen

/-- One image's map out of a batch. -/
def imgAt {a b p q : ℕ} (X : (⟨4, ![a, b, p, q]⟩ : Shape).Idx → EReal) (n : Fin a) : Fin b → Fin p → Fin q → EReal := fun c y z => X (ix4 n c y z)

/-- A batch with a border of zeros one wide, at an index. -/
theorem pad1_apply (X : Vec Ideal S32x64x56x56 .f32) (v : Vec Ideal S_ .f32) (hv : ∀ i, v i = (0 : EReal)) {hp hu} (n : Fin 32) (c : Fin 64) (y z : Fin 58) :
    pad S32x64x58x58 ![0, 0, 1, 1] ![0, 0, 1, 1] ![0, 0, 0, 0] X v hp hu (ix4 n c y z) = at0 (imgAt X n c) 1 y.val z.val := by
  unfold pad at0
  by_cases hh : (1 ≤ y.val ∧ y.val < 56 + 1) ∧ (1 ≤ z.val ∧ z.val < 56 + 1)
  · rw [dif_pos hh, dif_pos]
    · refine congrArg X ?_
      funext a
      apply Fin.ext
      fin_cases a
      · show (n.val - 0) / 1 = n.val; omega
      · show (c.val - 0) / 1 = c.val; omega
      · show (y.val - 1) / 1 = y.val - 1; omega
      · show (z.val - 1) / 1 = z.val - 1; omega
    · intro a
      fin_cases a
      · show 0 ≤ n.val ∧ (n.val - 0) % 1 = 0 ∧ (n.val - 0) / 1 < 32; omega
      · show 0 ≤ c.val ∧ (c.val - 0) % 1 = 0 ∧ (c.val - 0) / 1 < 64; omega
      · show 1 ≤ y.val ∧ (y.val - 1) % 1 = 0 ∧ (y.val - 1) / 1 < 56; omega
      · show 1 ≤ z.val ∧ (z.val - 1) % 1 = 0 ∧ (z.val - 1) / 1 < 56; omega
  · rw [dif_neg hh, dif_neg, hv]
    intro h
    have h2 : 1 ≤ y.val ∧ (y.val - 1) % 1 = 0 ∧ (y.val - 1) / 1 < 56 := h 2
    have h3 : 1 ≤ z.val ∧ (z.val - 1) % 1 = 0 ∧ (z.val - 1) / 1 < 56 := h 3
    omega

/-- The same three wide, of the image. -/
theorem pad3_apply (X : Vec Ideal S32x3x224x224 .f32) (v : Vec Ideal S_ .f32) (hv : ∀ i, v i = (0 : EReal)) {hp hu} (n : Fin 32) (c : Fin 3) (y z : Fin 230) :
    pad S32x3x230x230 ![0, 0, 3, 3] ![0, 0, 3, 3] ![0, 0, 0, 0] X v hp hu (ix4 n c y z) = at0 (imgAt X n c) 3 y.val z.val := by
  unfold pad at0
  by_cases hh : (3 ≤ y.val ∧ y.val < 224 + 3) ∧ (3 ≤ z.val ∧ z.val < 224 + 3)
  · rw [dif_pos hh, dif_pos]
    · refine congrArg X ?_
      funext a
      apply Fin.ext
      fin_cases a
      · show (n.val - 0) / 1 = n.val; omega
      · show (c.val - 0) / 1 = c.val; omega
      · show (y.val - 3) / 1 = y.val - 3; omega
      · show (z.val - 3) / 1 = z.val - 3; omega
    · intro a
      fin_cases a
      · show 0 ≤ n.val ∧ (n.val - 0) % 1 = 0 ∧ (n.val - 0) / 1 < 32; omega
      · show 0 ≤ c.val ∧ (c.val - 0) % 1 = 0 ∧ (c.val - 0) / 1 < 3; omega
      · show 3 ≤ y.val ∧ (y.val - 3) % 1 = 0 ∧ (y.val - 3) / 1 < 224; omega
      · show 3 ≤ z.val ∧ (z.val - 3) % 1 = 0 ∧ (z.val - 3) / 1 < 224; omega
  · rw [dif_neg hh, dif_neg, hv]
    intro h
    have h2 : 3 ≤ y.val ∧ (y.val - 3) % 1 = 0 ∧ (y.val - 3) / 1 < 224 := h 2
    have h3 : 3 ≤ z.val ∧ (z.val - 3) % 1 = 0 ∧ (z.val - 3) / 1 < 224 := h 3
    omega

/-- One shifted product of a 3 by 3 convolution, as the reference's operations. -/
def tap3 (P : Vec Ideal S32x64x58x58 .f32) (w : Vec Ideal S64x64x3x3 .f32) (dy dx : ℕ) (hs : S32x64x58x58.Slices ![0, 0, dy, dx] S32x64x56x56) (hw : S64x64x3x3.Slices ![0, 0, dy, dx] S64x64x1x1) :
    Vec Ideal S32x64x56x56 .f32 :=
  transpose S32x64x56x56 [0, 3, 1, 2] (Host.dotGeneral (F := Ideal) (φ₁ := .f32) (φ₂ := .f32) dot_S32x64x56x56_S64x64_S32x56x56x64_1_1_023_0_n_n none (extractStridedSlice S32x64x56x56 ![0, 0, dy, dx] P hs)
    (shapeCast S64x64 (extractStridedSlice S64x64x1x1 ![0, 0, dy, dx] w hw) shapeCasts_S64x64x1x1_S64x64)) transposes_S32x56x56x64_S32x64x56x56_0_3_1_2

/-- It at an index. -/
theorem tap3_apply (P : Vec Ideal S32x64x58x58 .f32) (w : Vec Ideal S64x64x3x3 .f32) (dy dx : Fin 3) {hs hw} (n : Fin 32) (o : Fin 64) (h v : Fin 56) :
    tap3 P w dy.val dx.val hs hw (ix4 n o h v) = ∑ c : Fin 64, P (ix4 n c (⟨h.val + dy.val, by omega⟩ : Fin 58) (⟨v.val + dx.val, by omega⟩ : Fin 58)) * w (ix4 o c dy dx) := by
  unfold tap3
  pointwise []
  refine Finset.sum_congr rfl fun c _ => ?_
  congr 2
  congr 1
  · exact Fin.ext (Nat.add_comm _ _)
  · exact Fin.ext (Nat.add_comm _ _)

/-- Two arrays' sum at an index, from each at the index. -/
theorem add_of {s : Shape} {x y : Vec Ideal s .f32} {i : s.Idx} {a b : EReal} (h : x i = a) (h' : y i = b) : addf (F := Ideal) (φ := .f32) x y i = a + b :=
  congrArg₂ (fun a b : EReal => a + b) h h'

/-- A 3 by 3 convolution, as the reference's operations: nine shifted products added from the left. -/
def conv3S (P : Vec Ideal S32x64x58x58 .f32) (w : Vec Ideal S64x64x3x3 .f32) : Vec Ideal S32x64x56x56 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) ((tap3 P w 0 0 slices_S32x64x58x58_S32x64x56x56_0_0_0_0 slices_S64x64x3x3_S64x64x1x1_0_0_0_0))
    (tap3 P w 0 1 slices_S32x64x58x58_S32x64x56x56_0_0_0_1 slices_S64x64x3x3_S64x64x1x1_0_0_0_1))
    (tap3 P w 0 2 slices_S32x64x58x58_S32x64x56x56_0_0_0_2 slices_S64x64x3x3_S64x64x1x1_0_0_0_2))
    (tap3 P w 1 0 slices_S32x64x58x58_S32x64x56x56_0_0_1_0 slices_S64x64x3x3_S64x64x1x1_0_0_1_0))
    (tap3 P w 1 1 slices_S32x64x58x58_S32x64x56x56_0_0_1_1 slices_S64x64x3x3_S64x64x1x1_0_0_1_1))
    (tap3 P w 1 2 slices_S32x64x58x58_S32x64x56x56_0_0_1_2 slices_S64x64x3x3_S64x64x1x1_0_0_1_2))
    (tap3 P w 2 0 slices_S32x64x58x58_S32x64x56x56_0_0_2_0 slices_S64x64x3x3_S64x64x1x1_0_0_2_0))
    (tap3 P w 2 1 slices_S32x64x58x58_S32x64x56x56_0_0_2_1 slices_S64x64x3x3_S64x64x1x1_0_0_2_1))
    (tap3 P w 2 2 slices_S32x64x58x58_S32x64x56x56_0_0_2_2 slices_S64x64x3x3_S64x64x1x1_0_0_2_2)

/-- The same of a map, its border put on first. -/
def conv3H (X : Vec Ideal S32x64x56x56 .f32) (z : Vec Ideal S_ .f32) (w : Vec Ideal S64x64x3x3 .f32) : Vec Ideal S32x64x56x56 .f32 :=
  conv3S (pad S32x64x58x58 ![0, 0, 1, 1] ![0, 0, 1, 1] ![0, 0, 0, 0] X z pads_S32x64x56x56_S32x64x58x58_000_000_110_110 h_S_) w

/-- It at an index: the convolution of the image's map. -/
theorem conv3H_apply (X : Vec Ideal S32x64x56x56 .f32) (z : Vec Ideal S_ .f32) (hz : ∀ i, z i = (0 : EReal)) (w : Vec Ideal S64x64x3x3 .f32) (n : Fin 32) (o : Fin 64) (h v : Fin 56) :
    conv3H X z w (ix4 n o h v) = conv3 (fun o c dy dx => w (ix4 o c dy dx)) (imgAt X n) o h v := by
  unfold conv3H
  generalize hP : pad S32x64x58x58 ![0, 0, 1, 1] ![0, 0, 1, 1] ![0, 0, 0, 0] X z _ _ = P
  unfold conv3S
  have tap : ∀ (dy dx : Fin 3) hs hw, tap3 P w dy.val dx.val hs hw (ix4 n o h v) = ∑ c : Fin 64, at0 (imgAt X n c) 1 (h.val + dy.val) (v.val + dx.val) * w (ix4 o c dy dx) := by
    intro dy dx hs hw
    rw [tap3_apply]
    exact Finset.sum_congr rfl fun c _ => congrArg (· * _) ((congrFun hP _).symm.trans (pad1_apply X z hz n c _ _))
  unfold conv3
  simp only [Fin.sum_univ_three, ← add_assoc]
  exact (add_of (add_of (add_of (add_of (add_of (add_of (add_of (add_of (tap 0 0 _ _) (tap 0 1 _ _)) (tap 0 2 _ _)) (tap 1 0 _ _)) (tap 1 1 _ _)) (tap 1 2 _ _)) (tap 2 0 _ _)) (tap 2 1 _ _)) (tap 2 2 _ _))

/-- One shifted product of the 7 by 7 convolution of stride two, as the reference's operations. -/
def tap7 (P : Vec Ideal S32x3x230x230 .f32) (w : Vec Ideal S64x3x7x7 .f32) (dy dx : ℕ) (hs : S32x3x230x230.SlicesBy ![0, 0, dy, dx] ![1, 1, 2, 2] S32x3x112x112) (hw : S64x3x7x7.Slices ![0, 0, dy, dx] S64x3x1x1) :
    Vec Ideal S32x64x112x112 .f32 :=
  transpose S32x64x112x112 [0, 3, 1, 2] (Host.dotGeneral (F := Ideal) (φ₁ := .f32) (φ₂ := .f32) dot_S32x3x112x112_S64x3_S32x112x112x64_1_1_023_0_n_n none (Host.slice S32x3x112x112 ![0, 0, dy, dx] ![1, 1, 2, 2] P hs)
    (shapeCast S64x3 (extractStridedSlice S64x3x1x1 ![0, 0, dy, dx] w hw) shapeCasts_S64x3x1x1_S64x3)) transposes_S32x112x112x64_S32x64x112x112_0_3_1_2

/-- Every second element of a plane, from an offset. -/
theorem slice_apply (P : Vec Ideal S32x3x230x230 .f32) (dy dx : Fin 7) {hs} (n : Fin 32) (c : Fin 3) (y z : Fin 112) :
    Host.slice S32x3x112x112 ![0, 0, dy.val, dx.val] ![1, 1, 2, 2] P hs (ix4 n c y z) = P (ix4 n c (⟨2 * y.val + dy.val, by omega⟩ : Fin 230) (⟨2 * z.val + dx.val, by omega⟩ : Fin 230)) := by
  refine congrArg P ?_
  funext a
  apply Fin.ext
  fin_cases a
  · show 0 + 1 * n.val = n.val; omega
  · show 0 + 1 * c.val = c.val; omega
  · show dy.val + 2 * y.val = 2 * y.val + dy.val; omega
  · show dx.val + 2 * z.val = 2 * z.val + dx.val; omega

/-- It at an index. -/
theorem tap7_apply (P : Vec Ideal S32x3x230x230 .f32) (w : Vec Ideal S64x3x7x7 .f32) (dy dx : Fin 7) {hs hw} (n : Fin 32) (o : Fin 64) (y z : Fin 112) :
    tap7 P w dy.val dx.val hs hw (ix4 n o y z) = ∑ c : Fin 3, P (ix4 n c (⟨2 * y.val + dy.val, by omega⟩ : Fin 230) (⟨2 * z.val + dx.val, by omega⟩ : Fin 230)) * w (ix4 o c dy dx) := by
  have hS : ∀ n c y z, Host.slice S32x3x112x112 ![0, 0, dy.val, dx.val] ![1, 1, 2, 2] P hs (ix4 n c y z) = _ := slice_apply P dy dx
  unfold tap7
  generalize Host.slice S32x3x112x112 ![0, 0, dy.val, dx.val] ![1, 1, 2, 2] P hs = Q at hS
  pointwise []
  exact Finset.sum_congr rfl fun c _ => congrArg (· * _) (hS n c y z)

/-- The 7 by 7 convolution, as the reference's operations: 49 shifted products added from the left. -/
def conv7S (P : Vec Ideal S32x3x230x230 .f32) (w : Vec Ideal S64x3x7x7 .f32) : Vec Ideal S32x64x112x112 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) ((tap7 P w 0 0 slicesBy_S32x3x230x230_S32x3x112x112_0s1_0s1_0s2_0s2 slices_S64x3x7x7_S64x3x1x1_0_0_0_0))
    (tap7 P w 0 1 slicesBy_S32x3x230x230_S32x3x112x112_0s1_0s1_0s2_1s2 slices_S64x3x7x7_S64x3x1x1_0_0_0_1))
    (tap7 P w 0 2 slicesBy_S32x3x230x230_S32x3x112x112_0s1_0s1_0s2_2s2 slices_S64x3x7x7_S64x3x1x1_0_0_0_2))
    (tap7 P w 0 3 slicesBy_S32x3x230x230_S32x3x112x112_0s1_0s1_0s2_3s2 slices_S64x3x7x7_S64x3x1x1_0_0_0_3))
    (tap7 P w 0 4 slicesBy_S32x3x230x230_S32x3x112x112_0s1_0s1_0s2_4s2 slices_S64x3x7x7_S64x3x1x1_0_0_0_4))
    (tap7 P w 0 5 slicesBy_S32x3x230x230_S32x3x112x112_0s1_0s1_0s2_5s2 slices_S64x3x7x7_S64x3x1x1_0_0_0_5))
    (tap7 P w 0 6 slicesBy_S32x3x230x230_S32x3x112x112_0s1_0s1_0s2_6s2 slices_S64x3x7x7_S64x3x1x1_0_0_0_6))
    (tap7 P w 1 0 slicesBy_S32x3x230x230_S32x3x112x112_0s1_0s1_1s2_0s2 slices_S64x3x7x7_S64x3x1x1_0_0_1_0))
    (tap7 P w 1 1 slicesBy_S32x3x230x230_S32x3x112x112_0s1_0s1_1s2_1s2 slices_S64x3x7x7_S64x3x1x1_0_0_1_1))
    (tap7 P w 1 2 slicesBy_S32x3x230x230_S32x3x112x112_0s1_0s1_1s2_2s2 slices_S64x3x7x7_S64x3x1x1_0_0_1_2))
    (tap7 P w 1 3 slicesBy_S32x3x230x230_S32x3x112x112_0s1_0s1_1s2_3s2 slices_S64x3x7x7_S64x3x1x1_0_0_1_3))
    (tap7 P w 1 4 slicesBy_S32x3x230x230_S32x3x112x112_0s1_0s1_1s2_4s2 slices_S64x3x7x7_S64x3x1x1_0_0_1_4))
    (tap7 P w 1 5 slicesBy_S32x3x230x230_S32x3x112x112_0s1_0s1_1s2_5s2 slices_S64x3x7x7_S64x3x1x1_0_0_1_5))
    (tap7 P w 1 6 slicesBy_S32x3x230x230_S32x3x112x112_0s1_0s1_1s2_6s2 slices_S64x3x7x7_S64x3x1x1_0_0_1_6))
    (tap7 P w 2 0 slicesBy_S32x3x230x230_S32x3x112x112_0s1_0s1_2s2_0s2 slices_S64x3x7x7_S64x3x1x1_0_0_2_0))
    (tap7 P w 2 1 slicesBy_S32x3x230x230_S32x3x112x112_0s1_0s1_2s2_1s2 slices_S64x3x7x7_S64x3x1x1_0_0_2_1))
    (tap7 P w 2 2 slicesBy_S32x3x230x230_S32x3x112x112_0s1_0s1_2s2_2s2 slices_S64x3x7x7_S64x3x1x1_0_0_2_2))
    (tap7 P w 2 3 slicesBy_S32x3x230x230_S32x3x112x112_0s1_0s1_2s2_3s2 slices_S64x3x7x7_S64x3x1x1_0_0_2_3))
    (tap7 P w 2 4 slicesBy_S32x3x230x230_S32x3x112x112_0s1_0s1_2s2_4s2 slices_S64x3x7x7_S64x3x1x1_0_0_2_4))
    (tap7 P w 2 5 slicesBy_S32x3x230x230_S32x3x112x112_0s1_0s1_2s2_5s2 slices_S64x3x7x7_S64x3x1x1_0_0_2_5))
    (tap7 P w 2 6 slicesBy_S32x3x230x230_S32x3x112x112_0s1_0s1_2s2_6s2 slices_S64x3x7x7_S64x3x1x1_0_0_2_6))
    (tap7 P w 3 0 slicesBy_S32x3x230x230_S32x3x112x112_0s1_0s1_3s2_0s2 slices_S64x3x7x7_S64x3x1x1_0_0_3_0))
    (tap7 P w 3 1 slicesBy_S32x3x230x230_S32x3x112x112_0s1_0s1_3s2_1s2 slices_S64x3x7x7_S64x3x1x1_0_0_3_1))
    (tap7 P w 3 2 slicesBy_S32x3x230x230_S32x3x112x112_0s1_0s1_3s2_2s2 slices_S64x3x7x7_S64x3x1x1_0_0_3_2))
    (tap7 P w 3 3 slicesBy_S32x3x230x230_S32x3x112x112_0s1_0s1_3s2_3s2 slices_S64x3x7x7_S64x3x1x1_0_0_3_3))
    (tap7 P w 3 4 slicesBy_S32x3x230x230_S32x3x112x112_0s1_0s1_3s2_4s2 slices_S64x3x7x7_S64x3x1x1_0_0_3_4))
    (tap7 P w 3 5 slicesBy_S32x3x230x230_S32x3x112x112_0s1_0s1_3s2_5s2 slices_S64x3x7x7_S64x3x1x1_0_0_3_5))
    (tap7 P w 3 6 slicesBy_S32x3x230x230_S32x3x112x112_0s1_0s1_3s2_6s2 slices_S64x3x7x7_S64x3x1x1_0_0_3_6))
    (tap7 P w 4 0 slicesBy_S32x3x230x230_S32x3x112x112_0s1_0s1_4s2_0s2 slices_S64x3x7x7_S64x3x1x1_0_0_4_0))
    (tap7 P w 4 1 slicesBy_S32x3x230x230_S32x3x112x112_0s1_0s1_4s2_1s2 slices_S64x3x7x7_S64x3x1x1_0_0_4_1))
    (tap7 P w 4 2 slicesBy_S32x3x230x230_S32x3x112x112_0s1_0s1_4s2_2s2 slices_S64x3x7x7_S64x3x1x1_0_0_4_2))
    (tap7 P w 4 3 slicesBy_S32x3x230x230_S32x3x112x112_0s1_0s1_4s2_3s2 slices_S64x3x7x7_S64x3x1x1_0_0_4_3))
    (tap7 P w 4 4 slicesBy_S32x3x230x230_S32x3x112x112_0s1_0s1_4s2_4s2 slices_S64x3x7x7_S64x3x1x1_0_0_4_4))
    (tap7 P w 4 5 slicesBy_S32x3x230x230_S32x3x112x112_0s1_0s1_4s2_5s2 slices_S64x3x7x7_S64x3x1x1_0_0_4_5))
    (tap7 P w 4 6 slicesBy_S32x3x230x230_S32x3x112x112_0s1_0s1_4s2_6s2 slices_S64x3x7x7_S64x3x1x1_0_0_4_6))
    (tap7 P w 5 0 slicesBy_S32x3x230x230_S32x3x112x112_0s1_0s1_5s2_0s2 slices_S64x3x7x7_S64x3x1x1_0_0_5_0))
    (tap7 P w 5 1 slicesBy_S32x3x230x230_S32x3x112x112_0s1_0s1_5s2_1s2 slices_S64x3x7x7_S64x3x1x1_0_0_5_1))
    (tap7 P w 5 2 slicesBy_S32x3x230x230_S32x3x112x112_0s1_0s1_5s2_2s2 slices_S64x3x7x7_S64x3x1x1_0_0_5_2))
    (tap7 P w 5 3 slicesBy_S32x3x230x230_S32x3x112x112_0s1_0s1_5s2_3s2 slices_S64x3x7x7_S64x3x1x1_0_0_5_3))
    (tap7 P w 5 4 slicesBy_S32x3x230x230_S32x3x112x112_0s1_0s1_5s2_4s2 slices_S64x3x7x7_S64x3x1x1_0_0_5_4))
    (tap7 P w 5 5 slicesBy_S32x3x230x230_S32x3x112x112_0s1_0s1_5s2_5s2 slices_S64x3x7x7_S64x3x1x1_0_0_5_5))
    (tap7 P w 5 6 slicesBy_S32x3x230x230_S32x3x112x112_0s1_0s1_5s2_6s2 slices_S64x3x7x7_S64x3x1x1_0_0_5_6))
    (tap7 P w 6 0 slicesBy_S32x3x230x230_S32x3x112x112_0s1_0s1_6s2_0s2 slices_S64x3x7x7_S64x3x1x1_0_0_6_0))
    (tap7 P w 6 1 slicesBy_S32x3x230x230_S32x3x112x112_0s1_0s1_6s2_1s2 slices_S64x3x7x7_S64x3x1x1_0_0_6_1))
    (tap7 P w 6 2 slicesBy_S32x3x230x230_S32x3x112x112_0s1_0s1_6s2_2s2 slices_S64x3x7x7_S64x3x1x1_0_0_6_2))
    (tap7 P w 6 3 slicesBy_S32x3x230x230_S32x3x112x112_0s1_0s1_6s2_3s2 slices_S64x3x7x7_S64x3x1x1_0_0_6_3))
    (tap7 P w 6 4 slicesBy_S32x3x230x230_S32x3x112x112_0s1_0s1_6s2_4s2 slices_S64x3x7x7_S64x3x1x1_0_0_6_4))
    (tap7 P w 6 5 slicesBy_S32x3x230x230_S32x3x112x112_0s1_0s1_6s2_5s2 slices_S64x3x7x7_S64x3x1x1_0_0_6_5))
    (tap7 P w 6 6 slicesBy_S32x3x230x230_S32x3x112x112_0s1_0s1_6s2_6s2 slices_S64x3x7x7_S64x3x1x1_0_0_6_6)

/-- The same of a map, its border put on first. -/
def conv7H (X : Vec Ideal S32x3x224x224 .f32) (z : Vec Ideal S_ .f32) (w : Vec Ideal S64x3x7x7 .f32) : Vec Ideal S32x64x112x112 .f32 :=
  conv7S (pad S32x3x230x230 ![0, 0, 3, 3] ![0, 0, 3, 3] ![0, 0, 0, 0] X z pads_S32x3x224x224_S32x3x230x230_000_000_330_330 h_S_) w

/-- Seven summands. -/
theorem sum_seven (f : Fin 7 → EReal) : ∑ i, f i = f 0 + f 1 + f 2 + f 3 + f 4 + f 5 + f 6 := Fin.sum_univ_seven f

/-- It at an index: the convolution of the image. -/
theorem conv7H_apply (X : Vec Ideal S32x3x224x224 .f32) (z : Vec Ideal S_ .f32) (hz : ∀ i, z i = (0 : EReal)) (w : Vec Ideal S64x3x7x7 .f32) (n : Fin 32) (o : Fin 64) (h v : Fin 112) :
    conv7H X z w (ix4 n o h v) = conv7 (fun o c dy dx => w (ix4 o c dy dx)) (imgAt X n) o h v := by
  unfold conv7H
  generalize hP : pad S32x3x230x230 ![0, 0, 3, 3] ![0, 0, 3, 3] ![0, 0, 0, 0] X z _ _ = P
  unfold conv7S
  have tap : ∀ (dy dx : Fin 7) hs hw, tap7 P w dy.val dx.val hs hw (ix4 n o h v) = ∑ c : Fin 3, at0 (imgAt X n c) 3 (2 * h.val + dy.val) (2 * v.val + dx.val) * w (ix4 o c dy dx) := by
    intro dy dx hs hw
    rw [tap7_apply]
    exact Finset.sum_congr rfl fun c _ => congrArg (· * _) ((congrFun hP _).symm.trans (pad3_apply X z hz n c _ _))
  unfold conv7
  simp only [sum_seven, ← add_assoc]
  exact (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (add_of (tap 0 0 _ _) (tap 0 1 _ _)) (tap 0 2 _ _)) (tap 0 3 _ _)) (tap 0 4 _ _)) (tap 0 5 _ _)) (tap 0 6 _ _)) (tap 1 0 _ _)) (tap 1 1 _ _)) (tap 1 2 _ _)) (tap 1 3 _ _)) (tap 1 4 _ _)) (tap 1 5 _ _)) (tap 1 6 _ _)) (tap 2 0 _ _)) (tap 2 1 _ _)) (tap 2 2 _ _)) (tap 2 3 _ _)) (tap 2 4 _ _)) (tap 2 5 _ _)) (tap 2 6 _ _)) (tap 3 0 _ _)) (tap 3 1 _ _)) (tap 3 2 _ _)) (tap 3 3 _ _)) (tap 3 4 _ _)) (tap 3 5 _ _)) (tap 3 6 _ _)) (tap 4 0 _ _)) (tap 4 1 _ _)) (tap 4 2 _ _)) (tap 4 3 _ _)) (tap 4 4 _ _)) (tap 4 5 _ _)) (tap 4 6 _ _)) (tap 5 0 _ _)) (tap 5 1 _ _)) (tap 5 2 _ _)) (tap 5 3 _ _)) (tap 5 4 _ _)) (tap 5 5 _ _)) (tap 5 6 _ _)) (tap 6 0 _ _)) (tap 6 1 _ _)) (tap 6 2 _ _)) (tap 6 3 _ _)) (tap 6 4 _ _)) (tap 6 5 _ _)) (tap 6 6 _ _))

end Cert.ReferenceIdeal.Net

end
-- ==== Proof.Reference.Layers.lean ====
/- The reference's normalisation, relu, pooling and mean, at an index. -/
module

public import proofs.«01_k».proof.Proof.Reference.Conv
public import proofs.«01_k».proof.Proof.Maths.Norms

@[expose] public section

set_option maxRecDepth 16384

noncomputable section

namespace Cert.ReferenceIdeal.Net

open Idealize.ShloMosaic Idealize.SL.Sem Cert.Maths
open Cert.ReferenceIdeal Cert.ReferenceIdeal.Gen

/-- The constant added to a variance. -/
def eps : EReal := FloatOps.ofBits (F := Ideal) .f32 0x3727C5AC#32

/-- The normalisation a table of gains, offsets, means and variances stands for. -/
def normOf (p : Vec Ideal S4x64 .f32) : Norm := fun o x => norm eps (p (ix2 0 o)) (p (ix2 1 o)) (p (ix2 2 o)) (p (ix2 3 o)) x

/-- One row of the table, as a vector along the channels. -/
def rowH (p : Vec Ideal S4x64 .f32) (k : ℕ) (hk : S4x64.Slices ![k, 0] S1x64) : Vec Ideal S1x64x1x1 .f32 :=
  broadcastInDim S1x64x1x1 ![1] bcast_S64_S1x64x1x1_1 (shapeCast S64 (extractStridedSlice S1x64 ![k, 0] p hk) shapeCasts_S1x64_S64)

/-- It at an index. -/
theorem rowH_apply (p : Vec Ideal S4x64 .f32) (k : Fin 4) {hk} (i : S1x64x1x1.Idx) : rowH p k.val hk i = p (ix2 k (i 1)) := by
  unfold rowH
  pointwise []

/-- The reciprocal root of each channel's variance, the constant added first. -/
def scaleH (p : Vec Ideal S4x64 .f32) : Vec Ideal S1x64x1x1 .f32 :=
  Host.rsqrt (F := Ideal) (φ := .f32) (addf (F := Ideal) (φ := .f32) (rowH p 3 slices_S4x64_S1x64_3_0) (broadcastInDim S1x64x1x1 ![] bcast_S_S1x64x1x1 (constant (F := Ideal) S_ .f32 0x3727C5AC#32)))

/-- It at an index. -/
theorem scaleH_apply (p : Vec Ideal S4x64 .f32) (i : S1x64x1x1.Idx) : scaleH p i = Ideal.rsqrt (p (ix2 3 (i 1)) + eps) :=
  congrArg (fun x : EReal => Ideal.rsqrt (x + eps)) (rowH_apply p 3 i)

/-- A channel's number on a whole map of 56 by 56. -/
def spread (r : Vec Ideal S1x64x1x1 .f32) : Vec Ideal S32x64x56x56 .f32 := broadcastInDim S32x64x56x56 ![0, 1, 2, 3] bcast_S1x64x1x1_S32x64x56x56_0_1_2_3 r

/-- It at an index. -/
theorem spread_apply (r : Vec Ideal S1x64x1x1 .f32) (n : Fin 32) (o : Fin 64) (h v : Fin 56) : spread r (ix4 n o h v) = r (ix4 0 o 0 0) := by
  unfold spread
  pointwise []

/-- The normalisation on maps of 56 by 56, as the reference's operations. -/
def normH (p : Vec Ideal S4x64 .f32) (X : Vec Ideal S32x64x56x56 .f32) : Vec Ideal S32x64x56x56 .f32 :=
  addf (F := Ideal) (φ := .f32) (mulf (F := Ideal) (φ := .f32) (mulf (F := Ideal) (φ := .f32)
    (subf (F := Ideal) (φ := .f32) X (spread (rowH p 2 slices_S4x64_S1x64_2_0)))
    (spread (scaleH p)))
    (spread (rowH p 0 slices_S4x64_S1x64_0_0)))
    (spread (rowH p 1 slices_S4x64_S1x64_1_0))

/-- It at an index. -/
theorem normH_apply (p : Vec Ideal S4x64 .f32) (X : Vec Ideal S32x64x56x56 .f32) (n : Fin 32) (o : Fin 64) (h v : Fin 56) :
    normH p X (ix4 n o h v) = normOf p o (X (ix4 n o h v)) := by
  have e0 : ∀ i, rowH p 0 slices_S4x64_S1x64_0_0 i = _ := rowH_apply p 0
  have e1 : ∀ i, rowH p 1 slices_S4x64_S1x64_1_0 i = _ := rowH_apply p 1
  have e2 : ∀ i, rowH p 2 slices_S4x64_S1x64_2_0 i = _ := rowH_apply p 2
  unfold normH
  show (X (ix4 n o h v) - spread (rowH p 2 _) (ix4 n o h v)) * spread (scaleH p) (ix4 n o h v) * spread (rowH p 0 _) (ix4 n o h v) + spread (rowH p 1 _) (ix4 n o h v) = _
  rw [spread_apply, spread_apply, spread_apply, spread_apply]
  show (X (ix4 n o h v) - rowH p 2 _ (ix4 0 o 0 0)) * scaleH p (ix4 0 o 0 0) * rowH p 0 _ (ix4 0 o 0 0) + rowH p 1 _ (ix4 0 o 0 0) = _
  rw [e0, e1, e2, scaleH_apply]
  rfl

/-- A channel's number on a whole map of 112 by 112. -/
def spread' (r : Vec Ideal S1x64x1x1 .f32) : Vec Ideal S32x64x112x112 .f32 := broadcastInDim S32x64x112x112 ![0, 1, 2, 3] bcast_S1x64x1x1_S32x64x112x112_0_1_2_3 r

/-- It at an index. -/
theorem spread'_apply (r : Vec Ideal S1x64x1x1 .f32) (n : Fin 32) (o : Fin 64) (h v : Fin 112) : spread' r (ix4 n o h v) = r (ix4 0 o 0 0) := by
  unfold spread'
  pointwise []

/-- The normalisation on maps of 112 by 112, as the reference's operations. -/
def normH' (p : Vec Ideal S4x64 .f32) (X : Vec Ideal S32x64x112x112 .f32) : Vec Ideal S32x64x112x112 .f32 :=
  addf (F := Ideal) (φ := .f32) (mulf (F := Ideal) (φ := .f32) (mulf (F := Ideal) (φ := .f32)
    (subf (F := Ideal) (φ := .f32) X (spread' (rowH p 2 slices_S4x64_S1x64_2_0)))
    (spread' (scaleH p)))
    (spread' (rowH p 0 slices_S4x64_S1x64_0_0)))
    (spread' (rowH p 1 slices_S4x64_S1x64_1_0))

/-- It at an index. -/
theorem normH'_apply (p : Vec Ideal S4x64 .f32) (X : Vec Ideal S32x64x112x112 .f32) (n : Fin 32) (o : Fin 64) (h v : Fin 112) :
    normH' p X (ix4 n o h v) = normOf p o (X (ix4 n o h v)) := by
  have e0 : ∀ i, rowH p 0 slices_S4x64_S1x64_0_0 i = _ := rowH_apply p 0
  have e1 : ∀ i, rowH p 1 slices_S4x64_S1x64_1_0 i = _ := rowH_apply p 1
  have e2 : ∀ i, rowH p 2 slices_S4x64_S1x64_2_0 i = _ := rowH_apply p 2
  unfold normH'
  show (X (ix4 n o h v) - spread' (rowH p 2 _) (ix4 n o h v)) * spread' (scaleH p) (ix4 n o h v) * spread' (rowH p 0 _) (ix4 n o h v) + spread' (rowH p 1 _) (ix4 n o h v) = _
  rw [spread'_apply, spread'_apply, spread'_apply, spread'_apply]
  show (X (ix4 n o h v) - rowH p 2 _ (ix4 0 o 0 0)) * scaleH p (ix4 0 o 0 0) * rowH p 0 _ (ix4 0 o 0 0) + rowH p 1 _ (ix4 0 o 0 0) = _
  rw [e0, e1, e2, scaleH_apply]
  rfl

/-- Folding the maximum over a list is the supremum over its members, the start among them. -/
theorem foldl_max {α : Type} (f : α → EReal) (L : List α) (a : EReal) : ∀ b, L.foldl (fun r x => max r (f x)) a ≤ b ↔ a ≤ b ∧ ∀ x ∈ L, f x ≤ b := by
  induction L generalizing a with
  | nil => intro b; simp
  | cons x L ih => intro b; rw [List.foldl_cons, ih]; simp [max_le_iff, and_assoc]

/-- The constant the pooling starts from is minus infinity. -/
theorem bot_bits : FloatOps.ofBits (F := Ideal) .f32 0xFF800000#32 = (⊥ : EReal) := by
  show Ideal.ofBits .f32 0xFF800000#32 = ⊥
  simp [Ideal.ofBits, Ideal.ieee]

/-- The pooling, as the reference's operation, at an index. -/
theorem pool_apply (Y : Vec Ideal S32x64x112x112 .f32) (b : Vec Ideal S_ .f32) (hb : ∀ i, b i = (⊥ : EReal)) {hw hu} (n : Fin 32) (o : Fin 64) (h v : Fin 56) :
    (Host.reduceWindow (s := S32x64x112x112) (t := S32x64x56x56) (u := S_) (FloatOps.maximumf (F := Ideal) (φ := .f32)) ![1, 1, 3, 3] ![1, 1, 2, 2] ![0, 0, 1, 1] ![0, 0, 1, 1] Y b hw hu : S32x64x56x56.Idx → EReal) (ix4 n o h v)
      = pool (imgAt Y n) o h v := by
  have key : ∀ (q : (⟨4, ![1, 1, 3, 3]⟩ : Shape).Idx) (inst : Decidable (∀ a : Fin 4, (![0, 0, 1, 1] : Fin 4 → ℕ) a ≤ ((ix4 n o h v : S32x64x56x56.Idx) a).val * (![1, 1, 2, 2] : Fin 4 → ℕ) a + (q a).val
          ∧ ((ix4 n o h v : S32x64x56x56.Idx) a).val * (![1, 1, 2, 2] : Fin 4 → ℕ) a + (q a).val - (![0, 0, 1, 1] : Fin 4 → ℕ) a < S32x64x112x112.size a)),
      @dite EReal (∀ a : Fin 4, (![0, 0, 1, 1] : Fin 4 → ℕ) a ≤ ((ix4 n o h v : S32x64x56x56.Idx) a).val * (![1, 1, 2, 2] : Fin 4 → ℕ) a + (q a).val
          ∧ ((ix4 n o h v : S32x64x56x56.Idx) a).val * (![1, 1, 2, 2] : Fin 4 → ℕ) a + (q a).val - (![0, 0, 1, 1] : Fin 4 → ℕ) a < S32x64x112x112.size a) inst
        (fun hin => Y (fun a => ⟨((ix4 n o h v : S32x64x56x56.Idx) a).val * (![1, 1, 2, 2] : Fin 4 → ℕ) a + (q a).val - (![0, 0, 1, 1] : Fin 4 → ℕ) a, (hin a).2⟩)) (fun _ => (⊥ : EReal))
      = atBot (imgAt Y n o) (2 * h.val + (q 2).val) (2 * v.val + (q 3).val) := by
    intro q inst
    have q0 : (q 0).val < 1 := (q 0).isLt
    have q1 : (q 1).val < 1 := (q 1).isLt
    have q2 : (q 2).val < 3 := (q 2).isLt
    have q3 : (q 3).val < 3 := (q 3).isLt
    unfold atBot
    by_cases hh : (1 ≤ 2 * h.val + (q 2).val ∧ 2 * h.val + (q 2).val < 112 + 1) ∧ (1 ≤ 2 * v.val + (q 3).val ∧ 2 * v.val + (q 3).val < 112 + 1)
    · rw [dif_pos hh, dif_pos]
      · refine congrArg Y ?_
        funext a
        apply Fin.ext
        fin_cases a
        · show n.val * 1 + (q 0).val - 0 = n.val; omega
        · show o.val * 1 + (q 1).val - 0 = o.val; omega
        · show h.val * 2 + (q 2).val - 1 = 2 * h.val + (q 2).val - 1; omega
        · show v.val * 2 + (q 3).val - 1 = 2 * v.val + (q 3).val - 1; omega
      · intro a
        fin_cases a
        · show 0 ≤ n.val * 1 + (q 0).val ∧ n.val * 1 + (q 0).val - 0 < 32; omega
        · show 0 ≤ o.val * 1 + (q 1).val ∧ o.val * 1 + (q 1).val - 0 < 64; omega
        · show 1 ≤ h.val * 2 + (q 2).val ∧ h.val * 2 + (q 2).val - 1 < 112; omega
        · show 1 ≤ v.val * 2 + (q 3).val ∧ v.val * 2 + (q 3).val - 1 < 112; omega
    · rw [dif_neg hh, dif_neg]
      intro hin
      have h2 : 1 ≤ h.val * 2 + (q 2).val ∧ h.val * 2 + (q 2).val - 1 < 112 := hin 2
      have h3 : 1 ≤ v.val * 2 + (q 3).val ∧ v.val * 2 + (q 3).val - 1 < 112 := hin 3
      omega
  obtain rfl : b = fun _ => (⊥ : EReal) := funext hb
  unfold Host.reduceWindow
  refine eq_of_forall_ge_iff fun c => ?_
  refine (foldl_max _ _ _ _).trans ?_
  unfold Maths.pool
  rw [Finset.sup_le_iff]
  constructor
  · intro H d _
    have := H.2 ((⟨4, ![1, 1, 3, 3]⟩ : Shape).rowMajor (ix4 0 0 d.1 d.2)) (List.mem_finRange _)
    have := (key ((⟨4, ![1, 1, 3, 3]⟩ : Shape).rowMajor.symm ((⟨4, ![1, 1, 3, 3]⟩ : Shape).rowMajor (ix4 0 0 d.1 d.2))) _).symm.le.trans this
    rw [Equiv.symm_apply_apply] at this
    exact this
  · intro H
    refine ⟨bot_le, fun m _ => ?_⟩
    exact (key ((⟨4, ![1, 1, 3, 3]⟩ : Shape).rowMajor.symm m) _).le.trans (H ((((⟨4, ![1, 1, 3, 3]⟩ : Shape).rowMajor.symm m) 2, ((⟨4, ![1, 1, 3, 3]⟩ : Shape).rowMajor.symm m) 3) : Fin 3 × Fin 3) (Finset.mem_univ _))

/-- The mean over a plane, as the reference's operations. -/
def meanH (X : Vec Ideal S32x64x56x56 .f32) : Vec Ideal S32x64 .f32 :=
  Host.divf (F := Ideal) (φ := .f32) (Host.reduceAdd (F := Ideal) (φ := .f32) X (constant (F := Ideal) S_ .f32 0x00000000#32) reducesTo_S32x64x56x56_S32x64_d2_3 h_S_)
    (broadcastInDim S32x64 ![] bcast_S_S32x64 (constant (F := Ideal) S_ .f32 0x45440000#32))

/-- The number of elements of a plane. -/
theorem plane_bits : FloatOps.ofBits (F := Ideal) .f32 0x45440000#32 = ((3136 : ℝ) : EReal) := by
  show Ideal.ofBits .f32 0x45440000#32 = _
  simp [Ideal.ofBits, Ideal.ieee, -EReal.coe_mul]; norm_num

/-- It at an index. -/
theorem meanH_apply (X : Vec Ideal S32x64x56x56 .f32) (n : Fin 32) (o : Fin 64) : meanH X (ix2 n o) = mean (imgAt X n) o := by
  have hs : (Host.reduceAdd (F := Ideal) (φ := .f32) X (constant (F := Ideal) S_ .f32 0x00000000#32) reducesTo_S32x64x56x56_S32x64_d2_3 h_S_ : S32x64.Idx → EReal) (ix2 n o)
      = ∑ h : Fin 56, ∑ v : Fin 56, X (ix4 n o h v) := by
    pointwise []
  unfold meanH mean
  show Ideal.div ((Host.reduceAdd (F := Ideal) (φ := .f32) X (constant (F := Ideal) S_ .f32 0x00000000#32) reducesTo_S32x64x56x56_S32x64_d2_3 h_S_ : S32x64.Idx → EReal) (ix2 n o))
    (FloatOps.ofBits (F := Ideal) .f32 0x45440000#32) = _
  rw [hs, plane_bits, Ideal.div_coe (by norm_num)]
  rfl

end Cert.ReferenceIdeal.Net

end
-- ==== Proof.Reference.Features.lean ====
/- The reference's features: the first layer, both blocks and the mean, as the functions of the shared mathematics. -/
module

public import proofs.«01_k».proof.Proof.Reference.Layers

@[expose] public section

set_option maxRecDepth 16384

noncomputable section

namespace Cert.ReferenceIdeal.Net

open Idealize.ShloMosaic Idealize.SL.Sem Cert.Maths
open Cert.ReferenceIdeal Cert.ReferenceIdeal.Gen Cert.ReferenceIdeal.Read

/-- The weights of a 3 by 3 convolution by output channel, input channel and tap. -/
def w3 (w : Vec Ideal S64x64x3x3 .f32) : Fin 64 → Fin 64 → Fin 3 → Fin 3 → EReal := fun o c dy dx => w (ix4 o c dy dx)

/-- The weights of the 7 by 7 convolution. -/
def w7 (w : Vec Ideal S64x3x7x7 .f32) : Fin 64 → Fin 3 → Fin 7 → Fin 7 → EReal := fun o c dy dx => w (ix4 o c dy dx)

/-- An integer zero as a float. -/
theorem zero_of (z : Vec Ideal S_ .f32) (hz : z = sitofp (F := Ideal) .f32 (constantI S_ 32 0#32)) : ∀ i, z i = (0 : EReal) := by
  subst hz
  intro i
  show ((((0#32 : BitVec 32).toInt : ℤ) : ℝ) : EReal) = 0
  simp

/-- A splat of the float zero. -/
theorem zeros56 (i : S32x64x56x56.Idx) : (broadcastInDim S32x64x56x56 ![] bcast_S_S32x64x56x56 (constant (F := Ideal) S_ .f32 0x00000000#32) : S32x64x56x56.Idx → EReal) i = 0 := by
  show Ideal.ofBits .f32 0x00000000#32 = 0
  simp [Ideal.ofBits, Ideal.ieee]

/-- The same, larger. -/
theorem zeros112 (i : S32x64x112x112.Idx) : (broadcastInDim S32x64x112x112 ![] bcast_S_S32x64x112x112 (constant (F := Ideal) S_ .f32 0x00000000#32) : S32x64x112x112.Idx → EReal) i = 0 := by
  show Ideal.ofBits .f32 0x00000000#32 = 0
  simp [Ideal.ofBits, Ideal.ieee]

variable (x0 : Vec Ideal S32x3x224x224 .f32) (x1 : Vec Ideal S64x3x7x7 .f32) (x2 : Vec Ideal S4x64 .f32) (x3 : Vec Ideal S64x64x3x3 .f32) (x4 : Vec Ideal S4x64 .f32)
  (x5 : Vec Ideal S64x64x3x3 .f32) (x6 : Vec Ideal S4x64 .f32) (x7 : Vec Ideal S64x64x3x3 .f32) (x8 : Vec Ideal S4x64 .f32) (x9 : Vec Ideal S64x64x3x3 .f32) (x10 : Vec Ideal S4x64 .f32)

/-- A half block of the reference on a batch: convolution, normalisation, relu. -/
def halfH (X : Vec Ideal S32x64x56x56 .f32) (z : Vec Ideal S_ .f32) (w : Vec Ideal S64x64x3x3 .f32) (p : Vec Ideal S4x64 .f32) : Vec Ideal S32x64x56x56 .f32 :=
  maximumf (F := Ideal) (φ := .f32) (normH p (conv3H X z w)) (broadcastInDim S32x64x56x56 ![] bcast_S_S32x64x56x56 (constant (F := Ideal) S_ .f32 0x00000000#32))

/-- It image by image. -/
theorem halfH_img (X : Vec Ideal S32x64x56x56 .f32) (z : Vec Ideal S_ .f32) (hz : ∀ i, z i = (0 : EReal)) (w : Vec Ideal S64x64x3x3 .f32) (p : Vec Ideal S4x64 .f32) (n : Fin 32) :
    imgAt (halfH X z w p) n = half (w3 w) (normOf p) (imgAt X n) := by
  funext o h v
  show max (normH p (conv3H X z w) (ix4 n o h v)) _ = _
  rw [normH_apply, conv3H_apply X z hz, zeros56]
  rfl

/-- The second half: the block's input added before the relu. -/
def half'H (X R : Vec Ideal S32x64x56x56 .f32) (z : Vec Ideal S_ .f32) (w : Vec Ideal S64x64x3x3 .f32) (p : Vec Ideal S4x64 .f32) : Vec Ideal S32x64x56x56 .f32 :=
  maximumf (F := Ideal) (φ := .f32) (addf (F := Ideal) (φ := .f32) (normH p (conv3H X z w)) R) (broadcastInDim S32x64x56x56 ![] bcast_S_S32x64x56x56 (constant (F := Ideal) S_ .f32 0x00000000#32))

/-- It image by image. -/
theorem half'H_img (X R : Vec Ideal S32x64x56x56 .f32) (z : Vec Ideal S_ .f32) (hz : ∀ i, z i = (0 : EReal)) (w : Vec Ideal S64x64x3x3 .f32) (p : Vec Ideal S4x64 .f32) (n : Fin 32) :
    imgAt (half'H X R z w p) n = half' (w3 w) (normOf p) (imgAt X n) (imgAt R n) := by
  funext o h v
  show max (normH p (conv3H X z w) (ix4 n o h v) + R (ix4 n o h v)) _ = _
  rw [normH_apply, conv3H_apply X z hz, zeros56]
  rfl

/-- The 7 by 7 convolution is the one the program runs. -/
theorem v293_eq : val_main_v293 (F := Ideal) x0 x1 = conv7H x0 (val_main_call0_v0 (F := Ideal)) x1 := rfl

/-- The first layer on one image. -/
theorem v319_img (n : Fin 32) : imgAt (val_main_v319 (F := Ideal) x0 x1 x2) n = stem (w7 x1) (normOf x2) (imgAt x0 n) := by
  have e : val_main_v317 (F := Ideal) x0 x1 x2 = maximumf (F := Ideal) (φ := .f32) (normH' x2 (val_main_v293 (F := Ideal) x0 x1)) (broadcastInDim S32x64x112x112 ![] bcast_S_S32x64x112x112 (constant (F := Ideal) S_ .f32 0x00000000#32)) := rfl
  have hY : imgAt (val_main_v317 (F := Ideal) x0 x1 x2) n = fun o y z => relu (normOf x2 o (conv7 (w7 x1) (imgAt x0 n) o y z)) := by
    rw [e]
    funext o y z
    show max (normH' x2 (val_main_v293 (F := Ideal) x0 x1) (ix4 n o y z)) _ = _
    rw [normH'_apply, zeros112, v293_eq, conv7H_apply _ _ (zero_of (val_main_call0_v0 (F := Ideal)) rfl)]
    rfl
  funext o h v
  unfold stem
  rw [← hY]
  unfold val_main_v319
  exact pool_apply _ _ (fun i => bot_bits) n o h v

/-- The first half of the first block. -/
theorem v397_eq : val_main_v397 (F := Ideal) x0 x1 x2 x3 x4 = halfH (val_main_v319 (F := Ideal) x0 x1 x2) (val_main_call2_v0 (F := Ideal)) x3 x4 := rfl

/-- The second half of the first block. -/
theorem v476_eq : val_main_v476 (F := Ideal) x0 x1 x2 x3 x4 x5 x6
    = half'H (val_main_v397 (F := Ideal) x0 x1 x2 x3 x4) (val_main_v319 (F := Ideal) x0 x1 x2) (val_main_call4_v0 (F := Ideal)) x5 x6 := rfl

/-- The first half of the second block. -/
theorem v554_eq : val_main_v554 (F := Ideal) x0 x1 x2 x3 x4 x5 x6 x7 x8
    = halfH (val_main_v476 (F := Ideal) x0 x1 x2 x3 x4 x5 x6) (val_main_call6_v0 (F := Ideal)) x7 x8 := rfl

/-- The second half of the second block. -/
theorem v633_eq : val_main_v633 (F := Ideal) x0 x1 x2 x3 x4 x5 x6 x7 x8 x9 x10
    = half'H (val_main_v554 (F := Ideal) x0 x1 x2 x3 x4 x5 x6 x7 x8) (val_main_v476 (F := Ideal) x0 x1 x2 x3 x4 x5 x6) (val_main_call8_v0 (F := Ideal)) x9 x10 := rfl

/-- One image's features, with the normalisations as given. -/
def featOf (x : Fin 3 → Fin 224 → Fin 224 → EReal) (x1 : Vec Ideal S64x3x7x7 .f32) (x3 x5 x7 x9 : Vec Ideal S64x64x3x3 .f32) (N0 N1 N2 N3 N4 : Norm) : Fin 64 → EReal :=
  mean (blocks (w3 x3) (w3 x5) (w3 x7) (w3 x9) N1 N2 N3 N4 (stem (w7 x1) N0 x))

/-- The reference's features of an image. -/
theorem v636_apply (n : Fin 32) (o : Fin 64) : val_main_v636 (F := Ideal) x0 x1 x2 x3 x4 x5 x6 x7 x8 x9 x10 (ix2 n o)
    = featOf (imgAt x0 n) x1 x3 x5 x7 x9 (normOf x2) (normOf x4) (normOf x6) (normOf x8) (normOf x10) o := by
  have e : val_main_v636 (F := Ideal) x0 x1 x2 x3 x4 x5 x6 x7 x8 x9 x10 = meanH (val_main_v633 (F := Ideal) x0 x1 x2 x3 x4 x5 x6 x7 x8 x9 x10) := rfl
  rw [e, meanH_apply, v633_eq, half'H_img _ _ _ (zero_of (val_main_call8_v0 (F := Ideal)) rfl), v554_eq, halfH_img _ _ (zero_of (val_main_call6_v0 (F := Ideal)) rfl), v476_eq, half'H_img _ _ _ (zero_of (val_main_call4_v0 (F := Ideal)) rfl), v397_eq,
    halfH_img _ _ (zero_of (val_main_call2_v0 (F := Ideal)) rfl), v319_img]
  rfl

end Cert.ReferenceIdeal.Net

end
-- ==== Proof.Reference.Head.lean ====
/- The reference's head: probabilities, the two most probable experts, their weights, the weighted sum of the experts. -/
module

public import proofs.«01_k».proof.Proof.Reference.Features
public import proofs.«01_k».proof.Proof.Maths.Gates
public import Idealize.ShloMosaic.Lib.Routing.OpsPair
public import Idealize.ShloMosaic.Lib.Routing.OpsSet

@[expose] public section

set_option maxRecDepth 16384

noncomputable section

namespace Cert.ReferenceIdeal.Net

open Idealize.ShloMosaic Idealize.SL.Sem Cert.Maths
open Cert.ReferenceIdeal Cert.ReferenceIdeal.Gen Cert.ReferenceIdeal.Read

/-- One row of a batch of sixteen numbers. -/
def rowAt (P : S32x16.Idx → EReal) (n : Fin 32) : Fin 16 → EReal := fun k => P (ix2 n k)

/-- The greatest of each row, as the reference's operations. -/
def maxH (Z : Vec Ideal S32x16 .f32) : Vec Ideal S32 .f32 :=
  maximumf (F := Ideal) (φ := .f32) (broadcastInDim S32 ![] bcast_S_S32 (constant (F := Ideal) S_ .f32 0xFF800000#32))
    (Host.reduce (FloatOps.maximumf (F := Ideal) (φ := .f32)) Z (constant (F := Ideal) S_ .f32 0xFF800000#32) reducesTo_S32x16_S32_d1 h_S_)

/-- It at an index. -/
theorem maxH_apply (Z : Vec Ideal S32x16 .f32) (n : Fin 32) : maxH Z (ix1 n) = Finset.univ.sup (rowAt Z n) := by
  unfold maxH
  pointwise []
  rw [show Ideal.ofBits FTy.f32 4286578688#32 = (⊥ : EReal) from bot_bits]
  exact max_eq_right bot_le

/-- The exponentials, as the reference's operations. -/
def expH (Z : Vec Ideal S32x16 .f32) : Vec Ideal S32x16 .f32 :=
  Host.exp (F := Ideal) (φ := .f32) (subf (F := Ideal) (φ := .f32) Z (broadcastInDim S32x16 ![0, 1] bcast_S32x1_S32x16_0_1 (broadcastInDim S32x1 ![0] bcast_S32_S32x1_0 (maxH Z))))

/-- They at an index. -/
theorem expH_apply (Z : Vec Ideal S32x16 .f32) (n : Fin 32) (k : Fin 16) : expH Z (ix2 n k) = expo (rowAt Z n) k := by
  have hM : ∀ n, maxH Z (ix1 n) = _ := maxH_apply Z
  unfold expH
  generalize maxH Z = M at hM
  pointwise []
  rw [hM]
  rfl

/-- The probabilities, as the reference's operations. -/
def softH (Z : Vec Ideal S32x16 .f32) : Vec Ideal S32x16 .f32 :=
  Host.divf (F := Ideal) (φ := .f32) (expH Z) (broadcastInDim S32x16 ![0, 1] bcast_S32x1_S32x16_0_1 (broadcastInDim S32x1 ![0] bcast_S32_S32x1_0
    (Host.reduceAdd (F := Ideal) (φ := .f32) (expH Z) (constant (F := Ideal) S_ .f32 0x00000000#32) reducesTo_S32x16_S32_d1 h_S_)))

/-- They at an index. -/
theorem softH_apply (Z : Vec Ideal S32x16 .f32) (n : Fin 32) (k : Fin 16) : softH Z (ix2 n k) = probs (rowAt Z n) k := by
  have hE : ∀ n k, expH Z (ix2 n k) = _ := expH_apply Z
  unfold softH probs
  generalize expH Z = M at hE
  pointwise []
  simp only [hE]

/-- The value and the position of the row's number at place `t` of the stable sort. -/
def place (P : Vec Ideal S32x16 .f32) (n : Fin 32) (t : Fin 16) : Fin 16 := sortedFrom (fun a b => decide (rowAt P n b < rowAt P n a)) t

/-- The host's comparison of two numbers. -/
theorem gt_eq (x y : EReal) : (FloatOps.cmpfTotal (F := Ideal) (φ := .f32) .gt x y == 1#1) = decide (y < x) := by
  show (BitVec.ofBool (decide (y < x)) == 1#1) = _
  by_cases h : y < x <;> simp [h]

/-- The position the stable sort of a row puts at a place. -/
theorem place_eq (P : Vec Ideal S32x16 .f32) (n : Fin 32) (t : Fin 16) :
    sortedFrom (n := 16) (fun k k' => FloatOps.cmpfTotal (F := Ideal) (φ := .f32) .gt (P ((ix2 n t : S32x16.Idx).along 1 k)) (P ((ix2 n t : S32x16.Idx).along 1 k')) == 1#1) t = place P n t := by
  have ha : ∀ k : Fin 16, (ix2 n t : S32x16.Idx).along 1 k = ix2 n k := by
    intro k
    funext a
    fin_cases a <;> rfl
  unfold place
  refine congrArg (fun f => sortedFrom f t) ?_
  funext a b
  rw [gt_eq, ha, ha]
  rfl

/-- An index of the narrower array, in the wider. -/
theorem widen (n : Fin 32) (t : Fin 2) {h : S32x16.Slices (fun _ => 0) S32x2} {α : Type} (X : S32x16.Idx → α) :
    extractStridedSlice S32x2 (fun _ => 0) X h (ix2 n t) = X (ix2 n (⟨t.val, by omega⟩ : Fin 16)) := by
  refine congrArg X ?_
  funext a
  apply Fin.ext
  fin_cases a
  · show 0 + n.val = n.val; omega
  · show 0 + t.val = t.val; omega

/-- The sort of rows of two arrays together: both read at the sorted position. -/
theorem sort_read {α β : Type} (cmp : α × β → α × β → BitVec 1) (x : S32x16.Idx → α) (y : S32x16.Idx → β) (j : S32x16.Idx) :
    (Host.sort2 S32x16 1 cmp x y).1 j = x (j.along 1 (sortedFrom (fun k k' => cmp (x (j.along 1 k), y (j.along 1 k)) (x (j.along 1 k'), y (j.along 1 k')) == 1#1) (j 1)))
    ∧ (Host.sort2 S32x16 1 cmp x y).2 j = y (j.along 1 (sortedFrom (fun k k' => cmp (x (j.along 1 k), y (j.along 1 k)) (x (j.along 1 k'), y (j.along 1 k')) == 1#1) (j 1))) :=
  ⟨rfl, rfl⟩

/-- An index moved along its second axis. -/
theorem along_ix2 (n : Fin 32) (t k : Fin 16) : (ix2 n t : S32x16.Idx).along 1 k = ix2 n k := by
  funext a
  fin_cases a <;> rfl

/-- The sort of rows of values with a second array, its values. -/
theorem sort_fst (P : Vec Ideal S32x16 .f32) (y : IVec S32x16 32) (n : Fin 32) (t : Fin 16) :
    (Host.sort2 S32x16 1 (fun l r => FloatOps.cmpfTotal (F := Ideal) (φ := .f32) .gt l.1 r.1) P y).1 (ix2 n t) = P (ix2 n (place P n t)) := by
  rw [(sort_read _ P y (ix2 n t)).1, ← along_ix2 n t (place P n t), ← place_eq P n t]
  rfl

/-- The same, the second array's. -/
theorem sort_snd (P : Vec Ideal S32x16 .f32) (y : IVec S32x16 32) (n : Fin 32) (t : Fin 16) :
    (Host.sort2 S32x16 1 (fun l r => FloatOps.cmpfTotal (F := Ideal) (φ := .f32) .gt l.1 r.1) P y).2 (ix2 n t) = y (ix2 n (place P n t)) := by
  rw [(sort_read _ P y (ix2 n t)).2, ← along_ix2 n t (place P n t), ← place_eq P n t]
  rfl

/-- The values of the two greatest. -/
theorem topK_val (P : Vec Ideal S32x16 .f32) {h} (n : Fin 32) (t : Fin 2) :
    (Host.topK S32x2 1 (FloatOps.cmpfTotal (F := Ideal) (φ := .f32) .gt) P h).1 (ix2 n t) = P (ix2 n (place P n ⟨t.val, by omega⟩)) :=
  (widen n t (h := h) (Host.sort2 S32x16 1 (fun l r => FloatOps.cmpfTotal (F := Ideal) (φ := .f32) .gt l.1 r.1) P (fun i => if hd : 1 < S32x16.rank then iotaInDim S32x16 32 ⟨1, hd⟩ i else 0#32)).1).trans
    (sort_fst P _ n _)

/-- The positions of the two greatest. -/
theorem topK_idx (P : Vec Ideal S32x16 .f32) {h} (n : Fin 32) (t : Fin 2) :
    (Host.topK S32x2 1 (FloatOps.cmpfTotal (F := Ideal) (φ := .f32) .gt) P h).2 (ix2 n t) = BitVec.ofNat 32 (place P n ⟨t.val, by omega⟩).val :=
  (widen n t (h := h) (Host.sort2 S32x16 1 (fun l r => FloatOps.cmpfTotal (F := Ideal) (φ := .f32) .gt l.1 r.1) P (fun i => if hd : 1 < S32x16.rank then iotaInDim S32x16 32 ⟨1, hd⟩ i else 0#32)).2).trans
    ((sort_snd P _ n _).trans (dif_pos (show 1 < S32x16.rank by decide)))

/-- The constant added to the sum of the two probabilities. -/
def small : EReal := FloatOps.ofBits (F := Ideal) .f32 0x358637BD#32

/-- Each value over the sum of both and the constant, as the reference's operations. -/
def shareH (V : Vec Ideal S32x2 .f32) : Vec Ideal S32x2 .f32 :=
  Host.divf (F := Ideal) (φ := .f32) V (broadcastInDim S32x2 ![0, 1] bcast_S32x1_S32x2_0_1 (addf (F := Ideal) (φ := .f32)
    (broadcastInDim S32x1 ![0] bcast_S32_S32x1_0 (Host.reduceAdd (F := Ideal) (φ := .f32) V (constant (F := Ideal) S_ .f32 0x00000000#32) reducesTo_S32x2_S32_d1 h_S_))
    (broadcastInDim S32x1 ![] bcast_S_S32x1 (constant (F := Ideal) S_ .f32 0x358637BD#32))))

/-- It at an index. -/
theorem shareH_apply (V : Vec Ideal S32x2 .f32) (n : Fin 32) (t : Fin 2) : shareH V (ix2 n t) = Ideal.div (V (ix2 n t)) (V (ix2 n 0) + V (ix2 n 1) + small) := by
  unfold shareH
  pointwise []
  simp only [Fin.sum_univ_two]
  rfl

/-- The pairs of row and position the shares are written to, as the reference's operations. -/
def pairsH (I : IVec S32x2 32) : IVec S32x2x2 32 :=
  let r : IVec S32x1 32 := broadcastInDim S32x1 ![0] bcast_S32_S32x1_0 (iotaInDim S32 32 0)
  concatenate S32x2x2 2 [⟨S32x2x1, broadcastInDim S32x2x1 ![0, 1] bcast_S32x2_S32x2x1_0_1 (broadcastInDim S32x2 ![0, 1] bcast_S32x1_S32x2_0_1
      (select (cmpi .slt r (broadcastInDim S32x1 ![] bcast_S_S32x1 (constantI S_ 32 0#32))) (addi r (broadcastInDim S32x1 ![] bcast_S_S32x1 (constantI S_ 32 32#32))) r))⟩,
    ⟨S32x2x1, broadcastInDim S32x2x1 ![0, 1] bcast_S32x2_S32x2x1_0_1
      (select (cmpi .slt I (broadcastInDim S32x2 ![] bcast_S_S32x2 (constantI S_ 32 0#32))) (addi I (broadcastInDim S32x2 ![] bcast_S_S32x2 (constantI S_ 32 16#32))) I)⟩]
    concatenates_S32x2x1_S32x2x1_S32x2x2_d2

/-- The first of a pair is the row. -/
theorem pairsH_row (I : IVec S32x2 32) (n : Fin 32) (t : Fin 2) : pairsH I (ix3 n t 0) = BitVec.ofNat 32 n.val := by
  unfold pairsH
  pointwise []
  exact Routing.wrap_of_lt _ _ (by rw [BitVec.toNat_ofNat]; have := n.isLt; omega)

/-- The second is the position. -/
theorem pairsH_pos (I : IVec S32x2 32) (n : Fin 32) (t : Fin 2) (hI : (I (ix2 n t)).toNat < 16) : pairsH I (ix3 n t 1) = I (ix2 n t) := by
  unfold pairsH
  pointwise []
  exact Routing.wrap_of_lt _ _ (by omega)

/-- The shares written into a batch of zero rows, at an index. -/
theorem scatter_apply (Z : Vec Ideal S32x16 .f32) (hZ : ∀ i, Z i = (0 : EReal)) (I : IVec S32x2 32) (V : Vec Ideal S32x2 .f32) (n : Fin 32) (a b : Fin 16) (hab : b ≠ a)
    (ha : I (ix2 n 0) = BitVec.ofNat 32 a.val) (hb : I (ix2 n 1) = BitVec.ofNat 32 b.val) (e : Fin 16) :
    Host.scatter scatter_S32x16_S32x2x2_S32x2_n_01_01_2 (fun _ y => y) Z (pairsH I) V (ix2 n e) = if e = b then V (ix2 n 1) else if e = a then V (ix2 n 0) else 0 := by
  have hpos : ∀ t : Fin 2, pairsH I (ix3 n t 1) = BitVec.ofNat 32 (if t = 0 then a else b).val := by
    intro t
    fin_cases t
    · refine (pairsH_pos I n 0 ?_).trans ha
      rw [ha, BitVec.toNat_ofNat]; omega
    · refine (pairsH_pos I n 1 ?_).trans hb
      rw [hb, BitVec.toNat_ofNat]; omega
  have hw : ∀ k : ℕ, k < 32 → (BitVec.ofNat 32 k).toInt = (k : ℤ) := by
    intro k hk
    rw [BitVec.toInt_eq_toNat_cond, BitVec.toNat_ofNat]
    omega
  have lands : ∀ (r : Fin 32) (t : Fin 2), scatter_S32x16_S32x2x2_S32x2_n_01_01_2.resultIdx? (ix2 r t) (pairsH I) = some (ix2 n e) ↔ r = n ∧ e = if t = 0 then a else b := by
    intro r t
    refine (Routing.scatter_lands2 (R := 32) (C := 16) (A := 32) (B := 2) scatter_S32x16_S32x2x2_S32x2_n_01_01_2 rfl rfl rfl (pairsH I) r t n e).trans ?_
    show (pairsH I (ix3 r t 0)).toInt = _ ∧ (pairsH I (ix3 r t 1)).toInt = _ ↔ _
    rw [pairsH_row, hw _ r.isLt]
    constructor
    · rintro ⟨h1, h2⟩
      have hr : r = n := Fin.ext (by exact_mod_cast h1)
      subst hr
      rw [hpos, hw _ (by omega)] at h2
      exact ⟨rfl, Fin.ext (by exact_mod_cast h2.symm)⟩
    · rintro ⟨rfl, h2⟩
      rw [hpos, hw _ (by omega), h2]
      exact ⟨rfl, rfl⟩
  have two : ∀ k : S32x2.Idx, ∃ (r : Fin 32) (t : Fin 2), k = ix2 r t := fun k => ⟨k 0, k 1, by funext q; fin_cases q <;> rfl⟩
  by_cases hb' : e = b
  · rw [if_pos hb']
    refine Routing.scatter_set_hit _ _ _ _ _ _ ?_ (ix2 n 1) ((lands n 1).2 ⟨rfl, hb'⟩)
    intro k hk
    obtain ⟨r, t, rfl⟩ := two k
    obtain ⟨rfl, h2⟩ := (lands r t).1 hk
    by_cases ht : t = 0
    · rw [if_pos ht] at h2; exact absurd (hb'.symm.trans h2) hab
    · have : t = 1 := by omega
      rw [this]
  · rw [if_neg hb']
    by_cases ha' : e = a
    · rw [if_pos ha']
      refine Routing.scatter_set_hit _ _ _ _ _ _ ?_ (ix2 n 0) ((lands n 0).2 ⟨rfl, ha'⟩)
      intro k hk
      obtain ⟨r, t, rfl⟩ := two k
      obtain ⟨rfl, h2⟩ := (lands r t).1 hk
      by_cases ht : t = 0
      · rw [ht]
      · rw [if_neg ht] at h2; exact absurd h2 hb'
    · rw [if_neg ha', ← hZ (ix2 n e)]
      refine Routing.scatter_set_miss _ _ _ _ _ ?_
      intro k hk
      obtain ⟨r, t, rfl⟩ := two k
      obtain ⟨rfl, h2⟩ := (lands r t).1 hk
      by_cases ht : t = 0
      · rw [if_pos ht] at h2; exact ha' h2
      · rw [if_neg ht] at h2; exact hb' h2

/-- The scores of an image's features. -/
def scores (f : Fin 64 → EReal) (gw : Vec Ideal S16x64 .f32) (gb : Vec Ideal S16 .f32) : Fin 16 → EReal := fun k => (∑ c, f c * gw (ix2 k c)) + gb (ix1 k)

/-- One expert's output at one position. -/
def expert (f : Fin 64 → EReal) (ew : Vec Ideal S16x1024x64 .f32) (eb : Vec Ideal S16x1024 .f32) (q : Fin 1024) : Fin 16 → EReal := fun e => (∑ c, ew (ix3 e q c) * f c) + eb (ix2 e q)

/-- The head of the reference: scores, probabilities, the two most probable experts, the weighted sum. -/
def headOf (f : Fin 64 → EReal) (gw : Vec Ideal S16x64 .f32) (gb : Vec Ideal S16 .f32) (ew : Vec Ideal S16x1024x64 .f32) (eb : Vec Ideal S16x1024 .f32) (q : Fin 1024) : EReal :=
  let p := probs (scores f gw gb)
  let a := sortedFrom (fun a b => decide (p b < p a)) 0
  let b := sortedFrom (fun a b => decide (p b < p a)) 1
  ∑ e, expert f ew eb q e * gateSet small a b (p a) (p b) e

variable (x0 : Vec Ideal S32x3x224x224 .f32) (x1 : Vec Ideal S64x3x7x7 .f32) (x2 : Vec Ideal S4x64 .f32) (x3 : Vec Ideal S64x64x3x3 .f32) (x4 : Vec Ideal S4x64 .f32)
  (x5 : Vec Ideal S64x64x3x3 .f32) (x6 : Vec Ideal S4x64 .f32) (x7 : Vec Ideal S64x64x3x3 .f32) (x8 : Vec Ideal S4x64 .f32) (x9 : Vec Ideal S64x64x3x3 .f32) (x10 : Vec Ideal S4x64 .f32)
  (x11 : Vec Ideal S16x64 .f32) (x12 : Vec Ideal S16 .f32) (x13 : Vec Ideal S16x1024x64 .f32) (x14 : Vec Ideal S16x1024 .f32)

/-- The scores the program works out. -/
theorem v641_row (n : Fin 32) : rowAt (val_main_v641 (F := Ideal) x0 x1 x2 x3 x4 x5 x6 x7 x8 x9 x10 x11 x12) n
    = scores (fun c => val_main_v636 (F := Ideal) x0 x1 x2 x3 x4 x5 x6 x7 x8 x9 x10 (ix2 n c)) x11 x12 := by
  funext k
  unfold rowAt scores val_main_v641 val_main_v640 val_main_v639 val_main_v638 val_main_v637
  generalize val_main_v636 (F := Ideal) x0 x1 x2 x3 x4 x5 x6 x7 x8 x9 x10 = f
  pointwise []

/-- The probabilities the program works out. -/
theorem v652_eq : val_main_v652 (F := Ideal) x0 x1 x2 x3 x4 x5 x6 x7 x8 x9 x10 x11 x12 = softH (val_main_v641 (F := Ideal) x0 x1 x2 x3 x4 x5 x6 x7 x8 x9 x10 x11 x12) := rfl

/-- The shares the program works out. -/
theorem v658_eq : val_main_v658 (F := Ideal) x0 x1 x2 x3 x4 x5 x6 x7 x8 x9 x10 x11 x12 = shareH (val_main_values (F := Ideal) x0 x1 x2 x3 x4 x5 x6 x7 x8 x9 x10 x11 x12) := rfl

/-- The pairs the program works out. -/
theorem v675_eq : val_main_v675 (F := Ideal) x0 x1 x2 x3 x4 x5 x6 x7 x8 x9 x10 x11 x12 = pairsH (val_main_indices (F := Ideal) x0 x1 x2 x3 x4 x5 x6 x7 x8 x9 x10 x11 x12) := rfl

/-- The gates the program works out. -/
theorem v676_apply (n : Fin 32) (e : Fin 16) : val_main_v676 (F := Ideal) x0 x1 x2 x3 x4 x5 x6 x7 x8 x9 x10 x11 x12 (ix2 n e)
    = (let p := rowAt (val_main_v652 (F := Ideal) x0 x1 x2 x3 x4 x5 x6 x7 x8 x9 x10 x11 x12) n
       let a := sortedFrom (fun a b => decide (p b < p a)) 0
       let b := sortedFrom (fun a b => decide (p b < p a)) 1
       gateSet small a b (p a) (p b) e) := by
  unfold val_main_v676
  rw [v675_eq, v658_eq]
  unfold val_main_values val_main_indices
  generalize val_main_v652 (F := Ideal) x0 x1 x2 x3 x4 x5 x6 x7 x8 x9 x10 x11 x12 = P
  have hz : ∀ i, val_main_v659 (F := Ideal) i = (0 : EReal) := by
    intro i
    show Ideal.ofBits .f32 0x00000000#32 = 0
    simp [Ideal.ofBits, Ideal.ieee]
  rw [scatter_apply _ hz _ _ n (place P n 0) (place P n 1) (two_sorted (rowAt P n)).2.1 (topK_idx P n 0) (topK_idx P n 1), shareH_apply, shareH_apply, topK_val, topK_val]
  rfl

/-- The result the program works out. -/
theorem v682_apply (n : Fin 32) (q : Fin 1024) : val_main_v682 (F := Ideal) x0 x1 x2 x3 x4 x5 x6 x7 x8 x9 x10 x11 x12 x13 x14 (ix2 n q)
    = headOf (featOf (imgAt x0 n) x1 x3 x5 x7 x9 (normOf x2) (normOf x4) (normOf x6) (normOf x8) (normOf x10)) x11 x12 x13 x14 q := by
  have hf : (fun c => val_main_v636 (F := Ideal) x0 x1 x2 x3 x4 x5 x6 x7 x8 x9 x10 (ix2 n c)) = featOf (imgAt x0 n) x1 x3 x5 x7 x9 (normOf x2) (normOf x4) (normOf x6) (normOf x8) (normOf x10) :=
    funext fun c => v636_apply x0 x1 x2 x3 x4 x5 x6 x7 x8 x9 x10 n c
  have hp : rowAt (val_main_v652 (F := Ideal) x0 x1 x2 x3 x4 x5 x6 x7 x8 x9 x10 x11 x12) n = probs (scores (featOf (imgAt x0 n) x1 x3 x5 x7 x9 (normOf x2) (normOf x4) (normOf x6) (normOf x8) (normOf x10)) x11 x12) := by
    funext k
    rw [v652_eq]
    refine (softH_apply _ n k).trans ?_
    rw [v641_row, hf]
  have hg : ∀ e, val_main_v676 (F := Ideal) x0 x1 x2 x3 x4 x5 x6 x7 x8 x9 x10 x11 x12 (ix2 n e) = _ := v676_apply x0 x1 x2 x3 x4 x5 x6 x7 x8 x9 x10 x11 x12 n
  rw [hp] at hg
  unfold headOf expert
  rw [← hf]
  rw [← hf] at hg
  unfold val_main_v682 val_main_v681 val_main_v680 val_main_v679 val_main_v678 val_main_v677
  generalize val_main_v676 (F := Ideal) x0 x1 x2 x3 x4 x5 x6 x7 x8 x9 x10 x11 x12 = G at hg
  generalize val_main_v636 (F := Ideal) x0 x1 x2 x3 x4 x5 x6 x7 x8 x9 x10 = f at hg
  pointwise []
  simp only [hg]

end Cert.ReferenceIdeal.Net

end
-- ==== Proof.Pre.Norms.lean ====
module

public import proofs.«01_k».proof.Pre_regular_norms
public import Idealize.ShloMosaic.Lib.Pointwise
public import Idealize.ShloMosaic.Lib.Claim

@[expose] public section

/-!
# What the precondition says

Of each table of a normalisation: the gains and the means are finite, and each variance plus the constant is positive.
-/

set_option maxRecDepth 16384

noncomputable section
namespace Cert.Pre_regular_norms.Reading

open Idealize.ShloMosaic Cert.Pre_regular_norms

/-- The side conditions the predicate states. -/
instance facts : Cert.Pre_regular_norms.Facts where
  slices_S4x64_S1x64_0_0 := by decide
  bcast_S_S1x64 := by decide
  slices_S4x64_S1x64_2_0 := by decide
  slices_S4x64_S1x64_3_0 := by decide

/-- A table the predicate accepts in channel `o`. -/
def Regular (p : Vec Ideal S4x64 .f32) : Prop := ∀ o : Fin 64,
  max (p (ix2 0 o)) (-(p (ix2 0 o))) < (⊤ : EReal) ∧ max (p (ix2 2 o)) (-(p (ix2 2 o))) < (⊤ : EReal) ∧ (0 : EReal) < p (ix2 3 o) + FloatOps.ofBits (F := Ideal) .f32 0x3727C5AC#32

/-- One row of a table compared with infinity, as the predicate's operations. -/
def finite (p : Vec Ideal S4x64 .f32) (k : ℕ) (hk : S4x64.Slices ![k, 0] S1x64) : IVec S1x64 1 :=
  cmpf (F := Ideal) (φ := .f32) .olt (Host.absf (F := Ideal) (φ := .f32) (extractStridedSlice S1x64 ![k, 0] p hk))
    (broadcastInDim S1x64 ![] Facts.bcast_S_S1x64 (constant (F := Ideal) S_ .f32 0x7F800000#32))

/-- The variances plus the constant compared with zero. -/
def positive (p : Vec Ideal S4x64 .f32) : IVec S1x64 1 :=
  cmpf (F := Ideal) (φ := .f32) .ogt (addf (F := Ideal) (φ := .f32) (extractStridedSlice S1x64 ![3, 0] p Facts.slices_S4x64_S1x64_3_0)
      (broadcastInDim S1x64 ![] Facts.bcast_S_S1x64 (constant (F := Ideal) S_ .f32 0x3727C5AC#32)))
    (broadcastInDim S1x64 ![] Facts.bcast_S_S1x64 (constant (F := Ideal) S_ .f32 0x00000000#32))

/-- A truth value that is one. -/
theorem of_bool : ∀ b : Bool, BitVec.ofBool b = 1#1 → b = true := by decide

/-- A finiteness test that passes. -/
theorem finite_iff (p : Vec Ideal S4x64 .f32) (k : Fin 4) (hk : S4x64.Slices ![k.val, 0] S1x64) (o : Fin 64) (h : finite p k.val hk (ix2 0 o) = 1#1) :
    max (p (ix2 k o)) (-(p (ix2 k o))) < (⊤ : EReal) := by
  unfold finite at h
  pointwise [] at h
  rw [show Ideal.ofBits FTy.f32 2139095040#32 = (⊤ : EReal) by simp [Ideal.ofBits, Ideal.ieee]] at h
  exact of_decide_eq_true (of_bool _ h)

/-- A variance test that passes. -/
theorem positive_iff (p : Vec Ideal S4x64 .f32) (o : Fin 64) (h : positive p (ix2 0 o) = 1#1) : (0 : EReal) < p (ix2 3 o) + FloatOps.ofBits (F := Ideal) .f32 0x3727C5AC#32 := by
  unfold positive at h
  pointwise [] at h
  exact of_decide_eq_true (of_bool _ h)

/-- A conjunction of two truth values. -/
theorem and_one : ∀ a b : BitVec 1, a &&& b = 1#1 → a = 1#1 ∧ b = 1#1 := by decide

/-- It on vectors at an index. -/
theorem andi_at {s : Shape} (x y : IVec s 1) (i : s.Idx) (h : andi x y i = 1#1) : x i = 1#1 ∧ y i = 1#1 := and_one _ _ h

/-- The predicate's three tests of one table. -/
theorem regular_of (p : Vec Ideal S4x64 .f32) (h : ∀ o : Fin 64, finite p 0 Facts.slices_S4x64_S1x64_0_0 (ix2 0 o) = 1#1 ∧ finite p 2 Facts.slices_S4x64_S1x64_2_0 (ix2 0 o) = 1#1 ∧ positive p (ix2 0 o) = 1#1) :
    Regular p := fun o => ⟨finite_iff p 0 _ o (h o).1, finite_iff p 2 _ o (h o).2.1, positive_iff p o (h o).2.2⟩

/-- The predicate as a conjunction of fifteen tests. -/
theorem fn_eq (x0 : FVec Ideal S32x3x224x224 .f32) (x1 : FVec Ideal S64x3x7x7 .f32) (x2 : FVec Ideal S4x64 .f32) (x3 : FVec Ideal S64x64x3x3 .f32) (x4 : FVec Ideal S4x64 .f32)
    (x5 : FVec Ideal S64x64x3x3 .f32) (x6 : FVec Ideal S4x64 .f32) (x7 : FVec Ideal S64x64x3x3 .f32) (x8 : FVec Ideal S4x64 .f32) (x9 : FVec Ideal S64x64x3x3 .f32) (x10 : FVec Ideal S4x64 .f32)
    (x11 : FVec Ideal S16x64 .f32) (x12 : FVec Ideal S16 .f32) (x13 : FVec Ideal S16x1024x64 .f32) (x14 : FVec Ideal S16x1024 .f32) :
    fn (F := Ideal) x0 x1 x2 x3 x4 x5 x6 x7 x8 x9 x10 x11 x12 x13 x14
      = andi (andi (andi (andi (andi (andi (andi (andi (andi (andi (andi (andi (andi (andi
          (finite x2 0 Facts.slices_S4x64_S1x64_0_0) (finite x2 2 Facts.slices_S4x64_S1x64_2_0)) (positive x2))
          (finite x4 0 Facts.slices_S4x64_S1x64_0_0)) (finite x4 2 Facts.slices_S4x64_S1x64_2_0)) (positive x4))
          (finite x6 0 Facts.slices_S4x64_S1x64_0_0)) (finite x6 2 Facts.slices_S4x64_S1x64_2_0)) (positive x6))
          (finite x8 0 Facts.slices_S4x64_S1x64_0_0)) (finite x8 2 Facts.slices_S4x64_S1x64_2_0)) (positive x8))
          (finite x10 0 Facts.slices_S4x64_S1x64_0_0)) (finite x10 2 Facts.slices_S4x64_S1x64_2_0)) (positive x10) := rfl

/-- What the precondition gives. -/
theorem regular (x0 : FVec Ideal S32x3x224x224 .f32) (x1 : FVec Ideal S64x3x7x7 .f32) (x2 : FVec Ideal S4x64 .f32) (x3 : FVec Ideal S64x64x3x3 .f32) (x4 : FVec Ideal S4x64 .f32)
    (x5 : FVec Ideal S64x64x3x3 .f32) (x6 : FVec Ideal S4x64 .f32) (x7 : FVec Ideal S64x64x3x3 .f32) (x8 : FVec Ideal S4x64 .f32) (x9 : FVec Ideal S64x64x3x3 .f32) (x10 : FVec Ideal S4x64 .f32)
    (x11 : FVec Ideal S16x64 .f32) (x12 : FVec Ideal S16 .f32) (x13 : FVec Ideal S16x1024x64 .f32) (x14 : FVec Ideal S16x1024 .f32)
    (h : fn (F := Ideal) x0 x1 x2 x3 x4 x5 x6 x7 x8 x9 x10 x11 x12 x13 x14 = fun _ => 1#1) :
    Regular x2 ∧ Regular x4 ∧ Regular x6 ∧ Regular x8 ∧ Regular x10 := by
  rw [fn_eq] at h
  have hc : ∀ o : Fin 64, _ := fun o : Fin 64 => by
    have g := congrFun h (ix2 0 o)
    obtain ⟨g, e3⟩ := andi_at _ _ _ g
    obtain ⟨g, e2⟩ := andi_at _ _ _ g
    obtain ⟨g, e1⟩ := andi_at _ _ _ g
    obtain ⟨g, d3⟩ := andi_at _ _ _ g
    obtain ⟨g, d2⟩ := andi_at _ _ _ g
    obtain ⟨g, d1⟩ := andi_at _ _ _ g
    obtain ⟨g, c3⟩ := andi_at _ _ _ g
    obtain ⟨g, c2⟩ := andi_at _ _ _ g
    obtain ⟨g, c1⟩ := andi_at _ _ _ g
    obtain ⟨g, b3⟩ := andi_at _ _ _ g
    obtain ⟨g, b2⟩ := andi_at _ _ _ g
    obtain ⟨g, b1⟩ := andi_at _ _ _ g
    obtain ⟨g, a3⟩ := andi_at _ _ _ g
    obtain ⟨a1, a2⟩ := andi_at _ _ _ g
    exact And.intro (And.intro a1 (And.intro a2 a3)) (And.intro (And.intro b1 (And.intro b2 b3)) (And.intro (And.intro c1 (And.intro c2 c3)) (And.intro (And.intro d1 (And.intro d2 d3)) (And.intro e1 (And.intro e2 e3)))))
  exact ⟨regular_of _ fun o => (hc o).1, regular_of _ fun o => (hc o).2.1, regular_of _ fun o => (hc o).2.2.1, regular_of _ fun o => (hc o).2.2.2.1, regular_of _ fun o => (hc o).2.2.2.2⟩

end Cert.Pre_regular_norms.Reading

end
-- ==== Proof.Value.lean ====
module

public import proofs.«01_k».proof.Proof.Kernel.Arrays
public import proofs.«01_k».proof.Proof.Kernel.Bridge
public import proofs.«01_k».proof.Proof.Kernel.Head
public import proofs.«01_k».proof.Proof.Reference.Head
public import proofs.«01_k».proof.Proof.Pre.Norms

@[expose] public section

/-!
# The kernel's result is the reference's

Row by row: the first region leaves the reference's features of each image, and the second turns them into the
reference's head of them.
-/

set_option maxRecDepth 16384

noncomputable section
namespace Cert.KernelIdeal.Result

open Idealize.ShloMosaic Idealize.SL.Sem Cert.Maths
open Cert.KernelIdeal Cert.KernelIdeal.Gen Cert.KernelIdeal.Backbone Cert.KernelIdeal.Operands Cert.KernelIdeal.Host Cert.KernelIdeal.Arrays Cert.KernelIdeal.Bridge
open Cert.Pre_regular_norms.Reading (Regular)
open Cert.ReferenceIdeal.Net (headOf featOf normOf imgAt scores expert small)

variable (m : (ℓ : Loc nD τ sig) → Buf (Elt Ideal) ℓ) (ρ : Dev nD → PrngReg) (c : Dev nD)

/-- Under the precondition a table's prepared factor and offset are its normalisation. -/
theorem fact_normOf (p : Vec Ideal S4x64 .f32) (h : Regular p) : fact p = normOf p := fact_norm p h

/-- The reference's features of image `n`. -/
def feats (n : Fin 32) : Fin 64 → EReal :=
  featOf (imgAt (arg m c main_arg0) n) (arg m c main_arg1) (arg m c main_arg3) (arg m c main_arg5) (arg m c main_arg7) (arg m c main_arg9)
    (normOf (arg m c main_arg2)) (normOf (arg m c main_arg4)) (normOf (arg m c main_arg6)) (normOf (arg m c main_arg8)) (normOf (arg m c main_arg10))

variable (h2 : Regular (arg m c main_arg2)) (h4 : Regular (arg m c main_arg4)) (h6 : Regular (arg m c main_arg6)) (h8 : Regular (arg m c main_arg8)) (h10 : Regular (arg m c main_arg10))

/-- One image's block holds the image's lanes. -/
theorem img_row (x : Vec Ideal S32x3x224x224 .f32) (n : Fin 32) : img (row (depth x) n) = lanes (imgAt x n) := by
  funext l h v
  exact depth_apply x n l h v

include h2 h4 h6 h8 h10

/-- The first region's output. -/
theorem region_features (n : Fin 32) (o : Fin 64) : (W12 m ρ c (Proc.devRef .tc main_v127) : Vec Ideal S32x1x64 .f32) (ix3 n 0 o) = feats m c n o := by
  have e : (W12 m ρ c (Proc.devRef .tc main_v127) : Vec Ideal S32x1x64 .f32) = _ := (W12_arr m ρ c 8).trans (features (V11 m ρ) c)
  rw [e]
  show means (map4 (row (W11 m ρ c (Proc.devRef .tc main_v3)) n) (W11 m ρ c (Proc.devRef .tc main_v114)) (W11 m ρ c (Proc.devRef .tc main_v117)) (W11 m ρ c (Proc.devRef .tc main_v120))
    (W11 m ρ c (Proc.devRef .tc main_v123)) (W11 m ρ c (Proc.devRef .tc main_v126)) (W11 m ρ c (Proc.devRef .tc main_v26)) (W11 m ρ c (Proc.devRef .tc main_v91))) (ix3 0 0 o) = _
  rw [at_x, at_w1, at_w2, at_w3, at_w4, at_w5, at_t1, at_t4]
  refine (features_eq _ _ _ _ _ _ _ _ _ _ _ _ (img_row _ n) o).trans ?_
  rw [fact_normOf _ h2, fact_normOf _ h4, fact_normOf _ h6, fact_normOf _ h8, fact_normOf _ h10]
  rfl

/-- The features as the second region reads them. -/
theorem head_features (n : Fin 32) (o : Fin 64) : (W13 m ρ c (Proc.devRef .tc main_v128) : Vec Ideal S32x64 .f32) (ix2 n o) = feats m c n o := by
  have e : (W13 m ρ c (Proc.devRef .tc main_v128) : Vec Ideal S32x64 .f32) = _ := after11f (W12 m ρ c)
  rw [e]
  exact (feat_apply _ n o).trans (region_features m ρ c h2 h4 h6 h8 h10 n o)

/-- The kernel's result, element by element. -/
theorem value (n : Fin 32) (q : Fin 1024) : ((dat1 (V13 m ρ) c).arrAt 5 cfg1.N : Vec Ideal S32x1024 .f32) (ix2 n q)
    = headOf (feats m c n) (arg m c main_arg11) (arg m c main_arg12) (arg m c main_arg13) (arg m c main_arg14) q := by
  have e : ((dat1 (V13 m ρ) c).arrAt 5 cfg1.N : Vec Ideal S32x1024 .f32) = _ := result (V13 m ρ) c
  have es : Head.score (V13 m ρ c main_v128) (V13 m ρ c main_arg11) (V13 m ρ c main_v132) n = scores (feats m c n) (arg m c main_arg11) (arg m c main_arg12) := by
    funext k
    unfold Head.score scores
    refine congrArg₂ (· + ·) (Finset.sum_congr rfl fun o _ => congrArg₂ (· * ·) (head_features m ρ c h2 h4 h6 h8 h10 n o) (congrFun (at_gw m ρ c) _)) ?_
    exact (congrFun (at_gb m ρ c) _).trans (gateB_apply _ k)
  refine (congrFun e _).trans ((Head.out1_apply _ _ _ _ _ n q _ _ (two_sorted _)).trans ?_)
  rw [es]
  unfold headOf
  refine Finset.sum_congr rfl fun x _ => ?_
  rw [mul_comm]
  refine congrArg (fun z => z * _) ?_
  unfold expert
  refine congrArg₂ (· + ·) (Finset.sum_congr rfl fun o _ => ?_) ?_
  · rw [mul_comm]
    refine congrArg₂ (· * ·) ?_ (head_features m ρ c h2 h4 h6 h8 h10 n o)
    exact (congrFun (at_ew m ρ c) _).trans (flatW_apply _ o x q _ rfl)
  · exact (congrFun (at_eb m ρ c) _).trans (flatB_apply _ x q _ rfl)

end Cert.KernelIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import Idealize.ShloMosaic.Adequacy
public import Idealize.ShloMosaic.Init
public import proofs.«01_k».proof.Proof.Kernel.Run
public import proofs.«01_k».proof.Proof.Value

@[expose] public section

/-!
# The certificate

The frames of the three programs, the passage from the program to its idealization, and the equality of the kernel's
and the reference's results under `regular_norms`. The kernel's result is read in `Proof/Value.lean`, the reference's in
`Proof/Reference`.
-/

set_option maxRecDepth 16384

noncomputable section

namespace Cert.Proof

open Idealize.ShloMosaic Idealize.SL.Sem Idealize.ShloMosaic.StableHlo

/-- The reference declares no semaphore, so its machine has no counter. -/
theorem no_sem {α : Prop} (s : SemLoc Cert.ReferenceIdeal.sig) : α := by
  rcases s with s | s <;> exact absurd (show s.val < 0 from s.isLt) (Nat.not_lt_zero _)

/-- The reference's frame. -/
theorem reference_frame : Cert.quiescent_ReferenceIdeal (hReferenceIdeal := Cert.ReferenceIdeal.Gen.facts) :=
  fun m ρ _ => (θ_run _ _ _).mono (fun _ h => ⟨fun c => (h c).2, funext fun ⟨_, s⟩ => no_sem s⟩) (Cert.ReferenceIdeal.Value.run m ρ)

/-- The precondition, table by table. -/
theorem regular (m : (ℓ : Loc Cert.KernelIdeal.nD Cert.KernelIdeal.τ Cert.KernelIdeal.sig) → Buf (Elt Ideal) ℓ) (h : Cert.Pre_KernelIdeal_regular_norms m) (c : Dev Cert.KernelIdeal.nD) :
    Cert.Pre_regular_norms.Reading.Regular (Cert.KernelIdeal.Host.arg m c Cert.KernelIdeal.main_arg2) ∧ Cert.Pre_regular_norms.Reading.Regular (Cert.KernelIdeal.Host.arg m c Cert.KernelIdeal.main_arg4)
      ∧ Cert.Pre_regular_norms.Reading.Regular (Cert.KernelIdeal.Host.arg m c Cert.KernelIdeal.main_arg6) ∧ Cert.Pre_regular_norms.Reading.Regular (Cert.KernelIdeal.Host.arg m c Cert.KernelIdeal.main_arg8)
      ∧ Cert.Pre_regular_norms.Reading.Regular (Cert.KernelIdeal.Host.arg m c Cert.KernelIdeal.main_arg10) :=
  Cert.Pre_regular_norms.Reading.regular _ _ _ _ _ _ _ _ _ _ _ _ _ _ _ (h c)

/-- The two programs' results are equal. -/
theorem algebraic : Cert.algebraic_KernelIdeal_ReferenceIdeal_pre_regular_norms (hKernelIdeal := Cert.KernelIdeal.Gen.facts) (hReferenceIdeal := Cert.ReferenceIdeal.Gen.facts)
    (hPre_regular_norms := Cert.Pre_regular_norms.Reading.facts) := by
  intro m ρ m' ρ' hpre hargs
  refine ⟨fun c => (Cert.KernelIdeal.Gen.dat1 (Cert.KernelIdeal.Gen.V13 m ρ) c).arrAt 5 Cert.KernelIdeal.cfg1.N, Cert.KernelIdeal.Result.run m ρ, ?_⟩
  refine (θ_run _ _ _).mono (fun r h c => ⟨?_, (h c).2⟩) (Cert.ReferenceIdeal.Value.run m' ρ')
  refine (h c).1.trans ((Cert.ReferenceIdeal.Read.val_main_v682_eq (launchContents m' c)).trans ?_)
  obtain ⟨e0, e1, e2, e3, e4, e5, e6, e7, e8, e9, e10, e11, e12, e13, e14⟩ := hargs c
  rw [show launchContents m' c (Proc.devRef .tc Cert.ReferenceIdeal.main_arg0) = _ from e0, show launchContents m' c (Proc.devRef .tc Cert.ReferenceIdeal.main_arg1) = _ from e1, show launchContents m' c (Proc.devRef .tc Cert.ReferenceIdeal.main_arg2) = _ from e2,
    show launchContents m' c (Proc.devRef .tc Cert.ReferenceIdeal.main_arg3) = _ from e3, show launchContents m' c (Proc.devRef .tc Cert.ReferenceIdeal.main_arg4) = _ from e4, show launchContents m' c (Proc.devRef .tc Cert.ReferenceIdeal.main_arg5) = _ from e5,
    show launchContents m' c (Proc.devRef .tc Cert.ReferenceIdeal.main_arg6) = _ from e6, show launchContents m' c (Proc.devRef .tc Cert.ReferenceIdeal.main_arg7) = _ from e7, show launchContents m' c (Proc.devRef .tc Cert.ReferenceIdeal.main_arg8) = _ from e8,
    show launchContents m' c (Proc.devRef .tc Cert.ReferenceIdeal.main_arg9) = _ from e9, show launchContents m' c (Proc.devRef .tc Cert.ReferenceIdeal.main_arg10) = _ from e10, show launchContents m' c (Proc.devRef .tc Cert.ReferenceIdeal.main_arg11) = _ from e11,
    show launchContents m' c (Proc.devRef .tc Cert.ReferenceIdeal.main_arg12) = _ from e12, show launchContents m' c (Proc.devRef .tc Cert.ReferenceIdeal.main_arg13) = _ from e13, show launchContents m' c (Proc.devRef .tc Cert.ReferenceIdeal.main_arg14) = _ from e14]
  obtain ⟨h2, h4, h6, h8, h10⟩ := regular m hpre c
  refine funext fun j => ?_
  obtain ⟨n, q, rfl⟩ : ∃ (n : Fin 32) (q : Fin 1024), j = ix2 n q := ⟨j 0, j 1, (ix2_eta j).symm⟩
  exact (Cert.ReferenceIdeal.Net.v682_apply _ _ _ _ _ _ _ _ _ _ _ _ _ _ _ n q).trans (Cert.KernelIdeal.Result.value m ρ c h2 h4 h6 h8 h10 n q).symm

/-- The certificate. -/
theorem claim : Cert.Claim := ⟨Cert.Kernel.Gen.facts, Cert.KernelIdeal.Gen.facts, Cert.ReferenceIdeal.Gen.facts, Cert.Pre_regular_norms.Reading.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "inv_hw" .f32 0x39A72F05#32 _ rfl,
  algebraic⟩

end Cert.Proof

end
